-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInRefIdeal (m : (ℓ : Loc Cert.AttnInRefIdeal.nD Cert.AttnInRefIdeal.τ Cert.AttnInRefIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInRefIdeal (m : (ℓ : Loc Cert.GdnInRefIdeal.nD Cert.GdnInRefIdeal.τ Cert.GdnInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4)
      ∧ r.2.mem ((c.tc : Thread Cert.AttnOut.nD Cert.AttnOut.τ).loc Cert.AttnOut.main_arg5) = m ((c.tc : Thread Cert.AttnOut.nD Cert.AttnOut.τ).loc Cert.AttnOut.main_arg5)
      ∧ r.2.mem ((c.tc : Thread Cert.AttnOut.nD Cert.AttnOut.τ).loc Cert.AttnOut.main_arg6) = m ((c.tc : Thread Cert.AttnOut.nD Cert.AttnOut.τ).loc Cert.AttnOut.main_arg6))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
      ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5)
      ∧ r.2.mem ((c.tc : Thread Cert.AttnOutIdeal.nD Cert.AttnOutIdeal.τ).loc Cert.AttnOutIdeal.main_arg6) = m ((c.tc : Thread Cert.AttnOutIdeal.nD Cert.AttnOutIdeal.τ).loc Cert.AttnOutIdeal.main_arg6))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4)
      ∧ r.2.mem ((c.tc : Thread Cert.AttnOutRefIdeal.nD Cert.AttnOutRefIdeal.τ).loc Cert.AttnOutRefIdeal.main_arg5) = m ((c.tc : Thread Cert.AttnOutRefIdeal.nD Cert.AttnOutRefIdeal.τ).loc Cert.AttnOutRefIdeal.main_arg5)
      ∧ r.2.mem ((c.tc : Thread Cert.AttnOutRefIdeal.nD Cert.AttnOutRefIdeal.τ).loc Cert.AttnOutRefIdeal.main_arg6) = m ((c.tc : Thread Cert.AttnOutRefIdeal.nD Cert.AttnOutRefIdeal.τ).loc Cert.AttnOutRefIdeal.main_arg6))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1)
      ∧ r.2.mem ((c.tc : Thread Cert.AttnIn.nD Cert.AttnIn.τ).loc Cert.AttnIn.main_arg2) = m ((c.tc : Thread Cert.AttnIn.nD Cert.AttnIn.τ).loc Cert.AttnIn.main_arg2)
      ∧ r.2.mem ((c.tc : Thread Cert.AttnIn.nD Cert.AttnIn.τ).loc Cert.AttnIn.main_arg3) = m ((c.tc : Thread Cert.AttnIn.nD Cert.AttnIn.τ).loc Cert.AttnIn.main_arg3))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
      ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
      ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3))
      ∧ r.2.sem = fun _ => 0)

def quiescent_AttnInRefIdeal [hAttnInRefIdeal : Cert.AttnInRefIdeal.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1)
      ∧ r.2.mem ((c.tc : Thread Cert.AttnInRefIdeal.nD Cert.AttnInRefIdeal.τ).loc Cert.AttnInRefIdeal.main_arg2) = m ((c.tc : Thread Cert.AttnInRefIdeal.nD Cert.AttnInRefIdeal.τ).loc Cert.AttnInRefIdeal.main_arg2)
      ∧ r.2.mem ((c.tc : Thread Cert.AttnInRefIdeal.nD Cert.AttnInRefIdeal.τ).loc Cert.AttnInRefIdeal.main_arg3) = m ((c.tc : Thread Cert.AttnInRefIdeal.nD Cert.AttnInRefIdeal.τ).loc Cert.AttnInRefIdeal.main_arg3))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1)
      ∧ r.2.mem ((c.tc : Thread Cert.GdnIn.nD Cert.GdnIn.τ).loc Cert.GdnIn.main_arg2) = m ((c.tc : Thread Cert.GdnIn.nD Cert.GdnIn.τ).loc Cert.GdnIn.main_arg2)
      ∧ r.2.mem ((c.tc : Thread Cert.GdnIn.nD Cert.GdnIn.τ).loc Cert.GdnIn.main_arg3) = m ((c.tc : Thread Cert.GdnIn.nD Cert.GdnIn.τ).loc Cert.GdnIn.main_arg3)
      ∧ r.2.mem ((c.tc : Thread Cert.GdnIn.nD Cert.GdnIn.τ).loc Cert.GdnIn.main_arg4) = m ((c.tc : Thread Cert.GdnIn.nD Cert.GdnIn.τ).loc Cert.GdnIn.main_arg4)
      ∧ r.2.mem ((c.tc : Thread Cert.GdnIn.nD Cert.GdnIn.τ).loc Cert.GdnIn.main_arg5) = m ((c.tc : Thread Cert.GdnIn.nD Cert.GdnIn.τ).loc Cert.GdnIn.main_arg5))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
      ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2)
      ∧ r.2.mem ((c.tc : Thread Cert.GdnInIdeal.nD Cert.GdnInIdeal.τ).loc Cert.GdnInIdeal.main_arg3) = m ((c.tc : Thread Cert.GdnInIdeal.nD Cert.GdnInIdeal.τ).loc Cert.GdnInIdeal.main_arg3)
      ∧ r.2.mem ((c.tc : Thread Cert.GdnInIdeal.nD Cert.GdnInIdeal.τ).loc Cert.GdnInIdeal.main_arg4) = m ((c.tc : Thread Cert.GdnInIdeal.nD Cert.GdnInIdeal.τ).loc Cert.GdnInIdeal.main_arg4)
      ∧ r.2.mem ((c.tc : Thread Cert.GdnInIdeal.nD Cert.GdnInIdeal.τ).loc Cert.GdnInIdeal.main_arg5) = m ((c.tc : Thread Cert.GdnInIdeal.nD Cert.GdnInIdeal.τ).loc Cert.GdnInIdeal.main_arg5))
      ∧ r.2.sem = fun _ => 0)

def quiescent_GdnInRefIdeal [hGdnInRefIdeal : Cert.GdnInRefIdeal.Facts] : Prop :=
  ∀ (m : (ℓ : Loc Cert.GdnInRefIdeal.nD Cert.GdnInRefIdeal.τ Cert.GdnInRefIdeal.sig) → Buf (Elt Ideal) ℓ) (g : Dev Cert.GdnInRefIdeal.nD → PrngReg), Pre_GdnInRefIdeal m →
    θ_run (Cert.GdnInRefIdeal.defs (F := Ideal)) (onTc (τ := Cert.GdnInRefIdeal.τ) (Cert.GdnInRefIdeal.main (F := Ideal))) ⟨m, fun _ => 0, g⟩ (fun r => (∀ c : Dev Cert.GdnInRefIdeal.nD,
      r.2.mem ((c.tc : Thread Cert.GdnInRefIdeal.nD Cert.GdnInRefIdeal.τ).loc Cert.GdnInRefIdeal.main_arg0) = m ((c.tc : Thread Cert.GdnInRefIdeal.nD Cert.GdnInRefIdeal.τ).loc Cert.GdnInRefIdeal.main_arg0)
      ∧ r.2.mem ((c.tc : Thread Cert.GdnInRefIdeal.nD Cert.GdnInRefIdeal.τ).loc Cert.GdnInRefIdeal.main_arg1) = m ((c.tc : Thread Cert.GdnInRefIdeal.nD Cert.GdnInRefIdeal.τ).loc Cert.GdnInRefIdeal.main_arg1)
      ∧ r.2.mem ((c.tc : Thread Cert.GdnInRefIdeal.nD Cert.GdnInRefIdeal.τ).loc Cert.GdnInRefIdeal.main_arg2) = m ((c.tc : Thread Cert.GdnInRefIdeal.nD Cert.GdnInRefIdeal.τ).loc Cert.GdnInRefIdeal.main_arg2)
      ∧ r.2.mem ((c.tc : Thread Cert.GdnInRefIdeal.nD Cert.GdnInRefIdeal.τ).loc Cert.GdnInRefIdeal.main_arg3) = m ((c.tc : Thread Cert.GdnInRefIdeal.nD Cert.GdnInRefIdeal.τ).loc Cert.GdnInRefIdeal.main_arg3)
      ∧ r.2.mem ((c.tc : Thread Cert.GdnInRefIdeal.nD Cert.GdnInRefIdeal.τ).loc Cert.GdnInRefIdeal.main_arg4) = m ((c.tc : Thread Cert.GdnInRefIdeal.nD Cert.GdnInRefIdeal.τ).loc Cert.GdnInRefIdeal.main_arg4)
      ∧ r.2.mem ((c.tc : Thread Cert.GdnInRefIdeal.nD Cert.GdnInRefIdeal.τ).loc Cert.GdnInRefIdeal.main_arg5) = m ((c.tc : Thread Cert.GdnInRefIdeal.nD Cert.GdnInRefIdeal.τ).loc Cert.GdnInRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)) →
    ∃ (v0 : (c : Dev Cert.PromptIdeal.nD) → Buf (Elt Ideal) ((c.tc : Thread Cert.PromptIdeal.nD Cert.PromptIdeal.τ).loc Cert.PromptIdeal.main_v3)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v3) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v54) = v0 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)) →
    ∃ (v0 : (c : Dev Cert.SampleIdeal.nD) → Buf (Elt Ideal) ((c.tc : Thread Cert.SampleIdeal.nD Cert.SampleIdeal.τ).loc Cert.SampleIdeal.main_v3)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v3) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v54) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)
      ∧ m' ((c.tc : Thread Cert.AttnOutRefIdeal.nD Cert.AttnOutRefIdeal.τ).loc Cert.AttnOutRefIdeal.main_arg4) = m ((c.tc : Thread Cert.AttnOutIdeal.nD Cert.AttnOutIdeal.τ).loc Cert.AttnOutIdeal.main_arg4)
      ∧ m' ((c.tc : Thread Cert.AttnOutRefIdeal.nD Cert.AttnOutRefIdeal.τ).loc Cert.AttnOutRefIdeal.main_arg5) = m ((c.tc : Thread Cert.AttnOutIdeal.nD Cert.AttnOutIdeal.τ).loc Cert.AttnOutIdeal.main_arg5)
      ∧ m' ((c.tc : Thread Cert.AttnOutRefIdeal.nD Cert.AttnOutRefIdeal.τ).loc Cert.AttnOutRefIdeal.main_arg6) = m ((c.tc : Thread Cert.AttnOutIdeal.nD Cert.AttnOutIdeal.τ).loc Cert.AttnOutIdeal.main_arg6)) →
    ∃ (v0 : (c : Dev Cert.AttnOutIdeal.nD) → Buf (Elt Ideal) ((c.tc : Thread Cert.AttnOutIdeal.nD Cert.AttnOutIdeal.τ).loc Cert.AttnOutIdeal.main_v3)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v3) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
          ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5)
          ∧ r.2.mem ((c.tc : Thread Cert.AttnOutIdeal.nD Cert.AttnOutIdeal.τ).loc Cert.AttnOutIdeal.main_arg6) = m ((c.tc : Thread Cert.AttnOutIdeal.nD Cert.AttnOutIdeal.τ).loc Cert.AttnOutIdeal.main_arg6))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v53) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3)
          ∧ r.2.mem ((c.tc : Thread Cert.AttnOutRefIdeal.nD Cert.AttnOutRefIdeal.τ).loc Cert.AttnOutRefIdeal.main_arg4) = m' ((c.tc : Thread Cert.AttnOutRefIdeal.nD Cert.AttnOutRefIdeal.τ).loc Cert.AttnOutRefIdeal.main_arg4)
          ∧ r.2.mem ((c.tc : Thread Cert.AttnOutRefIdeal.nD Cert.AttnOutRefIdeal.τ).loc Cert.AttnOutRefIdeal.main_arg5) = m' ((c.tc : Thread Cert.AttnOutRefIdeal.nD Cert.AttnOutRefIdeal.τ).loc Cert.AttnOutRefIdeal.main_arg5)
          ∧ r.2.mem ((c.tc : Thread Cert.AttnOutRefIdeal.nD Cert.AttnOutRefIdeal.τ).loc Cert.AttnOutRefIdeal.main_arg6) = m' ((c.tc : Thread Cert.AttnOutRefIdeal.nD Cert.AttnOutRefIdeal.τ).loc Cert.AttnOutRefIdeal.main_arg6))

def preserves_AttnIn_AttnInIdeal : Prop :=
  True

def algebraic_AttnInIdeal_AttnInRefIdeal [hAttnInIdeal : Cert.AttnInIdeal.Facts] [hAttnInRefIdeal : Cert.AttnInRefIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInRefIdeal.nD Cert.AttnInRefIdeal.τ Cert.AttnInRefIdeal.sig) → Buf (Elt Ideal) ℓ) (g' : Dev Cert.AttnInRefIdeal.nD → PrngReg), Pre_AttnInIdeal m →
    (∀ c : Dev Cert.AttnInIdeal.nD,
      m' ((c.tc : Thread Cert.AttnInRefIdeal.nD Cert.AttnInRefIdeal.τ).loc Cert.AttnInRefIdeal.main_arg0) = m ((c.tc : Thread Cert.AttnInIdeal.nD Cert.AttnInIdeal.τ).loc Cert.AttnInIdeal.main_arg0)
      ∧ m' ((c.tc : Thread Cert.AttnInRefIdeal.nD Cert.AttnInRefIdeal.τ).loc Cert.AttnInRefIdeal.main_arg1) = m ((c.tc : Thread Cert.AttnInIdeal.nD Cert.AttnInIdeal.τ).loc Cert.AttnInIdeal.main_arg1)
      ∧ m' ((c.tc : Thread Cert.AttnInRefIdeal.nD Cert.AttnInRefIdeal.τ).loc Cert.AttnInRefIdeal.main_arg2) = m ((c.tc : Thread Cert.AttnInIdeal.nD Cert.AttnInIdeal.τ).loc Cert.AttnInIdeal.main_arg2)
      ∧ m' ((c.tc : Thread Cert.AttnInRefIdeal.nD Cert.AttnInRefIdeal.τ).loc Cert.AttnInRefIdeal.main_arg3) = m ((c.tc : Thread Cert.AttnInIdeal.nD Cert.AttnInIdeal.τ).loc Cert.AttnInIdeal.main_arg3)) →
    ∃ (v0 : (c : Dev Cert.AttnInIdeal.nD) → Buf (Elt Ideal) ((c.tc : Thread Cert.AttnInIdeal.nD Cert.AttnInIdeal.τ).loc Cert.AttnInIdeal.main_v19_0)) (v1 : (c : Dev Cert.AttnInIdeal.nD) → Buf (Elt Ideal) ((c.tc : Thread Cert.AttnInIdeal.nD Cert.AttnInIdeal.τ).loc Cert.AttnInIdeal.main_v19_1)) (v2 : (c : Dev Cert.AttnInIdeal.nD) → Buf (Elt Ideal) ((c.tc : Thread Cert.AttnInIdeal.nD Cert.AttnInIdeal.τ).loc Cert.AttnInIdeal.main_v19_2)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v19_0) = v0 c
          ∧ r.2.mem ((c.tc : Thread Cert.AttnInIdeal.nD Cert.AttnInIdeal.τ).loc Cert.AttnInIdeal.main_v19_1) = v1 c
          ∧ r.2.mem ((c.tc : Thread Cert.AttnInIdeal.nD Cert.AttnInIdeal.τ).loc Cert.AttnInIdeal.main_v19_2) = v2 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
          ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
          ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3))
      ∧ θ_run (Cert.AttnInRefIdeal.defs (F := Ideal)) (onTc (τ := Cert.AttnInRefIdeal.τ) (Cert.AttnInRefIdeal.main (F := Ideal))) ⟨m', fun _ => 0, g'⟩ (fun r => ∀ c : Dev Cert.AttnInRefIdeal.nD,
          r.2.mem ((c.tc : Thread Cert.AttnInRefIdeal.nD Cert.AttnInRefIdeal.τ).loc Cert.AttnInRefIdeal.main_v91) = v0 c
          ∧ r.2.mem ((c.tc : Thread Cert.AttnInRefIdeal.nD Cert.AttnInRefIdeal.τ).loc Cert.AttnInRefIdeal.main_v93) = v1 c
          ∧ r.2.mem ((c.tc : Thread Cert.AttnInRefIdeal.nD Cert.AttnInRefIdeal.τ).loc Cert.AttnInRefIdeal.main_v95) = v2 c
          ∧ r.2.mem ((c.tc : Thread Cert.AttnInRefIdeal.nD Cert.AttnInRefIdeal.τ).loc Cert.AttnInRefIdeal.main_arg0) = m' ((c.tc : Thread Cert.AttnInRefIdeal.nD Cert.AttnInRefIdeal.τ).loc Cert.AttnInRefIdeal.main_arg0)
          ∧ r.2.mem ((c.tc : Thread Cert.AttnInRefIdeal.nD Cert.AttnInRefIdeal.τ).loc Cert.AttnInRefIdeal.main_arg1) = m' ((c.tc : Thread Cert.AttnInRefIdeal.nD Cert.AttnInRefIdeal.τ).loc Cert.AttnInRefIdeal.main_arg1)
          ∧ r.2.mem ((c.tc : Thread Cert.AttnInRefIdeal.nD Cert.AttnInRefIdeal.τ).loc Cert.AttnInRefIdeal.main_arg2) = m' ((c.tc : Thread Cert.AttnInRefIdeal.nD Cert.AttnInRefIdeal.τ).loc Cert.AttnInRefIdeal.main_arg2)
          ∧ r.2.mem ((c.tc : Thread Cert.AttnInRefIdeal.nD Cert.AttnInRefIdeal.τ).loc Cert.AttnInRefIdeal.main_arg3) = m' ((c.tc : Thread Cert.AttnInRefIdeal.nD Cert.AttnInRefIdeal.τ).loc Cert.AttnInRefIdeal.main_arg3))

def preserves_GdnIn_GdnInIdeal : Prop :=
  True

def algebraic_GdnInIdeal_GdnInRefIdeal [hGdnInIdeal : Cert.GdnInIdeal.Facts] [hGdnInRefIdeal : Cert.GdnInRefIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInRefIdeal.nD Cert.GdnInRefIdeal.τ Cert.GdnInRefIdeal.sig) → Buf (Elt Ideal) ℓ) (g' : Dev Cert.GdnInRefIdeal.nD → PrngReg), Pre_GdnInIdeal m →
    (∀ c : Dev Cert.GdnInIdeal.nD,
      m' ((c.tc : Thread Cert.GdnInRefIdeal.nD Cert.GdnInRefIdeal.τ).loc Cert.GdnInRefIdeal.main_arg0) = m ((c.tc : Thread Cert.GdnInIdeal.nD Cert.GdnInIdeal.τ).loc Cert.GdnInIdeal.main_arg0)
      ∧ m' ((c.tc : Thread Cert.GdnInRefIdeal.nD Cert.GdnInRefIdeal.τ).loc Cert.GdnInRefIdeal.main_arg1) = m ((c.tc : Thread Cert.GdnInIdeal.nD Cert.GdnInIdeal.τ).loc Cert.GdnInIdeal.main_arg1)
      ∧ m' ((c.tc : Thread Cert.GdnInRefIdeal.nD Cert.GdnInRefIdeal.τ).loc Cert.GdnInRefIdeal.main_arg2) = m ((c.tc : Thread Cert.GdnInIdeal.nD Cert.GdnInIdeal.τ).loc Cert.GdnInIdeal.main_arg2)
      ∧ m' ((c.tc : Thread Cert.GdnInRefIdeal.nD Cert.GdnInRefIdeal.τ).loc Cert.GdnInRefIdeal.main_arg3) = m ((c.tc : Thread Cert.GdnInIdeal.nD Cert.GdnInIdeal.τ).loc Cert.GdnInIdeal.main_arg3)
      ∧ m' ((c.tc : Thread Cert.GdnInRefIdeal.nD Cert.GdnInRefIdeal.τ).loc Cert.GdnInRefIdeal.main_arg4) = m ((c.tc : Thread Cert.GdnInIdeal.nD Cert.GdnInIdeal.τ).loc Cert.GdnInIdeal.main_arg4)
      ∧ m' ((c.tc : Thread Cert.GdnInRefIdeal.nD Cert.GdnInRefIdeal.τ).loc Cert.GdnInRefIdeal.main_arg5) = m ((c.tc : Thread Cert.GdnInIdeal.nD Cert.GdnInIdeal.τ).loc Cert.GdnInIdeal.main_arg5)) →
    ∃ (v0 : (c : Dev Cert.GdnInIdeal.nD) → Buf (Elt Ideal) ((c.tc : Thread Cert.GdnInIdeal.nD Cert.GdnInIdeal.τ).loc Cert.GdnInIdeal.main_v59_0)) (v1 : (c : Dev Cert.GdnInIdeal.nD) → Buf (Elt Ideal) ((c.tc : Thread Cert.GdnInIdeal.nD Cert.GdnInIdeal.τ).loc Cert.GdnInIdeal.main_v59_1)) (v2 : (c : Dev Cert.GdnInIdeal.nD) → Buf (Elt Ideal) ((c.tc : Thread Cert.GdnInIdeal.nD Cert.GdnInIdeal.τ).loc Cert.GdnInIdeal.main_v59_2)) (v3 : (c : Dev Cert.GdnInIdeal.nD) → Buf (Elt Ideal) ((c.tc : Thread Cert.GdnInIdeal.nD Cert.GdnInIdeal.τ).loc Cert.GdnInIdeal.main_v59_3)) (v4 : (c : Dev Cert.GdnInIdeal.nD) → Buf (Elt Ideal) ((c.tc : Thread Cert.GdnInIdeal.nD Cert.GdnInIdeal.τ).loc Cert.GdnInIdeal.main_v59_4)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v59_0) = v0 c
          ∧ r.2.mem ((c.tc : Thread Cert.GdnInIdeal.nD Cert.GdnInIdeal.τ).loc Cert.GdnInIdeal.main_v59_1) = v1 c
          ∧ r.2.mem ((c.tc : Thread Cert.GdnInIdeal.nD Cert.GdnInIdeal.τ).loc Cert.GdnInIdeal.main_v59_2) = v2 c
          ∧ r.2.mem ((c.tc : Thread Cert.GdnInIdeal.nD Cert.GdnInIdeal.τ).loc Cert.GdnInIdeal.main_v59_3) = v3 c
          ∧ r.2.mem ((c.tc : Thread Cert.GdnInIdeal.nD Cert.GdnInIdeal.τ).loc Cert.GdnInIdeal.main_v59_4) = v4 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
          ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2)
          ∧ r.2.mem ((c.tc : Thread Cert.GdnInIdeal.nD Cert.GdnInIdeal.τ).loc Cert.GdnInIdeal.main_arg3) = m ((c.tc : Thread Cert.GdnInIdeal.nD Cert.GdnInIdeal.τ).loc Cert.GdnInIdeal.main_arg3)
          ∧ r.2.mem ((c.tc : Thread Cert.GdnInIdeal.nD Cert.GdnInIdeal.τ).loc Cert.GdnInIdeal.main_arg4) = m ((c.tc : Thread Cert.GdnInIdeal.nD Cert.GdnInIdeal.τ).loc Cert.GdnInIdeal.main_arg4)
          ∧ r.2.mem ((c.tc : Thread Cert.GdnInIdeal.nD Cert.GdnInIdeal.τ).loc Cert.GdnInIdeal.main_arg5) = m ((c.tc : Thread Cert.GdnInIdeal.nD Cert.GdnInIdeal.τ).loc Cert.GdnInIdeal.main_arg5))
      ∧ θ_run (Cert.GdnInRefIdeal.defs (F := Ideal)) (onTc (τ := Cert.GdnInRefIdeal.τ) (Cert.GdnInRefIdeal.main (F := Ideal))) ⟨m', fun _ => 0, g'⟩ (fun r => ∀ c : Dev Cert.GdnInRefIdeal.nD,
          r.2.mem ((c.tc : Thread Cert.GdnInRefIdeal.nD Cert.GdnInRefIdeal.τ).loc Cert.GdnInRefIdeal.main_v81) = v0 c
          ∧ r.2.mem ((c.tc : Thread Cert.GdnInRefIdeal.nD Cert.GdnInRefIdeal.τ).loc Cert.GdnInRefIdeal.main_v83) = v1 c
          ∧ r.2.mem ((c.tc : Thread Cert.GdnInRefIdeal.nD Cert.GdnInRefIdeal.τ).loc Cert.GdnInRefIdeal.main_v85) = v2 c
          ∧ r.2.mem ((c.tc : Thread Cert.GdnInRefIdeal.nD Cert.GdnInRefIdeal.τ).loc Cert.GdnInRefIdeal.main_v87) = v3 c
          ∧ r.2.mem ((c.tc : Thread Cert.GdnInRefIdeal.nD Cert.GdnInRefIdeal.τ).loc Cert.GdnInRefIdeal.main_v89) = v4 c
          ∧ r.2.mem ((c.tc : Thread Cert.GdnInRefIdeal.nD Cert.GdnInRefIdeal.τ).loc Cert.GdnInRefIdeal.main_arg0) = m' ((c.tc : Thread Cert.GdnInRefIdeal.nD Cert.GdnInRefIdeal.τ).loc Cert.GdnInRefIdeal.main_arg0)
          ∧ r.2.mem ((c.tc : Thread Cert.GdnInRefIdeal.nD Cert.GdnInRefIdeal.τ).loc Cert.GdnInRefIdeal.main_arg1) = m' ((c.tc : Thread Cert.GdnInRefIdeal.nD Cert.GdnInRefIdeal.τ).loc Cert.GdnInRefIdeal.main_arg1)
          ∧ r.2.mem ((c.tc : Thread Cert.GdnInRefIdeal.nD Cert.GdnInRefIdeal.τ).loc Cert.GdnInRefIdeal.main_arg2) = m' ((c.tc : Thread Cert.GdnInRefIdeal.nD Cert.GdnInRefIdeal.τ).loc Cert.GdnInRefIdeal.main_arg2)
          ∧ r.2.mem ((c.tc : Thread Cert.GdnInRefIdeal.nD Cert.GdnInRefIdeal.τ).loc Cert.GdnInRefIdeal.main_arg3) = m' ((c.tc : Thread Cert.GdnInRefIdeal.nD Cert.GdnInRefIdeal.τ).loc Cert.GdnInRefIdeal.main_arg3)
          ∧ r.2.mem ((c.tc : Thread Cert.GdnInRefIdeal.nD Cert.GdnInRefIdeal.τ).loc Cert.GdnInRefIdeal.main_arg4) = m' ((c.tc : Thread Cert.GdnInRefIdeal.nD Cert.GdnInRefIdeal.τ).loc Cert.GdnInRefIdeal.main_arg4)
          ∧ r.2.mem ((c.tc : Thread Cert.GdnInRefIdeal.nD Cert.GdnInRefIdeal.τ).loc Cert.GdnInRefIdeal.main_arg5) = m' ((c.tc : Thread Cert.GdnInRefIdeal.nD Cert.GdnInRefIdeal.τ).loc Cert.GdnInRefIdeal.main_arg5))

def Claim : Prop :=
  ∃ (hKernel : Cert.Kernel.Facts) (hKernelIdeal : Cert.KernelIdeal.Facts) (hReferenceIdeal : Cert.ReferenceIdeal.Facts) (hPrompt : Cert.Prompt.Facts) (hPromptIdeal : Cert.PromptIdeal.Facts) (hPromptRefIdeal : Cert.PromptRefIdeal.Facts) (hSample : Cert.Sample.Facts) (hSampleIdeal : Cert.SampleIdeal.Facts) (hSampleRefIdeal : Cert.SampleRefIdeal.Facts) (hAttnOut : Cert.AttnOut.Facts) (hAttnOutIdeal : Cert.AttnOutIdeal.Facts) (hAttnOutRefIdeal : Cert.AttnOutRefIdeal.Facts) (hAttnIn : Cert.AttnIn.Facts) (hAttnInIdeal : Cert.AttnInIdeal.Facts) (hAttnInRefIdeal : Cert.AttnInRefIdeal.Facts) (hGdnIn : Cert.GdnIn.Facts) (hGdnInIdeal : Cert.GdnInIdeal.Facts) (hGdnInRefIdeal : Cert.GdnInRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Prompt (hPrompt := hPrompt)
    ∧ quiescent_PromptIdeal (hPromptIdeal := hPromptIdeal)
    ∧ quiescent_PromptRefIdeal (hPromptRefIdeal := hPromptRefIdeal)
    ∧ quiescent_Sample (hSample := hSample)
    ∧ quiescent_SampleIdeal (hSampleIdeal := hSampleIdeal)
    ∧ quiescent_SampleRefIdeal (hSampleRefIdeal := hSampleRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_AttnIn (hAttnIn := hAttnIn)
    ∧ quiescent_AttnInIdeal (hAttnInIdeal := hAttnInIdeal)
    ∧ quiescent_AttnInRefIdeal (hAttnInRefIdeal := hAttnInRefIdeal)
    ∧ quiescent_GdnIn (hGdnIn := hGdnIn)
    ∧ quiescent_GdnInIdeal (hGdnInIdeal := hGdnInIdeal)
    ∧ quiescent_GdnInRefIdeal (hGdnInRefIdeal := hGdnInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Prompt_PromptIdeal
    ∧ algebraic_PromptIdeal_PromptRefIdeal (hPromptIdeal := hPromptIdeal) (hPromptRefIdeal := hPromptRefIdeal)
    ∧ preserves_Sample_SampleIdeal
    ∧ algebraic_SampleIdeal_SampleRefIdeal (hSampleIdeal := hSampleIdeal) (hSampleRefIdeal := hSampleRefIdeal)
    ∧ preserves_AttnOut_AttnOutIdeal
    ∧ algebraic_AttnOutIdeal_AttnOutRefIdeal (hAttnOutIdeal := hAttnOutIdeal) (hAttnOutRefIdeal := hAttnOutRefIdeal)
    ∧ preserves_AttnIn_AttnInIdeal
    ∧ algebraic_AttnInIdeal_AttnInRefIdeal (hAttnInIdeal := hAttnInIdeal) (hAttnInRefIdeal := hAttnInRefIdeal)
    ∧ preserves_GdnIn_GdnInIdeal
    ∧ algebraic_GdnInIdeal_GdnInRefIdeal (hGdnInIdeal := hGdnInIdeal) (hGdnInRefIdeal := hGdnInRefIdeal)
-- ==== Pre_finite.lean ====
abbrev S49152x1024 : Shape := ⟨2, ![49152, 1024]⟩
abbrev S49152x256 : Shape := ⟨2, ![49152, 256]⟩
abbrev S8 : Shape := ⟨1, ![8]⟩
abbrev S_ : Shape := ⟨0, ![]⟩

class Facts : Prop where
  bitsLt_bf16_f32 : FTy.bits .bf16 < FTy.bits .f32
  bcast_S_S49152x1024 : S_.BroadcastsInDim S49152x1024 (![] : Fin 0 → Fin S49152x1024.rank)
  bcast_S_S49152x256 : S_.BroadcastsInDim S49152x256 (![] : Fin 0 → Fin S49152x256.rank)
  bcast_S_S8 : S_.BroadcastsInDim S8 (![] : Fin 0 → Fin S8.rank)

variable [Facts]

def fn {F : FTy → Type} [FloatOps F] (main_arg0 : FVec F S49152x1024 .bf16) (main_arg1 : FVec F S49152x256 .bf16) (main_arg2 : FVec F S49152x256 .bf16) (main_arg3 : FVec F S8 .f32) : IVec S49152x1024 1 × IVec S49152x256 1 × IVec S8 1 :=
  let main_v0 : FVec F S49152x1024 .f32 := (extf .f32 · bitsLt_bf16_f32) main_arg0
  let main_v1 : FVec F S49152x1024 .f32 := Host.absf main_v0
  let main_cst : FVec F S_ .f32 := constant S_ .f32 0x7F800000#32
  let main_v2 : FVec F S49152x1024 .f32 := broadcastInDim S49152x1024 ![] bcast_S_S49152x1024 main_cst
  let main_v3 : IVec S49152x1024 1 := cmpf .olt main_v1 main_v2
  let main_v4 : FVec F S49152x256 .f32 := (extf .f32 · bitsLt_bf16_f32) main_arg1
  let main_v5 : FVec F S49152x256 .f32 := Host.absf main_v4
  let main_cst_0 : FVec F S_ .f32 := constant S_ .f32 0x7F800000#32
  let main_v6 : FVec F S49152x256 .f32 := broadcastInDim S49152x256 ![] bcast_S_S49152x256 main_cst_0
  let main_v7 : IVec S49152x256 1 := cmpf .olt main_v5 main_v6
  let main_v8 : FVec F S8 .f32 := Host.absf main_arg3
  let main_cst_1 : FVec F S_ .f32 := constant S_ .f32 0x7F800000#32
  let main_v9 : FVec F S8 .f32 := broadcastInDim S8 ![] bcast_S_S8 main_cst_1
  let main_v10 : IVec S8 1 := cmpf .olt main_v8 main_v9
  (main_v3, main_v7, main_v10)
-- ==== Kernel.lean ====
abbrev S49152x1024 : Shape := ⟨2, ![49152, 1024]⟩
abbrev S49152x256 : Shape := ⟨2, ![49152, 256]⟩
abbrev S8 : Shape := ⟨1, ![8]⟩
abbrev S2048x1024 : Shape := ⟨2, ![2048, 1024]⟩
abbrev S128x256 : Shape := ⟨2, ![128, 256]⟩
abbrev S2048x256 : Shape := ⟨2, ![2048, 256]⟩
abbrev S2304x256 : Shape := ⟨2, ![2304, 256]⟩
abbrev S512x384 : Shape := ⟨2, ![512, 384]⟩
abbrev S128x128 : Shape := ⟨2, ![128, 128]⟩
abbrev S512x128 : Shape := ⟨2, ![512, 128]⟩
abbrev S1x512x128 : Shape := ⟨3, ![1, 512, 128]⟩
abbrev S2x512x128 : Shape := ⟨3, ![2, 512, 128]⟩
abbrev S384x128 : Shape := ⟨2, ![384, 128]⟩
abbrev S1x384x128 : Shape := ⟨3, ![1, 384, 128]⟩
abbrev S2x384x128 : Shape := ⟨3, ![2, 384, 128]⟩
abbrev S2x512x384 : Shape := ⟨3, ![2, 512, 384]⟩
abbrev S1x512x384 : Shape := ⟨3, ![1, 512, 384]⟩
abbrev S1 : Shape := ⟨1, ![1]⟩
abbrev S128x1 : Shape := ⟨2, ![128, 1]⟩
abbrev S512x1 : Shape := ⟨2, ![512, 1]⟩
abbrev S1x512x1 : Shape := ⟨3, ![1, 512, 1]⟩
abbrev S2x512x1 : Shape := ⟨3, ![2, 512, 1]⟩
abbrev S2x512 : Shape := ⟨2, ![2, 512]⟩
abbrev S1x128x128 : Shape := ⟨3, ![1, 128, 128]⟩

abbrev nBuf : Space → Nat
  | .hbm => 5
  | .vmem => 16
  | .smem => 1
  | _ => 0

abbrev bufTy : (tb : Table) → Fin (tcTables nBuf tb) → BufTy
  | .hbm, ⟨0, _⟩ => ⟨S49152x1024, .bf16⟩
  | .hbm, ⟨1, _⟩ => ⟨S49152x256, .bf16⟩
  | .hbm, ⟨2, _⟩ => ⟨S49152x256, .bf16⟩
  | .hbm, ⟨3, _⟩ => ⟨S8, .f32⟩
  | .hbm, ⟨4, _⟩ => ⟨S49152x1024, .bf16⟩
  | .local _ .vmem, ⟨0, _⟩ => ⟨S2048x1024, .bf16⟩
  | .local _ .vmem, ⟨1, _⟩ => ⟨S2048x1024, .bf16⟩
  | .local _ .vmem, ⟨2, _⟩ => ⟨S128x256, .bf16⟩
  | .local _ .vmem, ⟨3, _⟩ => ⟨S128x256, .bf16⟩
  | .local _ .vmem, ⟨4, _⟩ => ⟨S2048x256, .bf16⟩
  | .local _ .vmem, ⟨5, _⟩ => ⟨S2048x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S2048x256, .bf16⟩
  | .local _ .vmem, ⟨11, _⟩ => ⟨S2048x256, .bf16⟩
  | .local _ .vmem, ⟨12, _⟩ => ⟨S128x256, .bf16⟩
  | .local _ .vmem, ⟨13, _⟩ => ⟨S128x256, .bf16⟩
  | .local _ .vmem, ⟨14, _⟩ => ⟨S2048x1024, .bf16⟩
  | .local _ .vmem, ⟨15, _⟩ => ⟨S2048x1024, .bf16⟩
  | .local _ .smem, ⟨0, _⟩ => ⟨S8, .f32⟩
  | _, _ => ⟨S49152x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![24], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c383_i32 : BitVec 32 := 383#32
  let v2 : BitVec 32 := Scalar.minsi v1 c383_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c383_i32 : BitVec 32 := 383#32
  let v2 : BitVec 32 := Scalar.minsi v1 c383_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S49152x1024 : Shape := ⟨2, ![49152, 1024]⟩
abbrev S49152x256 : Shape := ⟨2, ![49152, 256]⟩
abbrev S8 : Shape := ⟨1, ![8]⟩
abbrev S3x16384x8x128 : Shape := ⟨4, ![3, 16384, 8, 128]⟩
abbrev S3x16384x2x128 : Shape := ⟨4, ![3, 16384, 2, 128]⟩
abbrev S3x128x128x2x4x128 : Shape := ⟨6, ![3, 128, 128, 2, 4, 128]⟩
abbrev S_ : Shape := ⟨0, ![]⟩
abbrev S3x16640x2x128 : Shape := ⟨4, ![3, 16640, 2, 128]⟩
abbrev S3x130x128x2x128 : Shape := ⟨5, ![3, 130, 128, 2, 128]⟩
abbrev S3x128x128x2x128 : Shape := ⟨5, ![3, 128, 128, 2, 128]⟩
abbrev S3x128x384x2x128 : Shape := ⟨5, ![3, 128, 384, 2, 128]⟩
abbrev S3x128x2x384x128x4 : Shape := ⟨6, ![3, 128, 2, 384, 128, 4]⟩
abbrev S3x128x2x4x128x384 : Shape := ⟨6, ![3, 128, 2, 4, 128, 384]⟩
abbrev S16384 : Shape := ⟨1, ![16384]⟩
abbrev S128x128 : Shape := ⟨2, ![128, 128]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S128x128x1 : Shape := ⟨3, ![128, 128, 1]⟩
abbrev S128x1x384 : Shape := ⟨3, ![128, 1, 384]⟩
abbrev S128x128x384 : Shape := ⟨3, ![128, 128, 384]⟩
abbrev S1x128x1x1x128x384 : Shape := ⟨6, ![1, 128, 1, 1, 128, 384]⟩
abbrev S2x4 : Shape := ⟨2, ![2, 4]⟩
abbrev S1x1x2x4x1x1 : Shape := ⟨6, ![1, 1, 2, 4, 1, 1]⟩
abbrev S3x128x2x4x128 : Shape := ⟨5, ![3, 128, 2, 4, 128]⟩
abbrev S3x128x2x4x128x1 : Shape := ⟨6, ![3, 128, 2, 4, 128, 1]⟩
abbrev S3x128x2x128x4x128 : Shape := ⟨6, ![3, 128, 2, 128, 4, 128]⟩

abbrev nBuf : Space → Nat
  | .hbm => 97
  | .vmem => 0
  | .smem => 0
  | _ => 0

abbrev bufTy : (tb : Table) → Fin (tcTables nBuf tb) → BufTy
  | .hbm, ⟨0, _⟩ => ⟨S49152x1024, .bf16⟩
  | .hbm, ⟨1, _⟩ => ⟨S49152x256, .bf16⟩
  | .hbm, ⟨2, _⟩ => ⟨S49152x256, .bf16⟩
  | .hbm, ⟨3, _⟩ => ⟨S8, .f32⟩
  | .hbm, ⟨4, _⟩ => ⟨S49152x1024, .f32⟩
  | .hbm, ⟨5, _⟩ => ⟨S3x16384x8x128, .f32⟩
  | .hbm, ⟨6, _⟩ => ⟨S49152x256, .f32⟩
  | .hbm, ⟨7, _⟩ => ⟨S3x16384x2x128, .f32⟩
  | .hbm, ⟨8, _⟩ => ⟨S49152x256, .f32⟩
  | .hbm, ⟨9, _⟩ => ⟨S3x16384x2x128, .f32⟩
  | .hbm, ⟨10, _⟩ => ⟨S3x128x128x2x4x128, .f32⟩
  | .hbm, ⟨11, _⟩ => ⟨S_, .i32⟩
  | .hbm, ⟨12, _⟩ => ⟨S_, .f32⟩
  | .hbm, ⟨13, _⟩ => ⟨S3x16640x2x128, .f32⟩
  | .hbm, ⟨14, _⟩ => ⟨S3x130x128x2x128, .f32⟩
  | .hbm, ⟨15, _⟩ => ⟨S_, .i32⟩
  | .hbm, ⟨16, _⟩ => ⟨S_, .f32⟩
  | .hbm, ⟨17, _⟩ => ⟨S3x16640x2x128, .f32⟩
  | .hbm, ⟨18, _⟩ => ⟨S3x130x128x2x128, .f32⟩
  | .hbm, ⟨19, _⟩ => ⟨S3x128x128x2x128, .f32⟩
  | .hbm, ⟨20, _⟩ => ⟨S3x128x128x2x128, .f32⟩
  | .hbm, ⟨21, _⟩ => ⟨S3x128x128x2x128, .f32⟩
  | .hbm, ⟨22, _⟩ => ⟨S3x128x384x2x128, .f32⟩
  | .hbm, ⟨23, _⟩ => ⟨S3x128x128x2x128, .f32⟩
  | .hbm, ⟨24, _⟩ => ⟨S3x128x128x2x128, .f32⟩
  | .hbm, ⟨25, _⟩ => ⟨S3x128x128x2x128, .f32⟩
  | .hbm, ⟨26, _⟩ => ⟨S3x128x384x2x128, .f32⟩
  | .hbm, ⟨27, _⟩ => ⟨S3x128x2x384x128x4, .f32⟩
  | .hbm, ⟨28, _⟩ => ⟨S3x128x2x4x128x384, .f32⟩
  | .hbm, ⟨29, _⟩ => ⟨S_, .f32⟩
  | .hbm, ⟨30, _⟩ => ⟨S3x128x2x4x128x384, .f32⟩
  | .hbm, ⟨31, _⟩ => ⟨S3x128x2x4x128x384, .f32⟩
  | .hbm, ⟨32, _⟩ => ⟨S16384, .i32⟩
  | .hbm, ⟨33, _⟩ => ⟨S128x128, .i32⟩
  | .hbm, ⟨34, _⟩ => ⟨S128, .i32⟩
  | .hbm, ⟨35, _⟩ => ⟨S128x1, .i32⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S384, .i32⟩
  | .hbm, ⟨43, _⟩ => ⟨S1x384, .i32⟩
  | .hbm, ⟨44, _⟩ => ⟨S128x384, .i32⟩
  | .hbm, ⟨45, _⟩ => ⟨S128x384, .i32⟩
  | .hbm, ⟨46, _⟩ => ⟨S128x384, .i32⟩
  | .hbm, ⟨47, _⟩ => ⟨S128x128x1, .i32⟩
  | .hbm, ⟨48, _⟩ => ⟨S128x1x384, .i32⟩
  | .hbm, ⟨49, _⟩ => ⟨S128x128x384, .i32⟩
  | .hbm, ⟨50, _⟩ => ⟨S128x128x384, .i32⟩
  | .hbm, ⟨51, _⟩ => ⟨S128x128x384, .i32⟩
  | .hbm, ⟨52, _⟩ => ⟨S128x128x384, .i32⟩
  | .hbm, ⟨53, _⟩ => ⟨S_, .i32⟩
  | .hbm, ⟨54, _⟩ => ⟨S128x128x384, .i32⟩
  | .hbm, ⟨55, _⟩ => ⟨S128x128x384, .i1⟩
  | .hbm, ⟨56, _⟩ => ⟨S128x1x384, .i32⟩
  | .hbm, ⟨57, _⟩ => ⟨S_, .i32⟩
  | .hbm, ⟨58, _⟩ => ⟨S128x1x384, .i32⟩
  | .hbm, ⟨59, _⟩ => ⟨S128x1x384, .i1⟩
  | .hbm, ⟨60, _⟩ => ⟨S128x128x384, .i1⟩
  | .hbm, ⟨61, _⟩ => ⟨S128x128x384, .i1⟩
  | .hbm, ⟨62, _⟩ => ⟨S128x1x384, .i32⟩
  | .hbm, ⟨63, _⟩ => ⟨S_, .i32⟩
  | .hbm, ⟨64, _⟩ => ⟨S128x1x384, .i32⟩
  | .hbm, ⟨65, _⟩ => ⟨S128x1x384, .i1⟩
  | .hbm, ⟨66, _⟩ => ⟨S128x128x384, .i1⟩
  | .hbm, ⟨67, _⟩ => ⟨S128x128x384, .i1⟩
  | .hbm, ⟨68, _⟩ => ⟨S1x128x1x1x128x384, .i1⟩
  | .hbm, ⟨69, _⟩ => ⟨S_, .f32⟩
  | .hbm, ⟨70, _⟩ => ⟨S_, .f32⟩
  | .hbm, ⟨71, _⟩ => ⟨S3x128x2x4x128x384, .i1⟩
  | .hbm, ⟨72, _⟩ => ⟨S3x128x2x4x128x384, .f32⟩
  | .hbm, ⟨73, _⟩ => ⟨S3x128x2x4x128x384, .f32⟩
  | .hbm, ⟨74, _⟩ => ⟨S2x4, .f32⟩
  | .hbm, ⟨75, _⟩ => ⟨S1x1x2x4x1x1, .f32⟩
  | .hbm, ⟨76, _⟩ => ⟨S_, .f32⟩
  | .hbm, ⟨77, _⟩ => ⟨S3x128x2x4x128, .f32⟩
  | .hbm, ⟨78, _⟩ => ⟨S3x128x2x4x128x1, .f32⟩
  | .hbm, ⟨79, _⟩ => ⟨S3x128x2x4x128x1, .f32⟩
  | .hbm, ⟨80, _⟩ => ⟨S3x128x2x4x128x1, .f32⟩
  | .hbm, ⟨81, _⟩ => ⟨S3x128x2x4x128x384, .f32⟩
  | .hbm, ⟨82, _⟩ => ⟨S3x128x2x4x128x384, .f32⟩
  | .hbm, ⟨83, _⟩ => ⟨S3x128x2x4x128x384, .f32⟩
  | .hbm, ⟨84, _⟩ => ⟨S_, .f32⟩
  | .hbm, ⟨85, _⟩ => ⟨S3x128x2x4x128, .f32⟩
  | .hbm, ⟨86, _⟩ => ⟨S3x128x2x4x128x1, .f32⟩
  | .hbm, ⟨87, _⟩ => ⟨S3x128x2x4x128x1, .f32⟩
  | .hbm, ⟨88, _⟩ => ⟨S3x128x2x4x128x1, .f32⟩
  | .hbm, ⟨89, _⟩ => ⟨S3x128x2x4x128x1, .f32⟩
  | .hbm, ⟨90, _⟩ => ⟨S3x128x2x4x128x1, .f32⟩
  | .hbm, ⟨91, _⟩ => ⟨S3x128x2x4x128x384, .f32⟩
  | .hbm, ⟨92, _⟩ => ⟨S3x128x2x4x128x384, .f32⟩
  | .hbm, ⟨93, _⟩ => ⟨S3x128x2x128x4x128, .f32⟩
  | .hbm, ⟨94, _⟩ => ⟨S3x128x128x2x4x128, .f32⟩
  | .hbm, ⟨95, _⟩ => ⟨S49152x1024, .f32⟩
  | .hbm, ⟨96, _⟩ => ⟨S49152x1024, .bf16⟩
  | _, _ => ⟨S49152x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_1 : Ref sig .tc := ⟨.hbm, 36, rfl⟩
abbrev main_v27 : Ref sig .tc := ⟨.hbm, 37, rfl⟩
abbrev main_v28 : Ref sig .tc := ⟨.hbm, 38, rfl⟩
abbrev main_c_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== Prompt.lean ====
abbrev S49152x2048 : Shape := ⟨2, ![49152, 2048]⟩
abbrev S49152x1024 : Shape := ⟨2, ![49152, 1024]⟩
abbrev S2048x1024 : Shape := ⟨2, ![2048, 1024]⟩
abbrev S4x1024 : Shape := ⟨2, ![4, 1024]⟩
abbrev S1024x4096 : Shape := ⟨2, ![1024, 4096]⟩
abbrev S4096x1024 : Shape := ⟨2, ![4096, 1024]⟩
abbrev S16384x1024 : Shape := ⟨2, ![16384, 1024]⟩
abbrev S512x2048 : Shape := ⟨2, ![512, 2048]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 10
  | .vmem => 10
  | .smem => 0
  | _ => 0

abbrev bufTy : (tb : Table) → Fin (tcTables nBuf tb) → BufTy
  | .hbm, ⟨0, _⟩ => ⟨S49152x2048, .bf16⟩
  | .hbm, ⟨1, _⟩ => ⟨S49152x1024, .f32⟩
  | .hbm, ⟨2, _⟩ => ⟨S2048x1024, .f32⟩
  | .hbm, ⟨3, _⟩ => ⟨S4x1024, .f32⟩
  | .hbm, ⟨4, _⟩ => ⟨S1024x4096, .f32⟩
  | .hbm, ⟨5, _⟩ => ⟨S4096x1024, .f32⟩
  | .hbm, ⟨6, _⟩ => ⟨S2048x1024, .bf16⟩
  | .hbm, ⟨7, _⟩ => ⟨S1024x4096, .bf16⟩
  | .hbm, ⟨8, _⟩ => ⟨S4096x1024, .bf16⟩
  | .hbm, ⟨9, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S4x1024, .f32⟩
  | .local _ .vmem, ⟨6, _⟩ => ⟨S1024x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | _, _ => ⟨S49152x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.subi v0 c0_i32_0
  let c0_i32_1 : BitVec 32 := 0#32
  let c95_i32 : BitVec 32 := 95#32
  let v2 : BitVec 32 := Scalar.maxsi c0_i32_1 v1
  let v3 : BitVec 32 := Scalar.minsi c95_i32 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PromptRefIdeal.lean ====
abbrev S49152x2048 : Shape := ⟨2, ![49152, 2048]⟩
abbrev S49152x1024 : Shape := ⟨2, ![49152, 1024]⟩
abbrev S2048x1024 : Shape := ⟨2, ![2048, 1024]⟩
abbrev S4x1024 : Shape := ⟨2, ![4, 1024]⟩
abbrev S1024x4096 : Shape := ⟨2, ![1024, 4096]⟩
abbrev S4096x1024 : Shape := ⟨2, ![4096, 1024]⟩
abbrev S16384x2048 : Shape := ⟨2, ![16384, 2048]⟩
abbrev S16384x1024 : Shape := ⟨2, ![16384, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 72
  | .vmem => 0
  | .smem => 0
  | _ => 0

abbrev bufTy : (tb : Table) → Fin (tcTables nBuf tb) → BufTy
  | .hbm, ⟨0, _⟩ => ⟨S49152x2048, .bf16⟩
  | .hbm, ⟨1, _⟩ => ⟨S49152x1024, .f32⟩
  | .hbm, ⟨2, _⟩ => ⟨S2048x1024, .f32⟩
  | .hbm, ⟨3, _⟩ => ⟨S4x1024, .f32⟩
  | .hbm, ⟨4, _⟩ => ⟨S1024x4096, .f32⟩
  | .hbm, ⟨5, _⟩ => ⟨S4096x1024, .f32⟩
  | .hbm, ⟨6, _⟩ => ⟨S16384x2048, .bf16⟩
  | .hbm, ⟨7, _⟩ => ⟨S16384x1024, .f32⟩
  | .hbm, ⟨8, _⟩ => ⟨S16384x2048, .f32⟩
  | .hbm, ⟨9, _⟩ => ⟨S16384x1024, .f32⟩
  | .hbm, ⟨10, _⟩ => ⟨S1x1024, .f32⟩
  | .hbm, ⟨11, _⟩ => ⟨S1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x4096, .f32⟩
  | .hbm, ⟨48, _⟩ => ⟨S_, .f32⟩
  | .hbm, ⟨49, _⟩ => ⟨S16384x4096, .f32⟩
  | .hbm, ⟨50, _⟩ => ⟨S16384x4096, .f32⟩
  | .hbm, ⟨51, _⟩ => ⟨S16384x4096, .f32⟩
  | .hbm, ⟨52, _⟩ => ⟨S16384x1024, .f32⟩
  | .hbm, ⟨53, _⟩ => ⟨S1x1024, .f32⟩
  | .hbm, ⟨54, _⟩ => ⟨S1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S1x1024, .f32⟩
  | .hbm, ⟨69, _⟩ => ⟨S16384x1024, .f32⟩
  | .hbm, ⟨70, _⟩ => ⟨S16384x1024, .f32⟩
  | .hbm, ⟨71, _⟩ => ⟨S16384x1024, .f32⟩
  | _, _ => ⟨S49152x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_cst : Ref sig .tc := ⟨.hbm, 48, rfl⟩
abbrev main_call0_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Sample.lean ====
abbrev S49152x2048 : Shape := ⟨2, ![49152, 2048]⟩
abbrev S49152x1024 : Shape := ⟨2, ![49152, 1024]⟩
abbrev S2048x1024 : Shape := ⟨2, ![2048, 1024]⟩
abbrev S4x1024 : Shape := ⟨2, ![4, 1024]⟩
abbrev S1024x4096 : Shape := ⟨2, ![1024, 4096]⟩
abbrev S4096x1024 : Shape := ⟨2, ![4096, 1024]⟩
abbrev S32768x1024 : Shape := ⟨2, ![32768, 1024]⟩
abbrev S512x2048 : Shape := ⟨2, ![512, 2048]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 10
  | .vmem => 10
  | .smem => 0
  | _ => 0

abbrev bufTy : (tb : Table) → Fin (tcTables nBuf tb) → BufTy
  | .hbm, ⟨0, _⟩ => ⟨S49152x2048, .bf16⟩
  | .hbm, ⟨1, _⟩ => ⟨S49152x1024, .f32⟩
  | .hbm, ⟨2, _⟩ => ⟨S2048x1024, .f32⟩
  | .hbm, ⟨3, _⟩ => ⟨S4x1024, .f32⟩
  | .hbm, ⟨4, _⟩ => ⟨S1024x4096, .f32⟩
  | .hbm, ⟨5, _⟩ => ⟨S4096x1024, .f32⟩
  | .hbm, ⟨6, _⟩ => ⟨S2048x1024, .bf16⟩
  | .hbm, ⟨7, _⟩ => ⟨S1024x4096, .bf16⟩
  | .hbm, ⟨8, _⟩ => ⟨S4096x1024, .bf16⟩
  | .hbm, ⟨9, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S4x1024, .f32⟩
  | .local _ .vmem, ⟨6, _⟩ => ⟨S1024x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | _, _ => ⟨S49152x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let v1 : BitVec 32 := Scalar.subi v0 c0_i32
  let c0_i32_0 : BitVec 32 := 0#32
  let c95_i32 : BitVec 32 := 95#32
  let v2 : BitVec 32 := Scalar.maxsi c0_i32_0 v1
  let v3 : BitVec 32 := Scalar.minsi c95_i32 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SampleRefIdeal.lean ====
abbrev S49152x2048 : Shape := ⟨2, ![49152, 2048]⟩
abbrev S49152x1024 : Shape := ⟨2, ![49152, 1024]⟩
abbrev S2048x1024 : Shape := ⟨2, ![2048, 1024]⟩
abbrev S4x1024 : Shape := ⟨2, ![4, 1024]⟩
abbrev S1024x4096 : Shape := ⟨2, ![1024, 4096]⟩
abbrev S4096x1024 : Shape := ⟨2, ![4096, 1024]⟩
abbrev S32768x2048 : Shape := ⟨2, ![32768, 2048]⟩
abbrev S32768x1024 : Shape := ⟨2, ![32768, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 72
  | .vmem => 0
  | .smem => 0
  | _ => 0

abbrev bufTy : (tb : Table) → Fin (tcTables nBuf tb) → BufTy
  | .hbm, ⟨0, _⟩ => ⟨S49152x2048, .bf16⟩
  | .hbm, ⟨1, _⟩ => ⟨S49152x1024, .f32⟩
  | .hbm, ⟨2, _⟩ => ⟨S2048x1024, .f32⟩
  | .hbm, ⟨3, _⟩ => ⟨S4x1024, .f32⟩
  | .hbm, ⟨4, _⟩ => ⟨S1024x4096, .f32⟩
  | .hbm, ⟨5, _⟩ => ⟨S4096x1024, .f32⟩
  | .hbm, ⟨6, _⟩ => ⟨S32768x2048, .bf16⟩
  | .hbm, ⟨7, _⟩ => ⟨S32768x1024, .f32⟩
  | .hbm, ⟨8, _⟩ => ⟨S32768x2048, .f32⟩
  | .hbm, ⟨9, _⟩ => ⟨S32768x1024, .f32⟩
  | .hbm, ⟨10, _⟩ => ⟨S1x1024, .f32⟩
  | .hbm, ⟨11, _⟩ => ⟨S1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S1x1024, .f32⟩
  | .hbm, ⟨30, _⟩ => ⟨S1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S1x1024, .f32⟩
  | .hbm, ⟨45, _⟩ => ⟨S32768x1024, .f32⟩
  | .hbm, ⟨46, _⟩ => ⟨S32768x1024, .f32⟩
  | .hbm, ⟨47, _⟩ => ⟨S32768x4096, .f32⟩
  | .hbm, ⟨48, _⟩ => ⟨S_, .f32⟩
  | .hbm, ⟨49, _⟩ => ⟨S32768x4096, .f32⟩
  | .hbm, ⟨50, _⟩ => ⟨S32768x4096, .f32⟩
  | .hbm, ⟨51, _⟩ => ⟨S32768x4096, .f32⟩
  | .hbm, ⟨52, _⟩ => ⟨S32768x1024, .f32⟩
  | .hbm, ⟨53, _⟩ => ⟨S1x1024, .f32⟩
  | .hbm, ⟨54, _⟩ => ⟨S1024, .f32⟩
  | .hbm, ⟨55, _⟩ => ⟨S32768x1024, .f32⟩
  | .hbm, ⟨56, _⟩ => ⟨S_, .f32⟩
  | .hbm, ⟨57, _⟩ => ⟨S32768, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S_, .f32⟩
  | .hbm, ⟨63, _⟩ => ⟨S32768x1, .f32⟩
  | .hbm, ⟨64, _⟩ => ⟨S32768x1, .f32⟩
  | .hbm, ⟨65, _⟩ => ⟨S32768x1, .f32⟩
  | .hbm, ⟨66, _⟩ => ⟨S32768x1024, .f32⟩
  | .hbm, ⟨67, _⟩ => ⟨S32768x1024, .f32⟩
  | .hbm, ⟨68, _⟩ => ⟨S1x1024, .f32⟩
  | .hbm, ⟨69, _⟩ => ⟨S32768x1024, .f32⟩
  | .hbm, ⟨70, _⟩ => ⟨S32768x1024, .f32⟩
  | .hbm, ⟨71, _⟩ => ⟨S32768x1024, .f32⟩
  | _, _ => ⟨S49152x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_cst : Ref sig .tc := ⟨.hbm, 48, rfl⟩
abbrev main_call0_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== AttnOut.lean ====
abbrev S49152x1024 : Shape := ⟨2, ![49152, 1024]⟩
abbrev S16384x1024 : Shape := ⟨2, ![16384, 1024]⟩
abbrev S32768x1024 : Shape := ⟨2, ![32768, 1024]⟩
abbrev S1024x1024 : Shape := ⟨2, ![1024, 1024]⟩
abbrev S4x1024 : Shape := ⟨2, ![4, 1024]⟩
abbrev S1024x4096 : Shape := ⟨2, ![1024, 4096]⟩
abbrev S4096x1024 : Shape := ⟨2, ![4096, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 11
  | .vmem => 12
  | .smem => 0
  | _ => 0

abbrev bufTy : (tb : Table) → Fin (tcTables nBuf tb) → BufTy
  | .hbm, ⟨0, _⟩ => ⟨S49152x1024, .bf16⟩
  | .hbm, ⟨1, _⟩ => ⟨S16384x1024, .f32⟩
  | .hbm, ⟨2, _⟩ => ⟨S32768x1024, .f32⟩
  | .hbm, ⟨3, _⟩ => ⟨S1024x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1024x1024, .bf16⟩
  | .hbm, ⟨8, _⟩ => ⟨S1024x4096, .bf16⟩
  | .hbm, ⟨9, _⟩ => ⟨S4096x1024, .bf16⟩
  | .hbm, ⟨10, _⟩ => ⟨S49152x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S4x1024, .f32⟩
  | .local _ .vmem, ⟨8, _⟩ => ⟨S1024x4096, .bf16⟩
  | .local _ .vmem, ⟨9, _⟩ => ⟨S4096x1024, .bf16⟩
  | .local _ .vmem, ⟨10, _⟩ => ⟨S512x1024, .f32⟩
  | .local _ .vmem, ⟨11, _⟩ => ⟨S512x1024, .f32⟩
  | _, _ => ⟨S49152x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.subi v0 c0_i32_0
  let c0_i32_1 : BitVec 32 := 0#32
  let c31_i32 : BitVec 32 := 31#32
  let v2 : BitVec 32 := Scalar.maxsi c0_i32_1 v1
  let v3 : BitVec 32 := Scalar.minsi c31_i32 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 32 := Scalar.subi v0 c32_i32
  let c0_i32_0 : BitVec 32 := 0#32
  let c63_i32 : BitVec 32 := 63#32
  let v2 : BitVec 32 := Scalar.maxsi c0_i32_0 v1
  let v3 : BitVec 32 := Scalar.minsi c63_i32 v2
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnOutRefIdeal.lean ====
abbrev S49152x1024 : Shape := ⟨2, ![49152, 1024]⟩
abbrev S16384x1024 : Shape := ⟨2, ![16384, 1024]⟩
abbrev S32768x1024 : Shape := ⟨2, ![32768, 1024]⟩
abbrev S1024x1024 : Shape := ⟨2, ![1024, 1024]⟩
abbrev S4x1024 : Shape := ⟨2, ![4, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S49152 : Shape := ⟨1, ![49152]⟩
abbrev S49152x1 : Shape := ⟨2, ![49152, 1]⟩
abbrev S49152x4096 : Shape := ⟨2, ![49152, 4096]⟩

abbrev nBuf : Space → Nat
  | .hbm => 72
  | .vmem => 0
  | .smem => 0
  | _ => 0

abbrev bufTy : (tb : Table) → Fin (tcTables nBuf tb) → BufTy
  | .hbm, ⟨0, _⟩ => ⟨S49152x1024, .bf16⟩
  | .hbm, ⟨1, _⟩ => ⟨S16384x1024, .f32⟩
  | .hbm, ⟨2, _⟩ => ⟨S32768x1024, .f32⟩
  | .hbm, ⟨3, _⟩ => ⟨S1024x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S49152x1024, .f32⟩
  | .hbm, ⟨8, _⟩ => ⟨S49152x1024, .f32⟩
  | .hbm, ⟨9, _⟩ => ⟨S49152x1024, .f32⟩
  | .hbm, ⟨10, _⟩ => ⟨S1x1024, .f32⟩
  | .hbm, ⟨11, _⟩ => ⟨S1024, .f32⟩
  | .hbm, ⟨12, _⟩ => ⟨S49152x1024, .f32⟩
  | .hbm, ⟨13, _⟩ => ⟨S_, .f32⟩
  | .hbm, ⟨14, _⟩ => ⟨S49152, .f32⟩
  | .hbm, ⟨15, _⟩ => ⟨S49152x1, .f32⟩
  | .hbm, ⟨16, _⟩ => ⟨S_, .f32⟩
  | .hbm, ⟨17, _⟩ => ⟨S49152x1, .f32⟩
  | .hbm, ⟨18, _⟩ => ⟨S49152x1, .f32⟩
  | .hbm, ⟨19, _⟩ => ⟨S_, .f32⟩
  | .hbm, ⟨20, _⟩ => ⟨S49152x1, .f32⟩
  | .hbm, ⟨21, _⟩ => ⟨S49152x1, .f32⟩
  | .hbm, ⟨22, _⟩ => ⟨S49152x1, .f32⟩
  | .hbm, ⟨23, _⟩ => ⟨S49152x1024, .f32⟩
  | .hbm, ⟨24, _⟩ => ⟨S49152x1024, .f32⟩
  | .hbm, ⟨25, _⟩ => ⟨S1x1024, .f32⟩
  | .hbm, ⟨26, _⟩ => ⟨S49152x1024, .f32⟩
  | .hbm, ⟨27, _⟩ => ⟨S49152x1024, .f32⟩
  | .hbm, ⟨28, _⟩ => ⟨S49152x1024, .f32⟩
  | .hbm, ⟨29, _⟩ => ⟨S1x1024, .f32⟩
  | .hbm, ⟨30, _⟩ => ⟨S1024, .f32⟩
  | .hbm, ⟨31, _⟩ => ⟨S49152x1024, .f32⟩
  | .hbm, ⟨32, _⟩ => ⟨S_, .f32⟩
  | .hbm, ⟨33, _⟩ => ⟨S49152, .f32⟩
  | .hbm, ⟨34, _⟩ => ⟨S49152x1, .f32⟩
  | .hbm, ⟨35, _⟩ => ⟨S_, .f32⟩
  | .hbm, ⟨36, _⟩ => ⟨S49152x1, .f32⟩
  | .hbm, ⟨37, _⟩ => ⟨S49152x1, .f32⟩
  | .hbm, ⟨38, _⟩ => ⟨S_, .f32⟩
  | .hbm, ⟨39, _⟩ => ⟨S49152x1, .f32⟩
  | .hbm, ⟨40, _⟩ => ⟨S49152x1, .f32⟩
  | .hbm, ⟨41, _⟩ => ⟨S49152x1, .f32⟩
  | .hbm, ⟨42, _⟩ => ⟨S49152x1024, .f32⟩
  | .hbm, ⟨43, _⟩ => ⟨S49152x1024, .f32⟩
  | .hbm, ⟨44, _⟩ => ⟨S1x1024, .f32⟩
  | .hbm, ⟨45, _⟩ => ⟨S49152x1024, .f32⟩
  | .hbm, ⟨46, _⟩ => ⟨S49152x1024, .f32⟩
  | .hbm, ⟨47, _⟩ => ⟨S49152x4096, .f32⟩
  | .hbm, ⟨48, _⟩ => ⟨S_, .f32⟩
  | .hbm, ⟨49, _⟩ => ⟨S49152x4096, .f32⟩
  | .hbm, ⟨50, _⟩ => ⟨S49152x4096, .f32⟩
  | .hbm, ⟨51, _⟩ => ⟨S49152x4096, .f32⟩
  | .hbm, ⟨52, _⟩ => ⟨S49152x1024, .f32⟩
  | .hbm, ⟨53, _⟩ => ⟨S1x1024, .f32⟩
  | .hbm, ⟨54, _⟩ => ⟨S1024, .f32⟩
  | .hbm, ⟨55, _⟩ => ⟨S49152x1024, .f32⟩
  | .hbm, ⟨56, _⟩ => ⟨S_, .f32⟩
  | .hbm, ⟨57, _⟩ => ⟨S49152, .f32⟩
  | .hbm, ⟨58, _⟩ => ⟨S49152x1, .f32⟩
  | .hbm, ⟨59, _⟩ => ⟨S_, .f32⟩
  | .hbm, ⟨60, _⟩ => ⟨S49152x1, .f32⟩
  | .hbm, ⟨61, _⟩ => ⟨S49152x1, .f32⟩
  | .hbm, ⟨62, _⟩ => ⟨S_, .f32⟩
  | .hbm, ⟨63, _⟩ => ⟨S49152x1, .f32⟩
  | .hbm, ⟨64, _⟩ => ⟨S49152x1, .f32⟩
  | .hbm, ⟨65, _⟩ => ⟨S49152x1, .f32⟩
  | .hbm, ⟨66, _⟩ => ⟨S49152x1024, .f32⟩
  | .hbm, ⟨67, _⟩ => ⟨S49152x1024, .f32⟩
  | .hbm, ⟨68, _⟩ => ⟨S1x1024, .f32⟩
  | .hbm, ⟨69, _⟩ => ⟨S49152x1024, .f32⟩
  | .hbm, ⟨70, _⟩ => ⟨S49152x1024, .f32⟩
  | .hbm, ⟨71, _⟩ => ⟨S49152x1024, .f32⟩
  | _, _ => ⟨S49152x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call0_cst : Ref sig .tc := ⟨.hbm, 48, rfl⟩
abbrev main_call0_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== AttnIn.lean ====
abbrev S16384x1024 : Shape := ⟨2, ![16384, 1024]⟩
abbrev S32768x1024 : Shape := ⟨2, ![32768, 1024]⟩
abbrev S4x1024 : Shape := ⟨2, ![4, 1024]⟩
abbrev S1024x1536 : Shape := ⟨2, ![1024, 1536]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S49152x1024 : Shape := ⟨2, ![49152, 1024]⟩
abbrev S49152x256 : Shape := ⟨2, ![49152, 256]⟩
abbrev S512x1024 : Shape := ⟨2, ![512, 1024]⟩
abbrev S512x128 : Shape := ⟨2, ![512, 128]⟩
abbrev S512x256 : Shape := ⟨2, ![512, 256]⟩
abbrev S1x1024 : Shape := ⟨2, ![1, 1024]⟩
abbrev S512 : Shape := ⟨1, ![512]⟩
abbrev S512x1 : Shape := ⟨2, ![512, 1]⟩
abbrev S512x1536 : Shape := ⟨2, ![512, 1536]⟩

abbrev nBuf : Space → Nat
  | .hbm => 29
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S32768x1024, .f32⟩
  | .hbm, ⟨2, _⟩ => ⟨S4x1024, .f32⟩
  | .hbm, ⟨3, _⟩ => ⟨S1024x1536, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S16384, .f32⟩
  | .hbm, ⟨15, _⟩ => ⟨S16384x1, .f32⟩
  | .hbm, ⟨16, _⟩ => ⟨S1x64, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x128, .f32⟩
  | .hbm, ⟨23, _⟩ => ⟨S16384x64, .f32⟩
  | .hbm, ⟨24, _⟩ => ⟨S16384x128, .f32⟩
  | .hbm, ⟨25, _⟩ => ⟨S1024x1536, .bf16⟩
  | .hbm, ⟨26, _⟩ => ⟨S49152x1024, .bf16⟩
  | .hbm, ⟨27, _⟩ => ⟨S49152x256, .bf16⟩
  | .hbm, ⟨28, _⟩ => ⟨S49152x256, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S4x1024, .f32⟩
  | .local _ .vmem, ⟨5, _⟩ => ⟨S1024x1536, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.subi v0 c0_i32_0
  let c0_i32_1 : BitVec 32 := 0#32
  let c31_i32 : BitVec 32 := 31#32
  let v2 : BitVec 32 := Scalar.maxsi c0_i32_1 v1
  let v3 : BitVec 32 := Scalar.minsi c31_i32 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 32 := Scalar.subi v0 c32_i32
  let c0_i32_0 : BitVec 32 := 0#32
  let c63_i32 : BitVec 32 := 63#32
  let v2 : BitVec 32 := Scalar.maxsi c0_i32_0 v1
  let v3 : BitVec 32 := Scalar.minsi c63_i32 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnInRefIdeal.lean ====
abbrev S16384x1024 : Shape := ⟨2, ![16384, 1024]⟩
abbrev S32768x1024 : Shape := ⟨2, ![32768, 1024]⟩
abbrev S4x1024 : Shape := ⟨2, ![4, 1024]⟩
abbrev S1024x1536 : Shape := ⟨2, ![1024, 1536]⟩
abbrev S49152x1024 : Shape := ⟨2, ![49152, 1024]⟩
abbrev S1x1024 : Shape := ⟨2, ![1, 1024]⟩
abbrev S1024 : Shape := ⟨1, ![1024]⟩
abbrev S_ : Shape := ⟨0, ![]⟩
abbrev S49152 : Shape := ⟨1, ![49152]⟩
abbrev S49152x1 : Shape := ⟨2, ![49152, 1]⟩
abbrev S49152x1536 : Shape := ⟨2, ![49152, 1536]⟩
abbrev S3x16384x1536 : Shape := ⟨3, ![3, 16384, 1536]⟩
abbrev S3x16384x1024 : Shape := ⟨3, ![3, 16384, 1024]⟩
abbrev S3x16384x8x128 : Shape := ⟨4, ![3, 16384, 8, 128]⟩
abbrev S3x16384x256 : Shape := ⟨3, ![3, 16384, 256]⟩
abbrev S3x16384x2x128 : Shape := ⟨4, ![3, 16384, 2, 128]⟩
abbrev S16384 : Shape := ⟨1, ![16384]⟩
abbrev S64 : Shape := ⟨1, ![64]⟩
abbrev S16384x1 : Shape := ⟨2, ![16384, 1]⟩
abbrev S1x64 : Shape := ⟨2, ![1, 64]⟩
abbrev S16384x64 : Shape := ⟨2, ![16384, 64]⟩
abbrev S16384x1x64 : Shape := ⟨3, ![16384, 1, 64]⟩
abbrev S3x16384x8x64 : Shape := ⟨4, ![3, 16384, 8, 64]⟩
abbrev S1x16384x1x64 : Shape := ⟨4, ![1, 16384, 1, 64]⟩
abbrev S3x16384x2x64 : Shape := ⟨4, ![3, 16384, 2, 64]⟩
abbrev S49152x256 : Shape := ⟨2, ![49152, 256]⟩

abbrev nBuf : Space → Nat
  | .hbm => 109
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S32768x1024, .f32⟩
  | .hbm, ⟨2, _⟩ => ⟨S4x1024, .f32⟩
  | .hbm, ⟨3, _⟩ => ⟨S1024x1536, .f32⟩
  | .hbm, ⟨4, _⟩ => ⟨S49152x1024, .f32⟩
  | .hbm, ⟨5, _⟩ => ⟨S1x1024, .f32⟩
  | .hbm, ⟨6, _⟩ => ⟨S1024, .f32⟩
  | .hbm, ⟨7, _⟩ => ⟨S49152x1024, .f32⟩
  | .hbm, ⟨8, _⟩ => ⟨S_, .f32⟩
  | .hbm, ⟨9, _⟩ => ⟨S49152, .f32⟩
  | .hbm, ⟨10, _⟩ => ⟨S49152x1, .f32⟩
  | .hbm, ⟨11, _⟩ => ⟨S_, .f32⟩
  | .hbm, ⟨12, _⟩ => ⟨S49152x1, .f32⟩
  | .hbm, ⟨13, _⟩ => ⟨S49152x1, .f32⟩
  | .hbm, ⟨14, _⟩ => ⟨S_, .f32⟩
  | .hbm, ⟨15, _⟩ => ⟨S49152x1, .f32⟩
  | .hbm, ⟨16, _⟩ => ⟨S49152x1, .f32⟩
  | .hbm, ⟨17, _⟩ => ⟨S49152x1, .f32⟩
  | .hbm, ⟨18, _⟩ => ⟨S49152x1024, .f32⟩
  | .hbm, ⟨19, _⟩ => ⟨S49152x1024, .f32⟩
  | .hbm, ⟨20, _⟩ => ⟨S1x1024, .f32⟩
  | .hbm, ⟨21, _⟩ => ⟨S49152x1024, .f32⟩
  | .hbm, ⟨22, _⟩ => ⟨S49152x1024, .f32⟩
  | .hbm, ⟨23, _⟩ => ⟨S49152x1536, .f32⟩
  | .hbm, ⟨24, _⟩ => ⟨S3x16384x1536, .f32⟩
  | .hbm, ⟨25, _⟩ => ⟨S3x16384x1024, .f32⟩
  | .hbm, ⟨26, _⟩ => ⟨S3x16384x8x128, .f32⟩
  | .hbm, ⟨27, _⟩ => ⟨S3x16384x256, .f32⟩
  | .hbm, ⟨28, _⟩ => ⟨S3x16384x2x128, .f32⟩
  | .hbm, ⟨29, _⟩ => ⟨S3x16384x256, .f32⟩
  | .hbm, ⟨30, _⟩ => ⟨S16384, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S16384x1, .f32⟩
  | .hbm, ⟨42, _⟩ => ⟨S1x64, .f32⟩
  | .hbm, ⟨43, _⟩ => ⟨S16384x64, .f32⟩
  | .hbm, ⟨44, _⟩ => ⟨S16384x64, .f32⟩
  | .hbm, ⟨45, _⟩ => ⟨S16384x64, .f32⟩
  | .hbm, ⟨46, _⟩ => ⟨S16384x64, .f32⟩
  | .hbm, ⟨47, _⟩ => ⟨S16384x1x64, .f32⟩
  | .hbm, ⟨48, _⟩ => ⟨S16384x64, .f32⟩
  | .hbm, ⟨49, _⟩ => ⟨S16384x1x64, .f32⟩
  | .hbm, ⟨50, _⟩ => ⟨S3x16384x8x64, .f32⟩
  | .hbm, ⟨51, _⟩ => ⟨S3x16384x8x64, .f32⟩
  | .hbm, ⟨52, _⟩ => ⟨S1x16384x1x64, .f32⟩
  | .hbm, ⟨53, _⟩ => ⟨S3x16384x8x64, .f32⟩
  | .hbm, ⟨54, _⟩ => ⟨S3x16384x8x64, .f32⟩
  | .hbm, ⟨55, _⟩ => ⟨S1x16384x1x64, .f32⟩
  | .hbm, ⟨56, _⟩ => ⟨S3x16384x8x64, .f32⟩
  | .hbm, ⟨57, _⟩ => ⟨S3x16384x8x64, .f32⟩
  | .hbm, ⟨58, _⟩ => ⟨S3x16384x8x64, .f32⟩
  | .hbm, ⟨59, _⟩ => ⟨S1x16384x1x64, .f32⟩
  | .hbm, ⟨60, _⟩ => ⟨S3x16384x8x64, .f32⟩
  | .hbm, ⟨61, _⟩ => ⟨S3x16384x8x64, .f32⟩
  | .hbm, ⟨62, _⟩ => ⟨S1x16384x1x64, .f32⟩
  | .hbm, ⟨63, _⟩ => ⟨S3x16384x8x64, .f32⟩
  | .hbm, ⟨64, _⟩ => ⟨S3x16384x8x64, .f32⟩
  | .hbm, ⟨65, _⟩ => ⟨S3x16384x8x64, .f32⟩
  | .hbm, ⟨66, _⟩ => ⟨S3x16384x8x128, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S16384x1, .f32⟩
  | .hbm, ⟨78, _⟩ => ⟨S1x64, .f32⟩
  | .hbm, ⟨79, _⟩ => ⟨S16384x64, .f32⟩
  | .hbm, ⟨80, _⟩ => ⟨S16384x64, .f32⟩
  | .hbm, ⟨81, _⟩ => ⟨S16384x64, .f32⟩
  | .hbm, ⟨82, _⟩ => ⟨S16384x64, .f32⟩
  | .hbm, ⟨83, _⟩ => ⟨S16384x1x64, .f32⟩
  | .hbm, ⟨84, _⟩ => ⟨S16384x64, .f32⟩
  | .hbm, ⟨85, _⟩ => ⟨S16384x1x64, .f32⟩
  | .hbm, ⟨86, _⟩ => ⟨S3x16384x2x64, .f32⟩
  | .hbm, ⟨87, _⟩ => ⟨S3x16384x2x64, .f32⟩
  | .hbm, ⟨88, _⟩ => ⟨S1x16384x1x64, .f32⟩
  | .hbm, ⟨89, _⟩ => ⟨S3x16384x2x64, .f32⟩
  | .hbm, ⟨90, _⟩ => ⟨S3x16384x2x64, .f32⟩
  | .hbm, ⟨91, _⟩ => ⟨S1x16384x1x64, .f32⟩
  | .hbm, ⟨92, _⟩ => ⟨S3x16384x2x64, .f32⟩
  | .hbm, ⟨93, _⟩ => ⟨S3x16384x2x64, .f32⟩
  | .hbm, ⟨94, _⟩ => ⟨S3x16384x2x64, .f32⟩
  | .hbm, ⟨95, _⟩ => ⟨S1x16384x1x64, .f32⟩
  | .hbm, ⟨96, _⟩ => ⟨S3x16384x2x64, .f32⟩
  | .hbm, ⟨97, _⟩ => ⟨S3x16384x2x64, .f32⟩
  | .hbm, ⟨98, _⟩ => ⟨S1x16384x1x64, .f32⟩
  | .hbm, ⟨99, _⟩ => ⟨S3x16384x2x64, .f32⟩
  | .hbm, ⟨100, _⟩ => ⟨S3x16384x2x64, .f32⟩
  | .hbm, ⟨101, _⟩ => ⟨S3x16384x2x64, .f32⟩
  | .hbm, ⟨102, _⟩ => ⟨S3x16384x2x128, .f32⟩
  | .hbm, ⟨103, _⟩ => ⟨S49152x1024, .f32⟩
  | .hbm, ⟨104, _⟩ => ⟨S49152x1024, .bf16⟩
  | .hbm, ⟨105, _⟩ => ⟨S49152x256, .f32⟩
  | .hbm, ⟨106, _⟩ => ⟨S49152x256, .bf16⟩
  | .hbm, ⟨107, _⟩ => ⟨S49152x256, .f32⟩
  | .hbm, ⟨108, _⟩ => ⟨S49152x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_v61 : Ref sig .tc := ⟨.hbm, 73, rfl⟩
abbrev main_cst_7 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩

abbrev nD : Nat := 1
abbrev τ : Topo := Topo.v7x

variable {F : FTy → Type} [FloatOps F]
-- ==== GdnIn.lean ====
abbrev S49152x1024 : Shape := ⟨2, ![49152, 1024]⟩
abbrev S4x1024 : Shape := ⟨2, ![4, 1024]⟩
abbrev S1024x6208 : Shape := ⟨2, ![1024, 6208]⟩
abbrev S5x4096 : Shape := ⟨2, ![5, 4096]⟩
abbrev S2x16 : Shape := ⟨2, ![2, 16]⟩
abbrev S1024x64 : Shape := ⟨2, ![1024, 64]⟩
abbrev S8 : Shape := ⟨1, ![8]⟩
abbrev S8x1x1x1 : Shape := ⟨4, ![8, 1, 1, 1]⟩
abbrev S2 : Shape := ⟨1, ![2]⟩
abbrev S1x2x1x1 : Shape := ⟨4, ![1, 2, 1, 1]⟩
abbrev S1x1x2x1 : Shape := ⟨4, ![1, 1, 2, 1]⟩
abbrev S1x1x1x2 : Shape := ⟨4, ![1, 1, 1, 2]⟩
abbrev S_ : Shape := ⟨0, ![]⟩
abbrev S1x1x2x2 : Shape := ⟨4, ![1, 1, 2, 2]⟩
abbrev S8x1x2x2 : Shape := ⟨4, ![8, 1, 2, 2]⟩
abbrev S8x2x2x2 : Shape := ⟨4, ![8, 2, 2, 2]⟩
abbrev S64 : Shape := ⟨1, ![64]⟩
abbrev S64x1 : Shape := ⟨2, ![64, 1]⟩
abbrev S1024x128 : Shape := ⟨2, ![1024, 128]⟩
abbrev S2x8x2 : Shape := ⟨3, ![2, 8, 2]⟩
abbrev S8x2x2 : Shape := ⟨3, ![8, 2, 2]⟩
abbrev S8x2x2x1 : Shape := ⟨4, ![8, 2, 2, 1]⟩
abbrev S128 : Shape := ⟨1, ![128]⟩
abbrev S1x128 : Shape := ⟨2, ![1, 128]⟩
abbrev S2x128 : Shape := ⟨2, ![2, 128]⟩
abbrev S1024x4096 : Shape := ⟨2, ![1024, 4096]⟩
abbrev S1024x2048 : Shape := ⟨2, ![1024, 2048]⟩
abbrev S3x1024x16384 : Shape := ⟨3, ![3, 1024, 16384]⟩
abbrev S49152x2048 : Shape := ⟨2, ![49152, 2048]⟩
abbrev S49152x128 : Shape := ⟨2, ![49152, 128]⟩
abbrev S3x8x256x4x128 : Shape := ⟨5, ![3, 8, 256, 4, 128]⟩
abbrev S16x1024 : Shape := ⟨2, ![16, 1024]⟩
abbrev S512x1024 : Shape := ⟨2, ![512, 1024]⟩
abbrev S1x1024x512 : Shape := ⟨3, ![1, 1024, 512]⟩
abbrev S512x2048 : Shape := ⟨2, ![512, 2048]⟩
abbrev S512x128 : Shape := ⟨2, ![512, 128]⟩
abbrev S1x8x8x4x128 : Shape := ⟨5, ![1, 8, 8, 4, 128]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩
abbrev S1024x512 : Shape := ⟨2, ![1024, 512]⟩
abbrev S544x512 : Shape := ⟨2, ![544, 512]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S128x512 : Shape := ⟨2, ![128, 512]⟩
abbrev S1x128x512 : Shape := ⟨3, ![1, 128, 512]⟩
abbrev S4x128 : Shape := ⟨2, ![4, 128]⟩
abbrev S1x1x1x4x128 : Shape := ⟨5, ![1, 1, 1, 4, 128]⟩

abbrev nBuf : Space → Nat
  | .hbm => 86
  | .vmem => 26
  | .smem => 0
  | _ => 0

abbrev bufTy : (tb : Table) → Fin (tcTables nBuf tb) → BufTy
  | .hbm, ⟨0, _⟩ => ⟨S49152x1024, .f32⟩
  | .hbm, ⟨1, _⟩ => ⟨S4x1024, .f32⟩
  | .hbm, ⟨2, _⟩ => ⟨S1024x6208, .f32⟩
  | .hbm, ⟨3, _⟩ => ⟨S5x4096, .f32⟩
  | .hbm, ⟨4, _⟩ => ⟨S2x16, .f32⟩
  | .hbm, ⟨5, _⟩ => ⟨S2x16, .f32⟩
  | .hbm, ⟨6, _⟩ => ⟨S1024x64, .f32⟩
  | .hbm, ⟨7, _⟩ => ⟨S8, .i32⟩
  | .hbm, ⟨8, _⟩ => ⟨S8x1x1x1, .i32⟩
  | .hbm, ⟨9, _⟩ => ⟨S2, .i32⟩
  | .hbm, ⟨10, _⟩ => ⟨S1x2x1x1, .i32⟩
  | .hbm, ⟨11, _⟩ => ⟨S2, .i32⟩
  | .hbm, ⟨12, _⟩ => ⟨S1x1x2x1, .i32⟩
  | .hbm, ⟨13, _⟩ => ⟨S2, .i32⟩
  | .hbm, ⟨14, _⟩ => ⟨S1x1x1x2, .i32⟩
  | .hbm, ⟨15, _⟩ => ⟨S_, .i32⟩
  | .hbm, ⟨16, _⟩ => ⟨S1x1x2x1, .i32⟩
  | .hbm, ⟨17, _⟩ => ⟨S1x1x2x1, .i32⟩
  | .hbm, ⟨18, _⟩ => ⟨S_, .i32⟩
  | .hbm, ⟨19, _⟩ => ⟨S1x1x2x1, .i32⟩
  | .hbm, ⟨20, _⟩ => ⟨S1x1x2x1, .i32⟩
  | .hbm, ⟨21, _⟩ => ⟨S_, .i32⟩
  | .hbm, ⟨22, _⟩ => ⟨S1x1x1x2, .i32⟩
  | .hbm, ⟨23, _⟩ => ⟨S1x1x1x2, .i32⟩
  | .hbm, ⟨24, _⟩ => ⟨S1x1x2x2, .i32⟩
  | .hbm, ⟨25, _⟩ => ⟨S1x1x2x2, .i32⟩
  | .hbm, ⟨26, _⟩ => ⟨S1x1x2x2, .i32⟩
  | .hbm, ⟨27, _⟩ => ⟨S_, .i32⟩
  | .hbm, ⟨28, _⟩ => ⟨S8x1x1x1, .i32⟩
  | .hbm, ⟨29, _⟩ => ⟨S8x1x1x1, .i32⟩
  | .hbm, ⟨30, _⟩ => ⟨S8x1x2x2, .i32⟩
  | .hbm, ⟨31, _⟩ => ⟨S8x1x2x2, .i32⟩
  | .hbm, ⟨32, _⟩ => ⟨S8x1x2x2, .i32⟩
  | .hbm, ⟨33, _⟩ => ⟨S8x2x2x2, .i32⟩
  | .hbm, ⟨34, _⟩ => ⟨S8x2x2x2, .i32⟩
  | .hbm, ⟨35, _⟩ => ⟨S8x2x2x2, .i32⟩
  | .hbm, ⟨36, _⟩ => ⟨S64, .i32⟩
  | .hbm, ⟨37, _⟩ => ⟨S_, .i32⟩
  | .hbm, ⟨38, _⟩ => ⟨S64, .i32⟩
  | .hbm, ⟨39, _⟩ => ⟨S64, .i1⟩
  | .hbm, ⟨40, _⟩ => ⟨S_, .i32⟩
  | .hbm, ⟨41, _⟩ => ⟨S64, .i32⟩
  | .hbm, ⟨42, _⟩ => ⟨S64, .i32⟩
  | .hbm, ⟨43, _⟩ => ⟨S64, .i32⟩
  | .hbm, ⟨44, _⟩ => ⟨S64x1, .i32⟩
  | .hbm, ⟨45, _⟩ => ⟨S1024x64, .f32⟩
  | .hbm, ⟨46, _⟩ => ⟨S_, .i32⟩
  | .hbm, ⟨47, _⟩ => ⟨S_, .f32⟩
  | .hbm, ⟨48, _⟩ => ⟨S1024x128, .f32⟩
  | .hbm, ⟨49, _⟩ => ⟨S2x8x2, .f32⟩
  | .hbm, ⟨50, _⟩ => ⟨S8x2x2, .f32⟩
  | .hbm, ⟨51, _⟩ => ⟨S_, .f32⟩
  | .hbm, ⟨52, _⟩ => ⟨S8x2x2, .f32⟩
  | .hbm, ⟨53, _⟩ => ⟨S8x2x2x1, .f32⟩
  | .hbm, ⟨54, _⟩ => ⟨S8x2x2x1, .f32⟩
  | .hbm, ⟨55, _⟩ => ⟨S8x2x2x2, .f32⟩
  | .hbm, ⟨56, _⟩ => ⟨S64, .f32⟩
  | .hbm, ⟨57, _⟩ => ⟨S_, .i32⟩
  | .hbm, ⟨58, _⟩ => ⟨S_, .f32⟩
  | .hbm, ⟨59, _⟩ => ⟨S128, .f32⟩
  | .hbm, ⟨60, _⟩ => ⟨S2x8x2, .f32⟩
  | .hbm, ⟨61, _⟩ => ⟨S8x2x2, .f32⟩
  | .hbm, ⟨62, _⟩ => ⟨S_, .f32⟩
  | .hbm, ⟨63, _⟩ => ⟨S8x2x2, .f32⟩
  | .hbm, ⟨64, _⟩ => ⟨S8x2x2x1, .f32⟩
  | .hbm, ⟨65, _⟩ => ⟨S8x2x2x1, .f32⟩
  | .hbm, ⟨66, _⟩ => ⟨S8x2x2x2, .f32⟩
  | .hbm, ⟨67, _⟩ => ⟨S64, .f32⟩
  | .hbm, ⟨68, _⟩ => ⟨S_, .i32⟩
  | .hbm, ⟨69, _⟩ => ⟨S_, .f32⟩
  | .hbm, ⟨70, _⟩ => ⟨S128, .f32⟩
  | .hbm, ⟨71, _⟩ => ⟨S1x128, .f32⟩
  | .hbm, ⟨72, _⟩ => ⟨S1x128, .f32⟩
  | .hbm, ⟨73, _⟩ => ⟨S2x128, .f32⟩
  | .hbm, ⟨74, _⟩ => ⟨S1024x4096, .f32⟩
  | .hbm, ⟨75, _⟩ => ⟨S1024x4096, .bf16⟩
  | .hbm, ⟨76, _⟩ => ⟨S1024x2048, .f32⟩
  | .hbm, ⟨77, _⟩ => ⟨S1024x2048, .bf16⟩
  | .hbm, ⟨78, _⟩ => ⟨S1024x128, .bf16⟩
  | .hbm, ⟨79, _⟩ => ⟨S49152x1024, .bf16⟩
  | .hbm, ⟨80, _⟩ => ⟨S49152x1024, .bf16⟩
  | .hbm, ⟨81, _⟩ => ⟨S3x1024x16384, .f32⟩
  | .hbm, ⟨82, _⟩ => ⟨S49152x2048, .bf16⟩
  | .hbm, ⟨83, _⟩ => ⟨S49152x2048, .f32⟩
  | .hbm, ⟨84, _⟩ => ⟨S49152x128, .f32⟩
  | .hbm, ⟨85, _⟩ => ⟨S3x8x256x4x128, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S4x1024, .f32⟩
  | .local _ .vmem, ⟨7, _⟩ => ⟨S1024x4096, .bf16⟩
  | .local _ .vmem, ⟨8, _⟩ => ⟨S1024x2048, .bf16⟩
  | .local _ .vmem, ⟨9, _⟩ => ⟨S1024x128, .bf16⟩
  | .local _ .vmem, ⟨10, _⟩ => ⟨S5x4096, .f32⟩
  | .local _ .vmem, ⟨11, _⟩ => ⟨S2x128, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1024x512, .f32⟩
  | .local _ .vmem, ⟨17, _⟩ => ⟨S1x1024x512, .f32⟩
  | .local _ .vmem, ⟨18, _⟩ => ⟨S512x2048, .bf16⟩
  | .local _ .vmem, ⟨19, _⟩ => ⟨S512x2048, .bf16⟩
  | .local _ .vmem, ⟨20, _⟩ => ⟨S512x2048, .f32⟩
  | .local _ .vmem, ⟨21, _⟩ => ⟨S512x2048, .f32⟩
  | .local _ .vmem, ⟨22, _⟩ => ⟨S512x128, .f32⟩
  | .local _ .vmem, ⟨23, _⟩ => ⟨S512x128, .f32⟩
  | .local _ .vmem, ⟨24, _⟩ => ⟨S1x8x8x4x128, .f32⟩
  | .local _ .vmem, ⟨25, _⟩ => ⟨S1x8x8x4x128, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_call0_v0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_call1_v0 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_call2_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59_0 : Ref sig .tc := ⟨.hbm, 79, rfl⟩
abbrev main_v59_1 : Ref sig .tc := ⟨.hbm, 80, rfl⟩
abbrev main_v59_2 : Ref sig .tc := ⟨.hbm, 81, rfl⟩
abbrev main_v59_3 : Ref sig .tc := ⟨.hbm, 82, rfl⟩
abbrev main_v59_4 : Ref sig .tc := ⟨.hbm, 83, rfl⟩
abbrev main_v59_5 : Ref sig .tc := ⟨.hbm, 84, rfl⟩
abbrev main_v59_6 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c3071_i32 : BitVec 32 := 3071#32
  let v2 : BitVec 32 := Scalar.minsi v1 c3071_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x8x4x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== GdnInRefIdeal.lean ====
abbrev S49152x1024 : Shape := ⟨2, ![49152, 1024]⟩
abbrev S4x1024 : Shape := ⟨2, ![4, 1024]⟩
abbrev S1024x6208 : Shape := ⟨2, ![1024, 6208]⟩
abbrev S5x4096 : Shape := ⟨2, ![5, 4096]⟩
abbrev S2x16 : Shape := ⟨2, ![2, 16]⟩
abbrev S1x1024 : Shape := ⟨2, ![1, 1024]⟩
abbrev S1024 : Shape := ⟨1, ![1024]⟩
abbrev S_ : Shape := ⟨0, ![]⟩
abbrev S49152 : Shape := ⟨1, ![49152]⟩
abbrev S49152x1 : Shape := ⟨2, ![49152, 1]⟩
abbrev S49152x6208 : Shape := ⟨2, ![49152, 6208]⟩
abbrev S3x16384x6208 : Shape := ⟨3, ![3, 16384, 6208]⟩
abbrev S3x16384x4096 : Shape := ⟨3, ![3, 16384, 4096]⟩
abbrev S3x16388x4096 : Shape := ⟨3, ![3, 16388, 4096]⟩
abbrev S1x4096 : Shape := ⟨2, ![1, 4096]⟩
abbrev S4096 : Shape := ⟨1, ![4096]⟩
abbrev S1x1x4096 : Shape := ⟨3, ![1, 1, 4096]⟩
abbrev S3x16384x2048 : Shape := ⟨3, ![3, 16384, 2048]⟩
abbrev S3x16384x1024 : Shape := ⟨3, ![3, 16384, 1024]⟩
abbrev S3x16384x8x128 : Shape := ⟨4, ![3, 16384, 8, 128]⟩
abbrev S3x16384x8 : Shape := ⟨3, ![3, 16384, 8]⟩
abbrev S3x16384x8x1 : Shape := ⟨4, ![3, 16384, 8, 1]⟩
abbrev S3x1024x16384 : Shape := ⟨3, ![3, 1024, 16384]⟩
abbrev S49152x2048 : Shape := ⟨2, ![49152, 2048]⟩

abbrev nBuf : Space → Nat
  | .hbm => 123
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S4x1024, .f32⟩
  | .hbm, ⟨2, _⟩ => ⟨S1024x6208, .f32⟩
  | .hbm, ⟨3, _⟩ => ⟨S5x4096, .f32⟩
  | .hbm, ⟨4, _⟩ => ⟨S2x16, .f32⟩
  | .hbm, ⟨5, _⟩ => ⟨S2x16, .f32⟩
  | .hbm, ⟨6, _⟩ => ⟨S1x1024, .f32⟩
  | .hbm, ⟨7, _⟩ => ⟨S1024, .f32⟩
  | .hbm, ⟨8, _⟩ => ⟨S49152x1024, .f32⟩
  | .hbm, ⟨9, _⟩ => ⟨S_, .f32⟩
  | .hbm, ⟨10, _⟩ => ⟨S49152, .f32⟩
  | .hbm, ⟨11, _⟩ => ⟨S49152x1, .f32⟩
  | .hbm, ⟨12, _⟩ => ⟨S_, .f32⟩
  | .hbm, ⟨13, _⟩ => ⟨S49152x1, .f32⟩
  | .hbm, ⟨14, _⟩ => ⟨S49152x1, .f32⟩
  | .hbm, ⟨15, _⟩ => ⟨S_, .f32⟩
  | .hbm, ⟨16, _⟩ => ⟨S49152x1, .f32⟩
  | .hbm, ⟨17, _⟩ => ⟨S49152x1, .f32⟩
  | .hbm, ⟨18, _⟩ => ⟨S49152x1, .f32⟩
  | .hbm, ⟨19, _⟩ => ⟨S49152x1024, .f32⟩
  | .hbm, ⟨20, _⟩ => ⟨S49152x1024, .f32⟩
  | .hbm, ⟨21, _⟩ => ⟨S1x1024, .f32⟩
  | .hbm, ⟨22, _⟩ => ⟨S49152x1024, .f32⟩
  | .hbm, ⟨23, _⟩ => ⟨S49152x1024, .f32⟩
  | .hbm, ⟨24, _⟩ => ⟨S49152x6208, .f32⟩
  | .hbm, ⟨25, _⟩ => ⟨S3x16384x6208, .f32⟩
  | .hbm, ⟨26, _⟩ => ⟨S3x16384x4096, .f32⟩
  | .hbm, ⟨27, _⟩ => ⟨S_, .i32⟩
  | .hbm, ⟨28, _⟩ => ⟨S_, .f32⟩
  | .hbm, ⟨29, _⟩ => ⟨S3x16388x4096, .f32⟩
  | .hbm, ⟨30, _⟩ => ⟨S3x16384x4096, .f32⟩
  | .hbm, ⟨31, _⟩ => ⟨S1x4096, .f32⟩
  | .hbm, ⟨32, _⟩ => ⟨S4096, .f32⟩
  | .hbm, ⟨33, _⟩ => ⟨S1x1x4096, .f32⟩
  | .hbm, ⟨34, _⟩ => ⟨S3x16384x4096, .f32⟩
  | .hbm, ⟨35, _⟩ => ⟨S3x16384x4096, .f32⟩
  | .hbm, ⟨36, _⟩ => ⟨S_, .f32⟩
  | .hbm, ⟨37, _⟩ => ⟨S3x16384x4096, .f32⟩
  | .hbm, ⟨38, _⟩ => ⟨S3x16384x4096, .f32⟩
  | .hbm, ⟨39, _⟩ => ⟨S3x16384x4096, .f32⟩
  | .hbm, ⟨40, _⟩ => ⟨S1x4096, .f32⟩
  | .hbm, ⟨41, _⟩ => ⟨S4096, .f32⟩
  | .hbm, ⟨42, _⟩ => ⟨S1x1x4096, .f32⟩
  | .hbm, ⟨43, _⟩ => ⟨S3x16384x4096, .f32⟩
  | .hbm, ⟨44, _⟩ => ⟨S3x16384x4096, .f32⟩
  | .hbm, ⟨45, _⟩ => ⟨S3x16384x4096, .f32⟩
  | .hbm, ⟨46, _⟩ => ⟨S3x16384x4096, .f32⟩
  | .hbm, ⟨47, _⟩ => ⟨S1x4096, .f32⟩
  | .hbm, ⟨48, _⟩ => ⟨S4096, .f32⟩
  | .hbm, ⟨49, _⟩ => ⟨S1x1x4096, .f32⟩
  | .hbm, ⟨50, _⟩ => ⟨S3x16384x4096, .f32⟩
  | .hbm, ⟨51, _⟩ => ⟨S3x16384x4096, .f32⟩
  | .hbm, ⟨52, _⟩ => ⟨S3x16384x4096, .f32⟩
  | .hbm, ⟨53, _⟩ => ⟨S3x16384x4096, .f32⟩
  | .hbm, ⟨54, _⟩ => ⟨S1x4096, .f32⟩
  | .hbm, ⟨55, _⟩ => ⟨S4096, .f32⟩
  | .hbm, ⟨56, _⟩ => ⟨S1x1x4096, .f32⟩
  | .hbm, ⟨57, _⟩ => ⟨S3x16384x4096, .f32⟩
  | .hbm, ⟨58, _⟩ => ⟨S3x16384x4096, .f32⟩
  | .hbm, ⟨59, _⟩ => ⟨S3x16384x4096, .f32⟩
  | .hbm, ⟨60, _⟩ => ⟨S3x16384x4096, .f32⟩
  | .hbm, ⟨61, _⟩ => ⟨S1x4096, .f32⟩
  | .hbm, ⟨62, _⟩ => ⟨S4096, .f32⟩
  | .hbm, ⟨63, _⟩ => ⟨S1x1x4096, .f32⟩
  | .hbm, ⟨64, _⟩ => ⟨S3x16384x4096, .f32⟩
  | .hbm, ⟨65, _⟩ => ⟨S3x16384x4096, .f32⟩
  | .hbm, ⟨66, _⟩ => ⟨S3x16384x4096, .f32⟩
  | .hbm, ⟨67, _⟩ => ⟨S3x16384x4096, .f32⟩
  | .hbm, ⟨68, _⟩ => ⟨S3x16384x4096, .f32⟩
  | .hbm, ⟨69, _⟩ => ⟨S_, .f32⟩
  | .hbm, ⟨70, _⟩ => ⟨S3x16384x4096, .f32⟩
  | .hbm, ⟨71, _⟩ => ⟨S3x16384x4096, .f32⟩
  | .hbm, ⟨72, _⟩ => ⟨S_, .f32⟩
  | .hbm, ⟨73, _⟩ => ⟨S3x16384x4096, .f32⟩
  | .hbm, ⟨74, _⟩ => ⟨S3x16384x4096, .f32⟩
  | .hbm, ⟨75, _⟩ => ⟨S3x16384x4096, .f32⟩
  | .hbm, ⟨76, _⟩ => ⟨S3x16384x2048, .f32⟩
  | .hbm, ⟨77, _⟩ => ⟨S3x16384x1024, .f32⟩
  | .hbm, ⟨78, _⟩ => ⟨S3x16384x8x128, .f32⟩
  | .hbm, ⟨79, _⟩ => ⟨S3x16384x8x128, .f32⟩
  | .hbm, ⟨80, _⟩ => ⟨S_, .f32⟩
  | .hbm, ⟨81, _⟩ => ⟨S3x16384x8, .f32⟩
  | .hbm, ⟨82, _⟩ => ⟨S3x16384x8x1, .f32⟩
  | .hbm, ⟨83, _⟩ => ⟨S_, .f32⟩
  | .hbm, ⟨84, _⟩ => ⟨S3x16384x8x1, .f32⟩
  | .hbm, ⟨85, _⟩ => ⟨S3x16384x8x1, .f32⟩
  | .hbm, ⟨86, _⟩ => ⟨S3x16384x8x1, .f32⟩
  | .hbm, ⟨87, _⟩ => ⟨S3x16384x8x128, .f32⟩
  | .hbm, ⟨88, _⟩ => ⟨S3x16384x8x128, .f32⟩
  | .hbm, ⟨89, _⟩ => ⟨S_, .f32⟩
  | .hbm, ⟨90, _⟩ => ⟨S3x16384x8x128, .f32⟩
  | .hbm, ⟨91, _⟩ => ⟨S3x16384x8x128, .f32⟩
  | .hbm, ⟨92, _⟩ => ⟨S3x16384x1024, .f32⟩
  | .hbm, ⟨93, _⟩ => ⟨S3x16384x8x128, .f32⟩
  | .hbm, ⟨94, _⟩ => ⟨S3x16384x8x128, .f32⟩
  | .hbm, ⟨95, _⟩ => ⟨S_, .f32⟩
  | .hbm, ⟨96, _⟩ => ⟨S3x16384x8, .f32⟩
  | .hbm, ⟨97, _⟩ => ⟨S3x16384x8x1, .f32⟩
  | .hbm, ⟨98, _⟩ => ⟨S_, .f32⟩
  | .hbm, ⟨99, _⟩ => ⟨S3x16384x8x1, .f32⟩
  | .hbm, ⟨100, _⟩ => ⟨S3x16384x8x1, .f32⟩
  | .hbm, ⟨101, _⟩ => ⟨S3x16384x8x1, .f32⟩
  | .hbm, ⟨102, _⟩ => ⟨S3x16384x8x128, .f32⟩
  | .hbm, ⟨103, _⟩ => ⟨S3x16384x8x128, .f32⟩
  | .hbm, ⟨104, _⟩ => ⟨S3x16384x2048, .f32⟩
  | .hbm, ⟨105, _⟩ => ⟨S49152x1024, .f32⟩
  | .hbm, ⟨106, _⟩ => ⟨S49152x1024, .bf16⟩
  | .hbm, ⟨107, _⟩ => ⟨S49152x1024, .f32⟩
  | .hbm, ⟨108, _⟩ => ⟨S49152x1024, .bf16⟩
  | .hbm, ⟨109, _⟩ => ⟨S3x16384x1024, .f32⟩
  | .hbm, ⟨110, _⟩ => ⟨S3x1024x16384, .f32⟩
  | .hbm, ⟨111, _⟩ => ⟨S49152x2048, .f32⟩
  | .hbm, ⟨112, _⟩ => ⟨S49152x2048, .bf16⟩
  | .hbm, ⟨113, _⟩ => ⟨S3x16384x2048, .f32⟩
  | .hbm, ⟨114, _⟩ => ⟨S3x16384x2048, .f32⟩
  | .hbm, ⟨115, _⟩ => ⟨S_, .f32⟩
  | .hbm, ⟨116, _⟩ => ⟨S3x16384x2048, .f32⟩
  | .hbm, ⟨117, _⟩ => ⟨S3x16384x2048, .f32⟩
  | .hbm, ⟨118, _⟩ => ⟨S_, .f32⟩
  | .hbm, ⟨119, _⟩ => ⟨S3x16384x2048, .f32⟩
  | .hbm, ⟨120, _⟩ => ⟨S3x16384x2048, .f32⟩
  | .hbm, ⟨121, _⟩ => ⟨S3x16384x2048, .f32⟩
  | .hbm, ⟨122, _⟩ => ⟨S49152x2048, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_3 : Ref sig .tc := ⟨.hbm, 80, rfl⟩
abbrev main_v60 : Ref sig .tc := ⟨.hbm, 81, rfl⟩
abbrev main_v61 : Ref sig .tc := ⟨.hbm, 82, rfl⟩
abbrev main_cst_4 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_5 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_6 : Ref sig .tc := ⟨.hbm, 95, rfl⟩
abbrev main_v72 : Ref sig .tc := ⟨.hbm, 96, rfl⟩
abbrev main_v73 : Ref sig .tc := ⟨.hbm, 97, rfl⟩
abbrev main_cst_7 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_call2_v0 : Ref sig .tc := ⟨.hbm, 113, rfl⟩
abbrev main_call2_v1 : Ref sig .tc := ⟨.hbm, 114, rfl⟩
abbrev main_call2_cst : Ref sig .tc := ⟨.hbm, 115, rfl⟩
abbrev main_call2_v2 : Ref sig .tc := ⟨.hbm, 116, rfl⟩
abbrev main_call2_v3 : Ref sig .tc := ⟨.hbm, 117, rfl⟩
abbrev main_call2_cst_0 : Ref sig .tc := ⟨.hbm, 118, rfl⟩
abbrev main_call2_v4 : Ref sig .tc := ⟨.hbm, 119, rfl⟩
abbrev main_call2_v5 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]
-- ==== Proof.TailSpec.lean ====
/-
  The end of a layer for one token, as plain sums: output projection, norm and residual, norm, squared-ReLU MLP, norm and
  residual. `m` is the mixer's row, `x` the residual's, `g` the four rows of gains.
-/
module

public import Idealize.ShloMosaic.PureOps.Ideal

@[expose] public section

noncomputable section

namespace Cert.Tail

open Idealize.ShloMosaic

/-- The number of columns, as the programs write it. -/
def width : EReal := Ideal.ofBits .f32 0x44800000#32
/-- The norm's small constant. -/
def eps : EReal := Ideal.ofBits .f32 0x358637BD#32

/-- The RMS norm of a row, times its gains. -/
def rms (f w : Fin 1024 → EReal) (e : Fin 1024) : EReal := f e * Ideal.rsqrt (Ideal.div (∑ i, f i * f i) width + eps) * w e

/-- The residual after the mixer. -/
def mid {K : Nat} (m : Fin K → EReal) (x : Fin 1024 → EReal) (wo : Fin K → Fin 1024 → EReal) (g : Fin 4 → Fin 1024 → EReal) (e : Fin 1024) : EReal :=
  x e + rms (fun j => ∑ k, m k * wo k j) (g 1) e

/-- One hidden unit: the square of the positive part. -/
def hidden (h : Fin 1024 → EReal) (wu : Fin 1024 → EReal) : EReal := max (∑ k, h k * wu k) 0 * max (∑ k, h k * wu k) 0

/-- The MLP of a row. -/
def mlp (h : Fin 1024 → EReal) (wu : Fin 1024 → Fin 4096 → EReal) (wd : Fin 4096 → Fin 1024 → EReal) (e : Fin 1024) : EReal :=
  ∑ c, hidden h (fun k => wu k c) * wd c e

/-- The layer's output row. -/
def row {K : Nat} (m : Fin K → EReal) (x : Fin 1024 → EReal) (wo : Fin K → Fin 1024 → EReal) (g : Fin 4 → Fin 1024 → EReal)
    (wu : Fin 1024 → Fin 4096 → EReal) (wd : Fin 4096 → Fin 1024 → EReal) (e : Fin 1024) : EReal :=
  mid m x wo g e + rms (mlp (rms (mid m x wo g) (g 2)) wu wd) (g 3) e

/-- The output row from its stages: the projection `p`, the residual `md` after the mixer, its norm `h` and the MLP `y`. -/
theorem row_of {K : Nat} (m : Fin K → EReal) (x : Fin 1024 → EReal) (wo : Fin K → Fin 1024 → EReal) (g : Fin 4 → Fin 1024 → EReal)
    (wu : Fin 1024 → Fin 4096 → EReal) (wd : Fin 4096 → Fin 1024 → EReal) (p md h y : Fin 1024 → EReal)
    (hp : ∀ j, p j = ∑ k, m k * wo k j) (hm : ∀ j, md j = x j + rms p (g 1) j) (hh : ∀ j, h j = rms md (g 2) j)
    (hy : ∀ j, y j = mlp h wu wd j) (e : Fin 1024) : md e + rms y (g 3) e = row m x wo g wu wd e := by
  obtain rfl : p = _ := funext hp
  obtain rfl : md = _ := funext hm
  obtain rfl : h = _ := funext hh
  obtain rfl : y = _ := funext hy
  rfl

/-- A sum over the hidden units is the sum over eight groups of 512, one after another. -/
theorem chunks (f : Fin 4096 → EReal) :
    ∑ c, f c = 0 + (∑ c : Fin 512, f ⟨0 + c.val, by omega⟩) + (∑ c : Fin 512, f ⟨512 + c.val, by omega⟩) + (∑ c : Fin 512, f ⟨1024 + c.val, by omega⟩)
      + (∑ c : Fin 512, f ⟨1536 + c.val, by omega⟩) + (∑ c : Fin 512, f ⟨2048 + c.val, by omega⟩) + (∑ c : Fin 512, f ⟨2560 + c.val, by omega⟩)
      + (∑ c : Fin 512, f ⟨3072 + c.val, by omega⟩) + (∑ c : Fin 512, f ⟨3584 + c.val, by omega⟩) := by
  have h : ∑ c, f c = ∑ j : Fin 8, ∑ c : Fin 512, f ⟨512 * j.val + c.val, by omega⟩ := by
    rw [← Fintype.sum_prod_type' (f := fun (j : Fin 8) (c : Fin 512) => f ⟨512 * j.val + c.val, by omega⟩)]
    refine (Equiv.sum_comp (finProdFinEquiv (m := 8) (n := 512)) f).symm.trans (Finset.sum_congr rfl fun p _ => congrArg f (Fin.ext ?_))
    show p.2.val + 512 * p.1.val = 512 * p.1.val + p.2.val
    omega
  rw [h, Fin.sum_univ_eight, zero_add]
  rfl

end Cert.Tail

end
-- ==== Proof.TurnSpec.lean ====
/-
  Rotary positions of one head of 128 lanes, as plain sums, and the row of a projection they apply to.
-/
module

public import proofs.«01_k».proof.Proof.TailSpec

@[expose] public section

noncomputable section

namespace Cert.Turn

open Idealize.ShloMosaic Cert.Tail

/-- One entry of the projection of a normed row. -/
def proj {N : Nat} (x g : Fin 1024 → EReal) (w : Fin 1024 → Fin N → EReal) (c : Fin N) : EReal := ∑ k, rms x g k * w k c

/-- The rotation of a head: its two halves are the two coordinates; `C` and `S` are the cosines and sines. -/
def turn (C S : Fin 64 → EReal) (p : Fin 128 → EReal) (d : Fin 128) : EReal :=
  if h : d.val < 64 then p ⟨d.val, by omega⟩ * C ⟨d.val, h⟩ - p ⟨64 + d.val, by omega⟩ * S ⟨d.val, h⟩
  else p ⟨64 + (d.val - 64), by omega⟩ * C ⟨d.val - 64, by omega⟩ + p ⟨d.val - 64, by omega⟩ * S ⟨d.val - 64, by omega⟩

/-- Head `h` of a projected row of 12 heads. -/
def head (p : Fin 1536 → EReal) (h : Fin 12) (d : Fin 128) : EReal := p ⟨128 * h.val + d.val, by omega⟩

/-- The rotation written as a turn of the lanes by half: the cosines and the sines each stand twice, the first half of the
    sines negated. -/
theorem turn_of (C S : Fin 64 → EReal) (p c s : Fin 128 → EReal)
    (hc : ∀ d, c d = C ⟨d.val % 64, by omega⟩) (hs : ∀ d : Fin 128, s d = if d.val < 64 then -S ⟨d.val % 64, by omega⟩ else S ⟨d.val % 64, by omega⟩)
    (d : Fin 128) : p d * c d + p ⟨(d.val + 128 - 64) % 128, by omega⟩ * s d = turn C S p d := by
  rw [hc, hs]
  unfold turn
  by_cases h : d.val < 64
  · rw [dif_pos h, if_pos h, mul_neg, sub_eq_add_neg]
    congr 4 <;> first | omega | exact Fin.ext (by simp only; omega)
  · rw [dif_neg h, if_neg h]
    congr 3 <;> first | omega | exact Fin.ext (by simp only; omega)

end Cert.Turn

end
-- ==== Proof.AttnInPart.lean ====
/-
  One tile at the start of an attention layer: the norm, the projection and the rotation of the ten heads it stores.
-/
module

public import Idealize.ShloMosaic.Lib.Pointwise
public import Idealize.ShloMosaic.Lib.Pipeline.ValueKit
public import proofs.«01_k».proof.Proof.TurnSpec
public import proofs.«01_k».proof.Proof.Gen.AttnInIdeal.Value

@[expose] public section

set_option maxRecDepth 16384

noncomputable section

namespace Cert.AttnInIdeal.Val

open Cert.AttnInIdeal Cert.AttnInIdeal.Gen Idealize.ShloMosaic Idealize.ShloMosaic.TcCoe Idealize.SL.Sem
open Cert.Tail Cert.Turn

/-- The tile of the residual at grid point `i`: `x0` of the first sequence, `x1` of the others. -/
def RES (i : grid0.Coords) (x0 x1 : Vec Ideal S512x1024 .f32) : Vec Ideal S512x1024 .f32 :=
  Scalar.select (Scalar.cmpi .sge (BitVec.ofNat 32 (i 0).val) 32#32) x1 x0

theorem RES_of (i : grid0.Coords) (x0 x1 : Vec Ideal S512x1024 .f32) : RES i x0 x1 = if (i 0).val < 32 then x0 else x1 := by
  have h : ∀ n : Fin 96, Scalar.cmpi .sge (BitVec.ofNat 32 n.val) 32#32 = if n.val < 32 then 0#1 else 1#1 := by decide +kernel
  unfold RES
  rw [h (i 0)]
  split <;> rfl

/-- The norm of a tile and its projection. -/
def PROJ (x : Vec Ideal S512x1024 .f32) (g : FVec Ideal S1x1024 .f32) (w : FVec Ideal S1024x1536 .bf16) : FVec Ideal S512x1536 .f32 :=
  matmul dot_S512x1024_S1024x1536_S512x1536_1_0_0_1_n_n none
    (truncf .bf16 (mulf (mulf x (broadcastTo S512x1024 (rsqrt (addf (divf (shapeCast S512x1 (multiReduction .add [1] S512 (mulf x x) 0x00000000#32 reduces_S512x1024_S512 (.inl rfl) rfl)
      shapeCasts_S512_S512x1) (broadcast S512x1 (Scalar.ofBits .f32 0x44800000#32))) (broadcast S512x1 (Scalar.ofBits .f32 0x358637BD#32)))) broadcasts_S512x1_S512x1024))
      (broadcastTo S512x1024 g broadcasts_S1x1024_S512x1024)) bitsLt_bf16_f32)
    (shapeCast S1024x1536 w shapeCasts_S1024x1536_S1024x1536) (constant S512x1536 .f32 0x00000000#32)

theorem PROJ_apply (x : Vec Ideal S512x1024 .f32) (g : FVec Ideal S1x1024 .f32) (w : FVec Ideal S1024x1536 .bf16) (r : Fin 512) (e : Fin 1536) :
    PROJ x g w (ix2 r e) = proj (fun j => x (ix2 r j)) (fun j => g (ix2 0 j)) (fun k c => w (ix2 k c)) e := by
  pointwise [PROJ]
  rfl

/-- One head of a projected tile, at column `o`, with its rotation. -/
def HEAD (P : FVec Ideal S512x1536 .f32) (C S : FVec Ideal S512x128 .f32) (o : Nat) (ho : S512x1536.Slices ![0, o] S512x128) : FVec Ideal S512x128 .bf16 :=
  truncf .bf16 (addf (mulf (extractStridedSlice S512x128 ![0, o] P ho) (shapeCast S512x128 C shapeCasts_S512x128_S512x128))
    (mulf (dynamicRotate 1 64#32 none (extractStridedSlice S512x128 ![0, o] P ho) rotates_S512x128_d1) (shapeCast S512x128 S shapeCasts_S512x128_S512x128))) bitsLt_bf16_f32

/-- A row's head at a lane, as the tile computes it. -/
def lane (p : Fin 1536 → EReal) (c s : Fin 128 → EReal) (h : Fin 12) (d : Fin 128) : EReal :=
  head p h d * c d + head p h ⟨(d.val + 128 - 64) % 128, by omega⟩ * s d

theorem HEAD_apply (P : FVec Ideal S512x1536 .f32) (C S : FVec Ideal S512x128 .f32) (h : Fin 12) (ho : S512x1536.Slices ![0, 128 * h.val] S512x128) (r : Fin 512) (d : Fin 128) :
    HEAD P C S (128 * h.val) ho (ix2 r d) = lane (fun k => P (ix2 r k)) (fun k => C (ix2 r k)) (fun k => S (ix2 r k)) h d := by
  pointwise [HEAD]
  rfl

/-- A block of heads, from head `b` of the projection on. -/
def heads {n : Nat} (b : Nat) (hb : 128 * b + n ≤ 1536) (P : FVec Ideal S512x1536 .f32) (C S : FVec Ideal S512x128 .f32) (r : Fin 512) (e : Fin n) : EReal :=
  lane (fun k => P (ix2 r k)) (fun k => C (ix2 r k)) (fun k => S (ix2 r k)) ⟨b + e.val / 128, by omega⟩ ⟨e.val % 128, by omega⟩

/-- A store of one head, at its place in such a block. -/
theorem store_at {n : Nat} (b : Nat) (hb : 128 * b + n ≤ 1536) (P : FVec Ideal S512x1536 .f32) (C S : FVec Ideal S512x128 .f32) (h : Fin 12)
    (ho : S512x1536.Slices ![0, 128 * h.val] S512x128) (x : S512x128.Idx) (r : Fin 512) (e : Fin n) (h0 : r.val = 0 + 1 * (x 0).val)
    (o : Nat) (h1 : e.val = o + 1 * (x 1).val) (hbo : 128 * b + o = 128 * h.val) : HEAD P C S (128 * h.val) ho x = heads b hb P C S r e := by
  have hx : (x 1).val < 128 := (x 1).isLt
  obtain rfl : r = x 0 := Fin.ext (by omega)
  obtain ⟨q, d, rfl⟩ : ∃ q d, x = ix2 q d := ⟨x 0, x 1, funext fun a => match a with | ⟨0, _⟩ => rfl | ⟨1, _⟩ => rfl⟩
  refine (HEAD_apply P C S h ho q d).trans ?_
  have h1' : e.val = o + 1 * d.val := h1
  unfold heads
  congr 1
  · exact Fin.ext (by show h.val = b + e.val / 128; omega)
  · exact Fin.ext (by show d.val = e.val % 128; omega)

/-- The tile's projection, as the body reads it. -/
def P (i : grid0.Coords) (x0 x1 : Vec Ideal S512x1024 .f32) (x2 : Vec Ideal S4x1024 .f32) (x3 : Vec Ideal S1024x1536 .bf16) : FVec Ideal S512x1536 .f32 :=
  PROJ (RES i x0 x1) (View.ld x2 r0_1) x3

theorem pay5_eq (i : grid0.Coords) (x0 x1 : Vec Ideal S512x1024 .f32) (x2 : Vec Ideal S4x1024 .f32) (x3 : Vec Ideal S1024x1536 .bf16) :
    k0_pay5 i x0 x1 (View.ld x2 r0_1) x3 = P i x0 x1 x2 x3 := rfl

theorem out_q (i : grid0.Coords) (x0 x1 : Vec Ideal S512x1024 .f32) (x2 : Vec Ideal S4x1024 .f32) (x3 : Vec Ideal S1024x1536 .bf16) (x4 x5 : Vec Ideal S512x128 .f32) (y : S512x1024.Idx) :
    out0_6 (F := Ideal) i x0 x1 x2 x3 x4 x5 y = heads 0 (by decide) (P i x0 x1 x2 x3) x4 x5 (y 0) (y 1) := by
  unfold_out out0_6
  rw [View.ld_unit_zero (by decide), View.ld_unit_zero (by decide), View.ld_unit_zero (by decide), View.ld_unit_zero (by decide), View.ld_unit_zero (by decide)]
  refine View.canon_apply_of_pieces (Val := Elt Ideal) (e := .bf16) (fun y : S512x1024.Idx => heads 0 (by decide) (P i x0 x1 x2 x3) x4 x5 (y 0) (y 1)) _ ?_ y (cover0_6 _ _ _ _ _ _ _ _ y)
  simp only [List.forall_mem_cons]
  exact ⟨fun x => store_at 0 _ _ x4 x5 7 _ x _ _ rfl 896 rfl rfl, fun x => store_at 0 _ _ x4 x5 6 _ x _ _ rfl 768 rfl rfl, fun x => store_at 0 _ _ x4 x5 5 _ x _ _ rfl 640 rfl rfl,
    fun x => store_at 0 _ _ x4 x5 4 _ x _ _ rfl 512 rfl rfl, fun x => store_at 0 _ _ x4 x5 3 _ x _ _ rfl 384 rfl rfl, fun x => store_at 0 _ _ x4 x5 2 _ x _ _ rfl 256 rfl rfl,
    fun x => store_at 0 _ _ x4 x5 1 _ x _ _ rfl 128 rfl rfl, fun x => store_at 0 _ _ x4 x5 0 _ x _ _ rfl 0 rfl rfl, fun _ h => absurd h List.not_mem_nil⟩

theorem out_k (i : grid0.Coords) (x0 x1 : Vec Ideal S512x1024 .f32) (x2 : Vec Ideal S4x1024 .f32) (x3 : Vec Ideal S1024x1536 .bf16) (x4 x5 : Vec Ideal S512x128 .f32) (y : S512x256.Idx) :
    out0_7 (F := Ideal) i x0 x1 x2 x3 x4 x5 y = heads 8 (by decide) (P i x0 x1 x2 x3) x4 x5 (y 0) (y 1) := by
  unfold_out out0_7
  rw [View.ld_unit_zero (by decide), View.ld_unit_zero (by decide), View.ld_unit_zero (by decide), View.ld_unit_zero (by decide), View.ld_unit_zero (by decide)]
  refine View.canon_apply_of_pieces (Val := Elt Ideal) (e := .bf16) (fun y : S512x256.Idx => heads 8 (by decide) (P i x0 x1 x2 x3) x4 x5 (y 0) (y 1)) _ ?_ y (cover0_7 _ _ y)
  simp only [List.forall_mem_cons]
  exact ⟨fun x => store_at 8 _ _ x4 x5 9 _ x _ _ rfl 128 rfl rfl,
    fun x => store_at 8 _ _ x4 x5 8 _ x _ _ rfl 0 rfl rfl, fun _ h => absurd h List.not_mem_nil⟩

theorem out_v (i : grid0.Coords) (x0 x1 : Vec Ideal S512x1024 .f32) (x2 : Vec Ideal S4x1024 .f32) (x3 : Vec Ideal S1024x1536 .bf16) (x4 x5 : Vec Ideal S512x128 .f32) (r : Fin 512) (e : Fin 256) :
    out0_8 (F := Ideal) i x0 x1 x2 x3 x4 x5 (ix2 r e) = P i x0 x1 x2 x3 (ix2 r ⟨1280 + e.val, by omega⟩) := by
  unfold_out out0_8
  rw [View.canon_unit_zero (by decide), View.ld_unit_zero (by decide), View.ld_unit_zero (by decide), View.ld_unit_zero (by decide)]
  show extractStridedSlice S512x256 ![0, 1280] (P i x0 x1 x2 x3) slices_S512x1536_o0_1280_S512x256 (ix2 r e) = _
  pointwise

/-- The tile's projection at an index. -/
theorem P_apply (i : grid0.Coords) (x0 x1 : Vec Ideal S512x1024 .f32) (x2 : Vec Ideal S4x1024 .f32) (x3 : Vec Ideal S1024x1536 .bf16) (r : Fin 512) (e : Fin 1536) :
    P i x0 x1 x2 x3 (ix2 r e) = proj (fun j => if (i 0).val < 32 then x0 (ix2 r j) else x1 (ix2 r j)) (fun j => x2 (ix2 0 j)) (fun k c => x3 (ix2 k c)) e := by
  unfold P
  rw [PROJ_apply, RES_of]
  have hg : (fun j : Fin 1024 => (View.ld x2 r0_1 : S1x1024.Idx → EReal) (ix2 0 j)) = fun j => x2 (ix2 0 j) :=
    funext fun j => View.ld_unit_apply_of _ _ _ _ _ _ fun a => match a with | ⟨0, _⟩ => rfl | ⟨1, _⟩ => (Nat.zero_add _).symm
  rw [hg]
  split <;> rfl

end Cert.AttnInIdeal.Val

end
-- ==== Proof.AttnInArray.lean ====
/-
  What the call at the start of an attention layer leaves in its three result arrays.
-/
module

public import proofs.«01_k».proof.Proof.AttnInPart
public import proofs.«01_k».proof.Proof.Gen.AttnInRefIdeal.Read

@[expose] public section

set_option maxRecDepth 16384

noncomputable section

namespace Cert.AttnInIdeal.Val

open Cert.AttnInIdeal Cert.AttnInIdeal.Gen Idealize.ShloMosaic Idealize.ShloMosaic.TcCoe Idealize.SL.Sem
open Idealize.ShloMosaic.Pipeline (Dat)
open Cert.Tail Cert.Turn

variable (m : (ℓ : Loc nD τ sig) → Buf (Elt Ideal) ℓ)

/-- Which block each window reads or writes at a grid point. -/
theorem idx : ∀ t : Fin cfg0.N, win0_0.index t = ![min t.val 31, 0] ∧ win0_1.index t = ![t.val - 32, 0] ∧ win0_2.index t = ![0, 0]
    ∧ win0_3.index t = ![0, 0] ∧ win0_4.index t = ![t.val % 32, 0] ∧ win0_5.index t = ![t.val % 32, 0] ∧ win0_6.index t = ![t.val, 0]
    ∧ win0_7.index t = ![t.val, 0] ∧ win0_8.index t = ![t.val, 0] :=
  (by decide +kernel : ∀ t : Fin grid0.N, _)

theorem coord : ∀ t : Fin cfg0.N, ((grid0.coords t) 0).val = t.val := (by decide +kernel : ∀ t : Fin grid0.N, _)

theorem t_lt (t : Fin cfg0.N) : t.val < 96 := t.isLt

/-- The arguments as arrays of extended reals. -/
def pA (c : Dev nD) : S16384x1024.Idx → EReal := m ((c : Thread nD τ).loc main_arg0)
def sA (c : Dev nD) : S32768x1024.Idx → EReal := m ((c : Thread nD τ).loc main_arg1)
def gA (c : Dev nD) : S4x1024.Idx → EReal := m ((c : Thread nD τ).loc main_arg2)
def wA (c : Dev nD) : S1024x1536.Idx → EReal := m ((c : Thread nD τ).loc main_arg3)

/-- The cosines and sines of every position and frequency. -/
def cosT : S16384x64.Idx → EReal := Cert.AttnInRefIdeal.Read.val_main_v36 (F := Ideal)
def sinT : S16384x64.Idx → EReal := Cert.AttnInRefIdeal.Read.val_main_v38 (F := Ideal)

/-- The residual's row `n`. -/
def res (c : Dev nD) (n : Fin 49152) (j : Fin 1024) : EReal :=
  if h : n.val < 16384 then pA m c (ix2 ⟨n.val, h⟩ j) else sA m c (ix2 ⟨n.val - 16384, by omega⟩ j)

/-- The narrowed weights hold the weights; the tables hold the cosines twice, and the sines negated and plain. -/
theorem V_18 (c : Dev nD) : (V m c main_v18 : S1024x1536.Idx → EReal) = wA m c := by
  dsimp only [V, hostOps0, List.flatten_cons, List.flatten_nil, List.append_nil, List.cons_append, List.nil_append]
  after_results_simp
  rfl
theorem V_15 (c : Dev nD) : (V m c main_v15 : S16384x128.Idx → EReal)
    = concatenate S16384x128 1 [⟨S16384x64, cosT⟩, ⟨S16384x64, cosT⟩] concatenates_S16384x64_S16384x64_S16384x128_d1 := by
  dsimp only [V, hostOps0, List.flatten_cons, List.flatten_nil, List.append_nil, List.cons_append, List.nil_append]
  after_results_simp
  rfl
theorem V_17 (c : Dev nD) : (V m c main_v17 : S16384x128.Idx → EReal)
    = concatenate S16384x128 1 [⟨S16384x64, Host.negf (F := Ideal) (φ := .f32) sinT⟩, ⟨S16384x64, sinT⟩] concatenates_S16384x64_S16384x64_S16384x128_d1 := by
  dsimp only [V, hostOps0, List.flatten_cons, List.flatten_nil, List.append_nil, List.cons_append, List.nil_append]
  after_results_simp
  rfl

theorem V_15_apply (c : Dev nD) (r : Fin 16384) (d : Fin 128) : (V m c main_v15 : S16384x128.Idx → EReal) (ix2 r d) = cosT (ix2 r ⟨d.val % 64, by omega⟩) := by
  rw [V_15]
  generalize cosT = C
  pointwise
  split <;> refine congrArg (fun k => C (ix2 r k)) (Fin.ext ?_) <;> simp only <;> omega
theorem V_17_apply (c : Dev nD) (r : Fin 16384) (d : Fin 128) : (V m c main_v17 : S16384x128.Idx → EReal) (ix2 r d)
    = if d.val < 64 then -sinT (ix2 r ⟨d.val % 64, by omega⟩) else sinT (ix2 r ⟨d.val % 64, by omega⟩) := by
  rw [V_17]
  generalize sinT = C
  pointwise
  split <;> rename_i h
  · exact congrArg (fun k => -C (ix2 r k)) (Fin.ext (by simp only; omega))
  · exact congrArg (fun k => C (ix2 r k)) (Fin.ext (by simp only; omega))

theorem p_at (c : Dev nD) (t : Fin cfg0.N) (r : Fin 512) (k : Fin 1024) : (iblk m c 0 t : S512x1024.Idx → EReal) (ix2 r k) = pA m c (ix2 ⟨min t.val 31 * 512 + r.val, by omega⟩ k) := by
  obtain ⟨i0, -⟩ := idx t
  unfold pA
  rw [← V_main_arg0 m c]
  unfold iblk
  refine congrArg (V m c main_arg0) ?_
  blk_ext [i0]

theorem s_at (c : Dev nD) (t : Fin cfg0.N) (r : Fin 512) (k : Fin 1024) : (iblk m c 1 t : S512x1024.Idx → EReal) (ix2 r k) = sA m c (ix2 ⟨(t.val - 32) * 512 + r.val, by have := t_lt t; omega⟩ k) := by
  obtain ⟨-, i0, -⟩ := idx t
  unfold sA
  rw [← V_main_arg1 m c]
  unfold iblk
  refine congrArg (V m c main_arg1) ?_
  blk_ext [i0]

theorem g_at (c : Dev nD) (t : Fin cfg0.N) (r : Fin 4) (k : Fin 1024) : (iblk m c 2 t : S4x1024.Idx → EReal) (ix2 r k) = gA m c (ix2 r k) := by
  obtain ⟨-, -, i0, -⟩ := idx t
  unfold gA
  rw [← V_main_arg2 m c]
  unfold iblk
  refine congrArg (V m c main_arg2) ?_
  blk_ext [i0]

theorem w_at (c : Dev nD) (t : Fin cfg0.N) (r : Fin 1024) (k : Fin 1536) : (iblk m c 3 t : S1024x1536.Idx → EReal) (ix2 r k) = wA m c (ix2 r k) := by
  obtain ⟨-, -, -, i0, -⟩ := idx t
  rw [← V_18 m c]
  unfold iblk
  refine congrArg (V m c main_v18) ?_
  blk_ext [i0]

theorem c_at (c : Dev nD) (t : Fin cfg0.N) (r : Fin 512) (k : Fin 128) : (iblk m c 4 t : S512x128.Idx → EReal) (ix2 r k) = (V m c main_v15 : S16384x128.Idx → EReal) (ix2 ⟨t.val % 32 * 512 + r.val, by omega⟩ k) := by
  obtain ⟨-, -, -, -, i0, -⟩ := idx t
  unfold iblk
  refine congrArg (V m c main_v15) ?_
  blk_ext [i0]

theorem n_at (c : Dev nD) (t : Fin cfg0.N) (r : Fin 512) (k : Fin 128) : (iblk m c 5 t : S512x128.Idx → EReal) (ix2 r k) = (V m c main_v17 : S16384x128.Idx → EReal) (ix2 ⟨t.val % 32 * 512 + r.val, by omega⟩ k) := by
  obtain ⟨-, -, -, -, -, i0, -⟩ := idx t
  unfold iblk
  refine congrArg (V m c main_v17) ?_
  blk_ext [i0]

theorem x_at (c : Dev nD) (t : Fin cfg0.N) (r : Fin 512) (j : Fin 1024) :
    (if ((grid0.coords t) 0).val < 32 then (iblk m c 0 t : S512x1024.Idx → EReal) (ix2 r j) else (iblk m c 1 t : S512x1024.Idx → EReal) (ix2 r j))
      = res m c ⟨t.val * 512 + r.val, by have := t_lt t; omega⟩ j := by
  have := r.isLt
  unfold res
  rw [coord]
  by_cases h : t.val < 32
  · rw [if_pos h, dif_pos (by simp only; omega), p_at]
    exact congrArg (fun n => pA m c (ix2 n j)) (Fin.ext (by show min t.val 31 * 512 + r.val = t.val * 512 + r.val; omega))
  · rw [if_neg h, dif_neg (by simp only; omega), s_at]
    exact congrArg (fun n => sA m c (ix2 n j)) (Fin.ext (by show (t.val - 32) * 512 + r.val = t.val * 512 + r.val - 16384; omega))

/-- The projected row of token `n`. -/
def line (c : Dev nD) (n : Fin 49152) (e : Fin 1536) : EReal :=
  proj (res m c n) (fun j => gA m c (ix2 0 j)) (fun k c' => wA m c (ix2 k c')) e

/-- A turned head of token `n`. -/
def turned (c : Dev nD) (n : Fin 49152) (h : Fin 12) (d : Fin 128) : EReal :=
  turn (fun f => cosT (ix2 ⟨n.val % 16384, by omega⟩ f)) (fun f => sinT (ix2 ⟨n.val % 16384, by omega⟩ f)) (head (line m c n) h) d

/-- The three results. -/
def outQ (c : Dev nD) : S49152x1024.Idx → EReal := fun i =>
  turned m c (i 0) ⟨(i 1).val / 128, by have h : (i 1).val < 1024 := (i 1).isLt; omega⟩ ⟨(i 1).val % 128, by omega⟩
def outK (c : Dev nD) : S49152x256.Idx → EReal := fun i =>
  turned m c (i 0) ⟨8 + (i 1).val / 128, by have h : (i 1).val < 256 := (i 1).isLt; omega⟩ ⟨(i 1).val % 128, by omega⟩
def outV (c : Dev nD) : S49152x256.Idx → EReal := fun i =>
  line m c (i 0) ⟨1280 + (i 1).val, by have h : (i 1).val < 256 := (i 1).isLt; omega⟩

/-- The tile's projection is the tokens' projected rows. -/
theorem P_at (c : Dev nD) (t : Fin cfg0.N) (r : Fin 512) (e : Fin 1536) :
    P (grid0.coords t) (iblk m c 0 t) (iblk m c 1 t) (iblk m c 2 t) (iblk m c 3 t) (ix2 r e) = line m c ⟨t.val * 512 + r.val, by have := t_lt t; omega⟩ e := by
  refine (P_apply _ _ _ _ _ r e).trans ?_
  unfold line
  congr 1
  · exact funext fun k => x_at m c t r k
  · exact funext fun k => g_at m c t 0 k
  · exact funext fun k => funext fun j => w_at m c t k j

/-- The tile's heads are the tokens' turned heads. -/
theorem heads_at {n : Nat} (b : Nat) (hb : 128 * b + n ≤ 1536) (c : Dev nD) (t : Fin cfg0.N) (r : Fin 512) (e : Fin n) :
    heads b hb (P (grid0.coords t) (iblk m c 0 t) (iblk m c 1 t) (iblk m c 2 t) (iblk m c 3 t)) (iblk m c 4 t) (iblk m c 5 t) r e
      = turned m c ⟨t.val * 512 + r.val, by have := t_lt t; omega⟩ ⟨b + e.val / 128, by omega⟩ ⟨e.val % 128, by omega⟩ := by
  have hr := r.isLt
  have ht := t_lt t
  have hp : (⟨t.val % 32 * 512 + r.val, by omega⟩ : Fin 16384) = ⟨(t.val * 512 + r.val) % 16384, by omega⟩ := Fin.ext (by simp only; omega)
  unfold heads lane turned
  refine Eq.trans ?_ (turn_of _ _ _ (fun d => (iblk m c 4 t : S512x128.Idx → EReal) (ix2 r d)) (fun d => (iblk m c 5 t : S512x128.Idx → EReal) (ix2 r d)) (fun d => ?_) (fun d => ?_) _)
  · rw [show (fun k => P (grid0.coords t) (iblk m c 0 t) (iblk m c 1 t) (iblk m c 2 t) (iblk m c 3 t) (ix2 r k)) = line m c ⟨t.val * 512 + r.val, by omega⟩ from
      funext fun k => P_at m c t r k]
  · rw [c_at, V_15_apply, hp]
  · rw [n_at, V_17_apply, hp]

/-- The array row that row `y 0` of grid point `t`'s block lands on; the columns are the array's. -/
theorem emb_q (t : Fin cfg0.N) (y : S512x1024.Idx) : (((cfg0.win 6).blk t).view.emb y 0).val = t.val * 512 + (y 0).val ∧ (((cfg0.win 6).blk t).view.emb y 1).val = (y 1).val := by
  obtain ⟨-, -, -, -, -, -, i0, -⟩ := idx t
  constructor <;> blk_simp [i0]
theorem emb_k (t : Fin cfg0.N) (y : S512x256.Idx) : (((cfg0.win 7).blk t).view.emb y 0).val = t.val * 512 + (y 0).val ∧ (((cfg0.win 7).blk t).view.emb y 1).val = (y 1).val := by
  obtain ⟨-, -, -, -, -, -, -, i0, -⟩ := idx t
  constructor <;> blk_simp [i0]
theorem emb_v (t : Fin cfg0.N) (y : S512x256.Idx) : (((cfg0.win 8).blk t).view.emb y 0).val = t.val * 512 + (y 0).val ∧ (((cfg0.win 8).blk t).view.emb y 1).val = (y 1).val := by
  obtain ⟨-, -, -, -, -, -, -, -, i0⟩ := idx t
  constructor <;> blk_simp [i0]

/-- One element of a block of grid point `t`, in the results. -/
theorem q_at (c : Dev nD) (t : Fin cfg0.N) (y : S512x1024.Idx) (i : S49152x1024.Idx) (h : (i 0).val = t.val * 512 + (y 0).val ∧ (i 1).val = (y 1).val) :
    out0_6 (F := Ideal) (grid0.coords t) (iblk m c 0 t) (iblk m c 1 t) (iblk m c 2 t) (iblk m c 3 t) (iblk m c 4 t) (iblk m c 5 t) y = outQ m c i := by
  refine (out_q _ _ _ _ _ _ _ y).trans ((heads_at m 0 (by decide) c t (y 0) (y 1)).trans ?_)
  unfold outQ
  congr 1
  · exact Fin.ext h.1.symm
  · exact Fin.ext (by show 0 + (y 1).val / 128 = (i 1).val / 128; rw [h.2]; omega)
  · exact Fin.ext (by show (y 1).val % 128 = (i 1).val % 128; rw [h.2])

theorem k_at (c : Dev nD) (t : Fin cfg0.N) (y : S512x256.Idx) (i : S49152x256.Idx) (h : (i 0).val = t.val * 512 + (y 0).val ∧ (i 1).val = (y 1).val) :
    out0_7 (F := Ideal) (grid0.coords t) (iblk m c 0 t) (iblk m c 1 t) (iblk m c 2 t) (iblk m c 3 t) (iblk m c 4 t) (iblk m c 5 t) y = outK m c i := by
  refine (out_k _ _ _ _ _ _ _ y).trans ((heads_at m 8 (by decide) c t (y 0) (y 1)).trans ?_)
  unfold outK
  congr 1
  · exact Fin.ext h.1.symm
  · exact Fin.ext (by show 8 + (y 1).val / 128 = 8 + (i 1).val / 128; rw [h.2])
  · exact Fin.ext (by show (y 1).val % 128 = (i 1).val % 128; rw [h.2])

theorem v_at (c : Dev nD) (t : Fin cfg0.N) (y : S512x256.Idx) (i : S49152x256.Idx) (h : (i 0).val = t.val * 512 + (y 0).val ∧ (i 1).val = (y 1).val) :
    out0_8 (F := Ideal) (grid0.coords t) (iblk m c 0 t) (iblk m c 1 t) (iblk m c 2 t) (iblk m c 3 t) (iblk m c 4 t) (iblk m c 5 t) y = outV m c i := by
  obtain ⟨r, e, rfl⟩ : ∃ r e, y = ix2 r e := ⟨y 0, y 1, funext fun a => match a with | ⟨0, _⟩ => rfl | ⟨1, _⟩ => rfl⟩
  refine (out_v _ _ _ _ _ _ _ r e).trans ((P_at m c t r _).trans ?_)
  unfold outV
  congr 1
  · exact Fin.ext h.1.symm
  · exact Fin.ext (by show 1280 + e.val = 1280 + (i 1).val; rw [h.2]; rfl)

/-- The kernel's result arrays. -/
theorem q_eq (c : Dev nD) : (dats m 0 c).arrAt 6 cfg0.N = outQ m c := by
  refine Dat.arrAt_eq_of_covers _ 6 _ (by decide +kernel) fun t hf y => ?_
  blk_simp
  rw [after0_6]
  exact q_at m c t y _ (emb_q t y)

theorem k_eq (c : Dev nD) : (dats m 0 c).arrAt 7 cfg0.N = outK m c := by
  refine Dat.arrAt_eq_of_covers _ 7 _ (by decide +kernel) fun t hf y => ?_
  blk_simp
  rw [after0_7]
  exact k_at m c t y _ (emb_k t y)

theorem v_eq (c : Dev nD) : (dats m 0 c).arrAt 8 cfg0.N = outV m c := by
  refine Dat.arrAt_eq_of_covers _ 8 _ (by decide +kernel) fun t hf y => ?_
  blk_simp
  rw [after0_8]
  exact v_at m c t y _ (emb_v t y)

end Cert.AttnInIdeal.Val

end
-- ==== Proof.AttnInRef.lean ====
/-
  The reference for the start of an attention layer at an index: the projected row of that token, its heads turned.
-/
module

public import Idealize.ShloMosaic.Lib.Pointwise
public import proofs.«01_k».proof.Proof.TurnSpec
public import proofs.«01_k».proof.Proof.Gen.AttnInRefIdeal.Read

@[expose] public section

set_option maxRecDepth 16384

noncomputable section

namespace Cert.AttnInRefIdeal.Val

open Cert.AttnInRefIdeal Cert.AttnInRefIdeal.Gen Idealize.ShloMosaic Idealize.ShloMosaic.TcCoe Idealize.SL.Sem
open Cert.Tail Cert.Turn
open Cert.AttnInRefIdeal.Read

variable (x0 : FVec Ideal S16384x1024 .f32) (x1 : FVec Ideal S32768x1024 .f32) (x2 : FVec Ideal S4x1024 .f32) (x3 : FVec Ideal S1024x1536 .f32)

/-- The residual's row `n`. -/
def res (n : Fin 49152) (j : Fin 1024) : EReal :=
  if h : n.val < 16384 then x0 (ix2 ⟨n.val, h⟩ j) else x1 (ix2 ⟨n.val - 16384, by omega⟩ j)

theorem v0 (n : Fin 49152) (j : Fin 1024) : val_main_v0 (F := Ideal) x0 x1 (ix2 n j) = res x0 x1 n j := by
  pointwise [val_main_v0]
  rfl

/-- The norm of every row. -/
theorem v15 (n : Fin 49152) (j : Fin 1024) : val_main_v15 (F := Ideal) x0 x1 x2 (ix2 n j) = rms (res x0 x1 n) (fun j => x2 (ix2 0 j)) j := by
  have h := v0 x0 x1 n
  unfold val_main_v15 val_main_v14 val_main_v13 val_main_v12 val_main_v11 val_main_v10 val_main_v9 val_main_v7 val_main_v5 val_main_v4 val_main_v3 val_main_v2
  generalize val_main_v0 (F := Ideal) x0 x1 = X at h ⊢
  rw [show res x0 x1 n = fun j => X (ix2 n j) from (funext h).symm]
  pointwise [val_main_v1, val_main_v6, val_main_v8, val_main_cst, val_main_cst_0, val_main_cst_1]
  rfl

/-- The projected row of token `n`. -/
def line (n : Fin 49152) (e : Fin 1536) : EReal := proj (res x0 x1 n) (fun j => x2 (ix2 0 j)) (fun k c => x3 (ix2 k c)) e

theorem v16 (n : Fin 49152) (e : Fin 1536) : val_main_v16 (F := Ideal) x0 x1 x2 x3 (ix2 n e) = line x0 x1 x2 x3 n e := by
  have h := v15 x0 x1 x2 n
  unfold val_main_v16 line proj
  generalize val_main_v15 (F := Ideal) x0 x1 x2 = X at h ⊢
  pointwise
  exact Finset.sum_congr rfl fun k _ => congrArg (· * _) (h k)

/-- Row `p` of sequence `s` is a token. -/
theorem v17 (i : S3x16384x1536.Idx) (n : Fin 49152) (e : Fin 1536) (hn : n.val = (i 0).val * 16384 + (i 1).val) (he : e.val = (i 2).val) :
    val_main_v17 (F := Ideal) x0 x1 x2 x3 i = line x0 x1 x2 x3 n e := by
  have h2 : (i 2).val < 1536 := (i 2).isLt
  have hi : idx_main_v17 i = ix2 n e := by
    funext a
    refine Fin.ext ?_
    match a with
    | ⟨0, _⟩ => show (((i 0).val * 16384 + (i 1).val) * 1536 + (i 2).val) / 1536 = n.val; omega
    | ⟨1, _⟩ => show (((i 0).val * 16384 + (i 1).val) * 1536 + (i 2).val) % 1536 = e.val; omega
  rw [val_main_v17_apply, hi]
  exact v16 x0 x1 x2 x3 n e

theorem v19 (s : Fin 3) (p : Fin 16384) (h : Fin 8) (d : Fin 128) :
    val_main_v19 (F := Ideal) x0 x1 x2 x3 (ix4 s p h d) = head (line x0 x1 x2 x3 ⟨s.val * 16384 + p.val, by omega⟩) ⟨h.val, by omega⟩ d := by
  rw [val_main_v19_apply, val_main_v18_apply]
  refine v17 x0 x1 x2 x3 _ _ _ ?_ ?_
  · show s.val * 16384 + p.val = (((s.val * 16384 + p.val) * 8 + h.val) * 128 + d.val) / 16777216 * 16384 + (((s.val * 16384 + p.val) * 8 + h.val) * 128 + d.val) / 1024 % 16384
    omega
  · show 128 * h.val + d.val = (((s.val * 16384 + p.val) * 8 + h.val) * 128 + d.val) % 1024
    omega

theorem v21 (s : Fin 3) (p : Fin 16384) (h : Fin 2) (d : Fin 128) :
    val_main_v21 (F := Ideal) x0 x1 x2 x3 (ix4 s p h d) = head (line x0 x1 x2 x3 ⟨s.val * 16384 + p.val, by omega⟩) ⟨8 + h.val, by omega⟩ d := by
  rw [val_main_v21_apply, val_main_v20_apply]
  refine v17 x0 x1 x2 x3 _ _ _ ?_ ?_
  · show s.val * 16384 + p.val = (((s.val * 16384 + p.val) * 2 + h.val) * 128 + d.val) / 4194304 * 16384 + (((s.val * 16384 + p.val) * 2 + h.val) * 128 + d.val) / 256 % 16384
    omega
  · show 128 * (8 + h.val) + d.val = 1024 + (((s.val * 16384 + p.val) * 2 + h.val) * 128 + d.val) % 256
    omega

/-- The cosines and sines of every position and frequency, used for the queries and for the keys. -/
def cosT : S16384x64.Idx → EReal := val_main_v36 (F := Ideal)
def sinT : S16384x64.Idx → EReal := val_main_v38 (F := Ideal)

theorem ext2 {a b : Nat} {i : (⟨2, ![a, b]⟩ : Shape).Idx} {p : Fin a} {q : Fin b} (h0 : (i 0).val = p.val) (h1 : (i 1).val = q.val) : i = ix2 p q :=
  funext fun k => match k with | ⟨0, _⟩ => Fin.ext h0 | ⟨1, _⟩ => Fin.ext h1
theorem ext4 {a b c d : Nat} {i : (⟨4, ![a, b, c, d]⟩ : Shape).Idx} {p : Fin a} {q : Fin b} {r : Fin c} {s : Fin d} (h0 : (i 0).val = p.val) (h1 : (i 1).val = q.val)
    (h2 : (i 2).val = r.val) (h3 : (i 3).val = s.val) : i = ix4 p q r s :=
  funext fun k => match k with | ⟨0, _⟩ => Fin.ext h0 | ⟨1, _⟩ => Fin.ext h1 | ⟨2, _⟩ => Fin.ext h2 | ⟨3, _⟩ => Fin.ext h3

/-- Two halves side by side. -/
theorem halves (K : Nat) (A B : FVec Ideal ⟨4, ![3, 16384, K, 64]⟩ .f32) (hc) (s : Fin 3) (p : Fin 16384) (h : Fin K) (d : Fin 128) :
    concatenate ⟨4, ![3, 16384, K, 128]⟩ 3 [⟨⟨4, ![3, 16384, K, 64]⟩, A⟩, ⟨⟨4, ![3, 16384, K, 64]⟩, B⟩] hc (ix4 s p h d)
      = if h' : d.val < 64 then A (ix4 s p h ⟨d.val, h'⟩) else B (ix4 s p h ⟨d.val - 64, by omega⟩) := by
  pointwise
  split
  · exact congrArg A (ext4 rfl rfl rfl rfl)
  · exact congrArg B (ext4 rfl rfl rfl rfl)

/-- The two halves of a turned head of the queries, and of the keys. -/
theorem v48 (s : Fin 3) (p : Fin 16384) (h : Fin 8) (d : Fin 64) : val_main_v48 (F := Ideal) x0 x1 x2 x3 (ix4 s p h d)
    = val_main_v19 (F := Ideal) x0 x1 x2 x3 (ix4 s p h ⟨d.val, by omega⟩) * cosT (ix2 p d) - val_main_v19 (F := Ideal) x0 x1 x2 x3 (ix4 s p h ⟨64 + d.val, by omega⟩) * sinT (ix2 p d) := by
  rw [val_main_v48_apply, val_main_v44_apply, val_main_v47_apply, val_main_v40_apply, val_main_v41_apply, val_main_v43_apply, val_main_v42_apply, val_main_v37_apply,
    val_main_v46_apply, val_main_v45_apply, val_main_v39_apply, show cosT = val_main_v36 (F := Ideal) from rfl, show sinT = val_main_v38 (F := Ideal) from rfl]
  exact congr (congrArg _ (congr (congrArg _ (congrArg _ (ext4 rfl rfl rfl rfl))) (congrArg _ (ext2 rfl rfl)))) (congr (congrArg _ (congrArg _ (ext4 rfl rfl rfl rfl))) (congrArg _ (ext2 rfl rfl)))
theorem v55 (s : Fin 3) (p : Fin 16384) (h : Fin 8) (d : Fin 64) : val_main_v55 (F := Ideal) x0 x1 x2 x3 (ix4 s p h d)
    = val_main_v19 (F := Ideal) x0 x1 x2 x3 (ix4 s p h ⟨64 + d.val, by omega⟩) * cosT (ix2 p d) + val_main_v19 (F := Ideal) x0 x1 x2 x3 (ix4 s p h ⟨d.val, by omega⟩) * sinT (ix2 p d) := by
  rw [val_main_v55_apply, val_main_v51_apply, val_main_v54_apply, val_main_v41_apply, val_main_v40_apply, val_main_v50_apply, val_main_v49_apply, val_main_v37_apply,
    val_main_v53_apply, val_main_v52_apply, val_main_v39_apply, show cosT = val_main_v36 (F := Ideal) from rfl, show sinT = val_main_v38 (F := Ideal) from rfl]
  exact congr (congrArg _ (congr (congrArg _ (congrArg _ (ext4 rfl rfl rfl rfl))) (congrArg _ (ext2 rfl rfl)))) (congr (congrArg _ (congrArg _ (ext4 rfl rfl rfl rfl))) (congrArg _ (ext2 rfl rfl)))
theorem v81 (s : Fin 3) (p : Fin 16384) (h : Fin 2) (d : Fin 64) : val_main_v81 (F := Ideal) x0 x1 x2 x3 (ix4 s p h d)
    = val_main_v21 (F := Ideal) x0 x1 x2 x3 (ix4 s p h ⟨d.val, by omega⟩) * cosT (ix2 p d) - val_main_v21 (F := Ideal) x0 x1 x2 x3 (ix4 s p h ⟨64 + d.val, by omega⟩) * sinT (ix2 p d) := by
  rw [val_main_v81_apply, val_main_v77_apply, val_main_v80_apply, val_main_v73_apply, val_main_v74_apply, val_main_v76_apply, val_main_v75_apply, val_main_v70_apply,
    val_main_v79_apply, val_main_v78_apply, val_main_v72_apply, show cosT = val_main_v69 (F := Ideal) from rfl, show sinT = val_main_v71 (F := Ideal) from rfl]
  exact congr (congrArg _ (congr (congrArg _ (congrArg _ (ext4 rfl rfl rfl rfl))) (congrArg _ (ext2 rfl rfl)))) (congr (congrArg _ (congrArg _ (ext4 rfl rfl rfl rfl))) (congrArg _ (ext2 rfl rfl)))
theorem v88 (s : Fin 3) (p : Fin 16384) (h : Fin 2) (d : Fin 64) : val_main_v88 (F := Ideal) x0 x1 x2 x3 (ix4 s p h d)
    = val_main_v21 (F := Ideal) x0 x1 x2 x3 (ix4 s p h ⟨64 + d.val, by omega⟩) * cosT (ix2 p d) + val_main_v21 (F := Ideal) x0 x1 x2 x3 (ix4 s p h ⟨d.val, by omega⟩) * sinT (ix2 p d) := by
  rw [val_main_v88_apply, val_main_v84_apply, val_main_v87_apply, val_main_v74_apply, val_main_v73_apply, val_main_v83_apply, val_main_v82_apply, val_main_v70_apply,
    val_main_v86_apply, val_main_v85_apply, val_main_v72_apply, show cosT = val_main_v69 (F := Ideal) from rfl, show sinT = val_main_v71 (F := Ideal) from rfl]
  exact congr (congrArg _ (congr (congrArg _ (congrArg _ (ext4 rfl rfl rfl rfl))) (congrArg _ (ext2 rfl rfl)))) (congr (congrArg _ (congrArg _ (ext4 rfl rfl rfl rfl))) (congrArg _ (ext2 rfl rfl)))

/-- A turned head of the queries, and of the keys. -/
theorem v56 (s : Fin 3) (p : Fin 16384) (h : Fin 8) (d : Fin 128) : val_main_v56 (F := Ideal) x0 x1 x2 x3 (ix4 s p h d)
    = turn (fun f => cosT (ix2 p f)) (fun f => sinT (ix2 p f)) (fun d => val_main_v19 (F := Ideal) x0 x1 x2 x3 (ix4 s p h d)) d := by
  unfold val_main_v56 turn
  refine (halves 8 _ _ _ s p h d).trans ?_
  split
  · exact v48 x0 x1 x2 x3 s p h _
  · exact v55 x0 x1 x2 x3 s p h _
theorem v89 (s : Fin 3) (p : Fin 16384) (h : Fin 2) (d : Fin 128) : val_main_v89 (F := Ideal) x0 x1 x2 x3 (ix4 s p h d)
    = turn (fun f => cosT (ix2 p f)) (fun f => sinT (ix2 p f)) (fun d => val_main_v21 (F := Ideal) x0 x1 x2 x3 (ix4 s p h d)) d := by
  unfold val_main_v89 turn
  refine (halves 2 _ _ _ s p h d).trans ?_
  split
  · exact v81 x0 x1 x2 x3 s p h _
  · exact v88 x0 x1 x2 x3 s p h _

/-- A turned head of token `n`. -/
def turned (n : Fin 49152) (h : Fin 12) (d : Fin 128) : EReal :=
  turn (fun f => cosT (ix2 ⟨n.val % 16384, by omega⟩ f)) (fun f => sinT (ix2 ⟨n.val % 16384, by omega⟩ f)) (head (line x0 x1 x2 x3 n) h) d

theorem q_eq (n : Fin 49152) (e : Fin 1024) : val_main_v91 (F := Ideal) x0 x1 x2 x3 (ix2 n e)
    = turned x0 x1 x2 x3 n ⟨e.val / 128, by omega⟩ ⟨e.val % 128, by omega⟩ := by
  have hi : idx_main_v90 (ix2 n e) = ix4 (⟨n.val / 16384, by omega⟩ : Fin 3) (⟨n.val % 16384, by omega⟩ : Fin 16384) (⟨e.val / 128, by omega⟩ : Fin 8) (⟨e.val % 128, by omega⟩ : Fin 128) := by
    funext a
    refine Fin.ext ?_
    match a with
    | ⟨0, _⟩ => show (n.val * 1024 + e.val) / 16777216 = n.val / 16384; omega
    | ⟨1, _⟩ => show (n.val * 1024 + e.val) / 1024 % 16384 = n.val % 16384; omega
    | ⟨2, _⟩ => show (n.val * 1024 + e.val) / 128 % 8 = e.val / 128; omega
    | ⟨3, _⟩ => show (n.val * 1024 + e.val) % 128 = e.val % 128; omega
  rw [val_main_v91_apply, val_main_v90_apply, hi]
  refine (v56 x0 x1 x2 x3 _ _ _ _).trans ?_
  have hn : (⟨n.val / 16384 * 16384 + n.val % 16384, by omega⟩ : Fin 49152) = n := Fin.ext (by simp only; omega)
  unfold turned
  congr 1
  exact funext fun d => (v19 x0 x1 x2 x3 _ _ _ d).trans (by rw [hn])

theorem k_eq (n : Fin 49152) (e : Fin 256) : val_main_v93 (F := Ideal) x0 x1 x2 x3 (ix2 n e)
    = turned x0 x1 x2 x3 n ⟨8 + e.val / 128, by omega⟩ ⟨e.val % 128, by omega⟩ := by
  have hi : idx_main_v92 (ix2 n e) = ix4 (⟨n.val / 16384, by omega⟩ : Fin 3) (⟨n.val % 16384, by omega⟩ : Fin 16384) (⟨e.val / 128, by omega⟩ : Fin 2) (⟨e.val % 128, by omega⟩ : Fin 128) := by
    funext a
    refine Fin.ext ?_
    match a with
    | ⟨0, _⟩ => show (n.val * 256 + e.val) / 4194304 = n.val / 16384; omega
    | ⟨1, _⟩ => show (n.val * 256 + e.val) / 256 % 16384 = n.val % 16384; omega
    | ⟨2, _⟩ => show (n.val * 256 + e.val) / 128 % 2 = e.val / 128; omega
    | ⟨3, _⟩ => show (n.val * 256 + e.val) % 128 = e.val % 128; omega
  rw [val_main_v93_apply, val_main_v92_apply, hi]
  refine (v89 x0 x1 x2 x3 _ _ _ _).trans ?_
  have hn : (⟨n.val / 16384 * 16384 + n.val % 16384, by omega⟩ : Fin 49152) = n := Fin.ext (by simp only; omega)
  unfold turned
  congr 1
  exact funext fun d => (v21 x0 x1 x2 x3 _ _ _ d).trans (by rw [hn])

theorem v_eq (n : Fin 49152) (e : Fin 256) : val_main_v95 (F := Ideal) x0 x1 x2 x3 (ix2 n e) = line x0 x1 x2 x3 n ⟨1280 + e.val, by omega⟩ := by
  rw [val_main_v95_apply, val_main_v94_apply, val_main_v22_apply]
  refine v17 x0 x1 x2 x3 _ _ _ ?_ ?_
  · show n.val = (n.val * 256 + e.val) / 4194304 * 16384 + (n.val * 256 + e.val) / 256 % 16384
    omega
  · show 1280 + e.val = 1280 + (n.val * 256 + e.val) % 256
    omega

end Cert.AttnInRefIdeal.Val

end
-- ==== Proof.GdnSpec.lean ====
/-
  The short convolution of a gated layer, its activation and the length of its heads, as plain sums.
-/
module

public import proofs.«01_k».proof.Proof.TurnSpec

@[expose] public section

noncomputable section

namespace Cert.Gdn

open Idealize.ShloMosaic Cert.Tail Cert.Turn

/-- A number times its logistic. -/
def silu (x : EReal) : EReal := x * Ideal.logistic x

/-- The five taps of the convolution. -/
def taps (p c : Fin 5 → EReal) : EReal := p 0 * c 0 + p 1 * c 1 + p 2 * c 2 + p 3 * c 3 + p 4 * c 4

/-- A head of 128 lanes over its length. -/
def unit (f : Fin 128 → EReal) (d : Fin 128) : EReal := f d * Ideal.rsqrt (∑ e, f e * f e + eps)

/-- The scale of the queries, as the programs write it. -/
def scale : EReal := Ideal.ofBits .f32 0x3DB504F3#32

/-- A head of a convolved row of 32 heads. -/
def head (a : Fin 4096 → EReal) (h : Fin 32) (d : Fin 128) : EReal := unit (fun e => a ⟨128 * h.val + e.val, by omega⟩) d

/-- The projection of a row of zeros is zero. -/
theorem proj_zero {N : Nat} (g : Fin 1024 → EReal) (w : Fin 1024 → Fin N → EReal) (c : Fin N) : proj (fun _ => 0) g w c = 0 := by
  unfold proj rms
  simp only [zero_mul, Finset.sum_const_zero]

end Cert.Gdn

end
-- ==== Proof.GdnInPart.lean ====
/-
  One tile at the start of a gated layer: the norm of 512 tokens and of the 16 on either side, their projection, the
  convolution over five of them and the heads the tile stores.
-/
module

public import Idealize.ShloMosaic.Lib.Pointwise
public import Idealize.ShloMosaic.Lib.Pipeline.ValueKit
public import proofs.«01_k».proof.Proof.GdnSpec
public import proofs.«01_k».proof.Proof.Gen.GdnInIdeal.Value

@[expose] public section

set_option maxRecDepth 16384

noncomputable section

namespace Cert.GdnInIdeal.Val

open Cert.GdnInIdeal Cert.GdnInIdeal.Gen Idealize.ShloMosaic Idealize.ShloMosaic.TcCoe Idealize.SL.Sem
open Cert.Tail Cert.Gdn
open Cert.Turn (proj)

/-- The tile's place in its sequence, as the body computes it: its first token. -/
def place (n : BitVec 32) : BitVec 32 :=
  Scalar.select (Scalar.andi (Scalar.xori (Scalar.cmpi .slt (Scalar.remsi (Scalar.muli n 512#32) (Scalar.select (Scalar.cmpi .eq 16384#32 0#32) 1#32 16384#32)) 0#32)
    (Scalar.cmpi .slt (Scalar.select (Scalar.cmpi .eq 16384#32 0#32) 1#32 16384#32) 0#32))
    (Scalar.cmpi .ne (Scalar.remsi (Scalar.muli n 512#32) (Scalar.select (Scalar.cmpi .eq 16384#32 0#32) 1#32 16384#32)) 0#32))
    (Scalar.addi (Scalar.remsi (Scalar.muli n 512#32) (Scalar.select (Scalar.cmpi .eq 16384#32 0#32) 1#32 16384#32)) (Scalar.select (Scalar.cmpi .eq 16384#32 0#32) 1#32 16384#32))
    (Scalar.remsi (Scalar.muli n 512#32) (Scalar.select (Scalar.cmpi .eq 16384#32 0#32) 1#32 16384#32))

/-- The 16 tokens before the tile, zero at the start of a sequence, and the 16 after it, zero at its end. -/
def BEFORE (i : grid0.Coords) (x : Vec Ideal S16x1024 .f32) : FVec Ideal S16x1024 .f32 :=
  Scalar.select (Scalar.cmpi .eq (place (BitVec.ofNat 32 (i 0).val)) 0#32) (broadcast S16x1024 (Scalar.ofBits .f32 0x00000000#32)) x
def AFTER (i : grid0.Coords) (x : Vec Ideal S16x1024 .f32) : FVec Ideal S16x1024 .f32 :=
  Scalar.select (Scalar.cmpi .eq (Scalar.addi (place (BitVec.ofNat 32 (i 0).val)) 512#32) 16384#32) (broadcast S16x1024 (Scalar.ofBits .f32 0x00000000#32)) x

theorem BEFORE_apply (i : grid0.Coords) (x : Vec Ideal S16x1024 .f32) (j : S16x1024.Idx) : BEFORE i x j = if (i 0).val % 32 = 0 then 0 else x j := by
  have h : ∀ n : Fin 96, Scalar.cmpi .eq (place (BitVec.ofNat 32 n.val)) 0#32 = if n.val % 32 = 0 then 1#1 else 0#1 := by decide +kernel
  unfold BEFORE
  rw [h (i 0)]
  split
  · exact Ideal.ofBits_zero_f32
  · rfl

theorem AFTER_apply (i : grid0.Coords) (x : Vec Ideal S16x1024 .f32) (j : S16x1024.Idx) : AFTER i x j = if (i 0).val % 32 = 31 then 0 else x j := by
  have h : ∀ n : Fin 96, Scalar.cmpi .eq (Scalar.addi (place (BitVec.ofNat 32 n.val)) 512#32) 16384#32 = if n.val % 32 = 31 then 1#1 else 0#1 := by decide +kernel
  unfold AFTER
  rw [h (i 0)]
  split
  · exact Ideal.ofBits_zero_f32
  · rfl

/-- The norm of the tile's 544 rows. -/
def NORM (x : FVec Ideal S544x1024 .f32) (g : FVec Ideal S1x1024 .f32) : FVec Ideal S544x1024 .bf16 :=
  truncf .bf16 (mulf (mulf x (broadcastTo S544x1024 (rsqrt (addf (divf (shapeCast S544x1 (multiReduction .add [1] S544 (mulf x x) 0x00000000#32 reduces_S544x1024_S544 (.inl rfl) rfl)
      shapeCasts_S544_S544x1) (broadcast S544x1 (Scalar.ofBits .f32 0x44800000#32))) (broadcast S544x1 (Scalar.ofBits .f32 0x358637BD#32)))) broadcasts_S544x1_S544x1024))
      (broadcastTo S544x1024 g broadcasts_S1x1024_S544x1024)) bitsLt_bf16_f32

theorem NORM_apply (x : FVec Ideal S544x1024 .f32) (g : FVec Ideal S1x1024 .f32) (a : Fin 544) (k : Fin 1024) :
    NORM x g (ix2 a k) = rms (fun j => x (ix2 a j)) (fun j => g (ix2 0 j)) k := by
  pointwise [NORM]
  rfl

/-- The tile's 544 rows. -/
def ROWS (p : FVec Ideal S16x1024 .f32) (x : FVec Ideal S512x1024 .f32) (n : FVec Ideal S16x1024 .f32) : FVec Ideal S544x1024 .f32 :=
  concatenate S544x1024 0 [⟨S16x1024, p⟩, ⟨S512x1024, x⟩, ⟨S16x1024, n⟩] concatenates_S16x1024_S512x1024_S16x1024_S544x1024_d0

theorem ROWS_apply (p : FVec Ideal S16x1024 .f32) (x : FVec Ideal S512x1024 .f32) (n : FVec Ideal S16x1024 .f32) (a : Fin 544) (k : Fin 1024) :
    ROWS p x n (ix2 a k) = if h : a.val < 16 then p (ix2 ⟨a.val, h⟩ k) else if h' : a.val - 16 < 512 then x (ix2 ⟨a.val - 16, h'⟩ k) else n (ix2 ⟨a.val - 16 - 512, by omega⟩ k) := by
  pointwise [ROWS]

/-- Row `a` of the tile and its surroundings. -/
def tile (i : grid0.Coords) (x0 : Vec Ideal S16x1024 .f32) (x1 : Vec Ideal S512x1024 .f32) (x2 : Vec Ideal S16x1024 .f32) (a : Fin 544) (j : Fin 1024) : EReal :=
  if h : a.val < 16 then (if (i 0).val % 32 = 0 then 0 else x0 (ix2 ⟨a.val, h⟩ j))
  else if h' : a.val - 16 < 512 then x1 (ix2 ⟨a.val - 16, h'⟩ j) else if (i 0).val % 32 = 31 then 0 else x2 (ix2 ⟨a.val - 16 - 512, by omega⟩ j)

/-- The normed rows, as the body holds them. -/
def H (i : grid0.Coords) (x0 : Vec Ideal S16x1024 .f32) (x1 : Vec Ideal S512x1024 .f32) (x2 : Vec Ideal S16x1024 .f32) (x3 : Vec Ideal S4x1024 .f32) : FVec Ideal S544x1024 .bf16 :=
  k0_pay1 i (View.ld x3 r0_0) (View.ld x0 r0_1) (View.ld x2 r0_1) (View.ld x1 r0_2)

theorem pay1_eq (i : grid0.Coords) (g : FVec Ideal S1x1024 .f32) (p n : FVec Ideal S16x1024 .f32) (x : FVec Ideal S512x1024 .f32) :
    k0_pay1 (F := Ideal) i g p n x = NORM (ROWS (BEFORE i p) x (AFTER i n)) g := rfl

theorem H_apply (i : grid0.Coords) (x0 : Vec Ideal S16x1024 .f32) (x1 : Vec Ideal S512x1024 .f32) (x2 : Vec Ideal S16x1024 .f32) (x3 : Vec Ideal S4x1024 .f32) (a : Fin 544) (k : Fin 1024) :
    H i x0 x1 x2 x3 (ix2 a k) = rms (tile i x0 x1 x2 a) (fun j => x3 (ix2 0 j)) k := by
  unfold H
  rw [View.ld_unit_zero (by decide), View.ld_unit_zero (by decide), View.ld_unit_zero (by decide), pay1_eq, NORM_apply]
  have hg : (fun j : Fin 1024 => (View.ld x3 r0_0 : S1x1024.Idx → EReal) (ix2 0 j)) = fun j => x3 (ix2 0 j) :=
    funext fun j => View.ld_unit_apply_of _ _ _ _ _ _ fun a => match a with | ⟨0, _⟩ => rfl | ⟨1, _⟩ => (Nat.zero_add _).symm
  rw [hg]
  refine congrArg (fun f => rms f _ k) (funext fun j => ?_)
  rw [ROWS_apply]
  simp only [BEFORE_apply, AFTER_apply]
  rfl

/-- 512 columns of the projection, and of one tap of the convolution, from column `512 * b` on. -/
def wcol (x4 : Vec Ideal S1024x4096 .bf16) (b : Fin 8) : FVec Ideal S1024x512 .bf16 :=
  View.ld x4 (Rect.unit (s := S1024x4096) ![0, 512 * b.val] S1024x512.size (by revert b; decide))
def ccol (x7 : Vec Ideal S5x4096 .f32) (j : Fin 5) (b : Fin 8) : FVec Ideal S1x512 .f32 :=
  View.ld x7 (Rect.unit (s := S5x4096) ![j.val, 512 * b.val] S1x512.size (by revert j b; decide))

theorem wcol_apply (x4 : Vec Ideal S1024x4096 .bf16) (b : Fin 8) (k : Fin 1024) (c : Fin 512) : wcol x4 b (ix2 k c) = x4 (ix2 k ⟨512 * b.val + c.val, by omega⟩) :=
  View.ld_unit_apply_of _ _ _ _ _ _ fun a => match a with | ⟨0, _⟩ => (Nat.zero_add _).symm | ⟨1, _⟩ => rfl
theorem ccol_apply (x7 : Vec Ideal S5x4096 .f32) (j : Fin 5) (b : Fin 8) (c : Fin 512) : ccol x7 j b (ix2 0 c) = x7 (ix2 j ⟨512 * b.val + c.val, by omega⟩) :=
  View.ld_unit_apply_of _ _ _ _ _ _ fun a => match a with | ⟨0, _⟩ => rfl | ⟨1, _⟩ => rfl

/-- The activated convolution of 512 columns. -/
def ACT (h : FVec Ideal S544x1024 .bf16) (x4 : Vec Ideal S1024x4096 .bf16) (x7 : Vec Ideal S5x4096 .f32) (b : Fin 8) : FVec Ideal S512x512 .f32 :=
  k0_pay3 h (wcol x4 b) (ccol x7 0 b) (ccol x7 1 b) (ccol x7 2 b) (ccol x7 3 b) (ccol x7 4 b)

theorem pay3_apply (h : FVec Ideal S544x1024 .bf16) (w : FVec Ideal S1024x512 .bf16) (c : Fin 5 → FVec Ideal S1x512 .f32) (r : Fin 512) (e : Fin 512) :
    k0_pay3 (F := Ideal) h w (c 0) (c 1) (c 2) (c 3) (c 4) (ix2 r e)
      = silu (taps (fun j => ∑ k, h (ix2 ⟨14 + j.val + r.val, by omega⟩ k) * w (ix2 k e)) (fun j => c j (ix2 0 e))) := by
  pointwise [k0_pay3]
  rfl

/-- Column `e` of the activated convolution of token `r` of the tile. -/
def acts (i : grid0.Coords) (x0 : Vec Ideal S16x1024 .f32) (x1 : Vec Ideal S512x1024 .f32) (x2 : Vec Ideal S16x1024 .f32) (x3 : Vec Ideal S4x1024 .f32)
    (x4 : Vec Ideal S1024x4096 .bf16) (x7 : Vec Ideal S5x4096 .f32) (r : Fin 512) (e : Fin 4096) : EReal :=
  silu (taps (fun j => proj (tile i x0 x1 x2 ⟨14 + j.val + r.val, by omega⟩) (fun k => x3 (ix2 0 k)) (fun k c => x4 (ix2 k c)) e) (fun j => x7 (ix2 j e)))

theorem ACT_apply (i : grid0.Coords) (x0 : Vec Ideal S16x1024 .f32) (x1 : Vec Ideal S512x1024 .f32) (x2 : Vec Ideal S16x1024 .f32) (x3 : Vec Ideal S4x1024 .f32)
    (x4 : Vec Ideal S1024x4096 .bf16) (x7 : Vec Ideal S5x4096 .f32) (b : Fin 8) (r : Fin 512) (e : Fin 512) :
    ACT (H i x0 x1 x2 x3) x4 x7 b (ix2 r e) = acts i x0 x1 x2 x3 x4 x7 r ⟨512 * b.val + e.val, by omega⟩ := by
  unfold ACT
  refine (pay3_apply _ _ (fun j => ccol x7 j b) r e).trans ?_
  unfold acts proj
  simp only [H_apply, wcol_apply, ccol_apply]

/-- A head of 128 columns, over its length. -/
def UNIT (A : FVec Ideal S512x512 .f32) (o : Nat) (ho : S512x512.Slices ![0, o] S512x128) : FVec Ideal S512x128 .f32 :=
  mulf (extractStridedSlice S512x128 ![0, o] A ho) (broadcastTo S512x128 (rsqrt (addf (shapeCast S512x1
    (multiReduction .add [1] S512 (mulf (extractStridedSlice S512x128 ![0, o] A ho) (extractStridedSlice S512x128 ![0, o] A ho)) 0x00000000#32 reduces_S512x128_S512 (.inl rfl) rfl)
    shapeCasts_S512_S512x1) (broadcast S512x1 (Scalar.ofBits .f32 0x358637BD#32)))) broadcasts_S512x1_S512x128)

theorem UNIT_apply (A : FVec Ideal S512x512 .f32) (o : Fin 4) (ho : S512x512.Slices ![0, 128 * o.val] S512x128) (r : Fin 512) (d : Fin 128) :
    UNIT A (128 * o.val) ho (ix2 r d) = unit (fun e => A (ix2 r ⟨128 * o.val + e.val, by omega⟩)) d := by
  pointwise [UNIT]
  rfl

/-- What is stored of such a head: the queries scaled, the keys, the keys turned; and of the values the activation itself. -/
def QP (A : FVec Ideal S512x512 .f32) (o : Nat) (ho : S512x512.Slices ![0, o] S512x128) : FVec Ideal S512x128 .bf16 :=
  truncf .bf16 (mulf (UNIT A o ho) (broadcast S512x128 (Scalar.ofBits .f32 0x3DB504F3#32))) bitsLt_bf16_f32
def KP (A : FVec Ideal S512x512 .f32) (o : Nat) (ho : S512x512.Slices ![0, o] S512x128) : FVec Ideal S512x128 .bf16 :=
  truncf .bf16 (UNIT A o ho) bitsLt_bf16_f32
def TP (A : FVec Ideal S512x512 .f32) (o : Nat) (ho : S512x512.Slices ![0, o] S512x128) : FVec Ideal S1x128x512 .f32 :=
  shapeCast S1x128x512 (transpose S128x512 [1, 0] (UNIT A o ho) transposes_S512x128_p1_0_S128x512) shapeCasts_S128x512_S1x128x512
def VP (A : FVec Ideal S512x512 .f32) (o : Nat) (ho : S512x512.Slices ![0, o] S512x128) : FVec Ideal S512x128 .bf16 :=
  truncf .bf16 (extractStridedSlice S512x128 ![0, o] A ho) bitsLt_bf16_f32

theorem QP_apply (A : FVec Ideal S512x512 .f32) (o : Nat) (ho : S512x512.Slices ![0, o] S512x128) (r : Fin 512) (d : Fin 128) :
    QP A o ho (ix2 r d) = UNIT A o ho (ix2 r d) * scale := by
  unfold QP
  generalize UNIT A o ho = u
  pointwise
  rfl
theorem TP_apply (A : FVec Ideal S512x512 .f32) (o : Nat) (ho : S512x512.Slices ![0, o] S512x128) (z : Fin 1) (d : Fin 128) (r : Fin 512) :
    TP A o ho (ix3 z d r) = UNIT A o ho (ix2 r d) := by
  unfold TP
  generalize UNIT A o ho = u
  pointwise
theorem VP_apply (A : FVec Ideal S512x512 .f32) (o : Fin 4) (ho : S512x512.Slices ![0, 128 * o.val] S512x128) (r : Fin 512) (d : Fin 128) :
    VP A (128 * o.val) ho (ix2 r d) = A (ix2 r ⟨128 * o.val + d.val, by omega⟩) := by
  pointwise [VP]

/-- The four heads of a block of 512 columns lie in it. -/
theorem cut : ∀ o : Fin 4, S512x512.Slices ![0, 128 * o.val] S512x128
  | 0 => slices_S512x512_o0_0_S512x128
  | 1 => slices_S512x512_o0_128_S512x128
  | 2 => slices_S512x512_o0_256_S512x128
  | 3 => slices_S512x512_o0_384_S512x128

section Stores

variable (i : grid0.Coords) (x0 : Vec Ideal S16x1024 .f32) (x1 : Vec Ideal S512x1024 .f32) (x2 : Vec Ideal S16x1024 .f32) (x3 : Vec Ideal S4x1024 .f32)
  (x4 : Vec Ideal S1024x4096 .bf16) (x5 : Vec Ideal S1024x2048 .bf16) (x6 : Vec Ideal S1024x128 .bf16) (x7 : Vec Ideal S5x4096 .f32) (x8 : Vec Ideal S2x128 .f32)

/-- A head of block `b` is the head of the token's activated row. -/
theorem head_at (b : Fin 8) (o : Fin 4) (ho : S512x512.Slices ![0, 128 * o.val] S512x128) (q : Fin 512) (l : Fin 128) (r : Fin 512) (h : Fin 32) (d : Fin 128)
    (h0 : r.val = q.val) (h1 : 128 * h.val + d.val = 512 * b.val + 128 * o.val + l.val) : UNIT (ACT (H i x0 x1 x2 x3) x4 x7 b) (128 * o.val) ho (ix2 q l) = head (acts i x0 x1 x2 x3 x4 x7 r) h d := by
  obtain rfl : r = q := Fin.ext h0
  obtain rfl : d = l := Fin.ext (by omega)
  rw [UNIT_apply]
  unfold head
  refine congrArg (fun f => unit f d) (funext fun e => ?_)
  rw [ACT_apply]
  exact congrArg (acts i x0 x1 x2 x3 x4 x7 r) (Fin.ext (by show 512 * b.val + (128 * o.val + e.val) = 128 * h.val + e.val; omega))

/-- The stores of one head at its place among the tile's queries, keys, turned keys and values. -/
theorem q_store (b : Fin 8) (o : Fin 4) (ho : S512x512.Slices ![0, 128 * o.val] S512x128) (x : S512x128.Idx) (r : Fin 512) (e : Fin 1024)
    (h0 : r.val = 0 + 1 * (x 0).val) (n : Nat) (h1 : e.val = n + 1 * (x 1).val) (hn : n = 512 * b.val + 128 * o.val) :
    QP (ACT (H i x0 x1 x2 x3) x4 x7 b) (128 * o.val) ho x = head (acts i x0 x1 x2 x3 x4 x7 r) ⟨e.val / 128, by omega⟩ ⟨e.val % 128, by omega⟩ * scale := by
  obtain ⟨q, l, rfl⟩ : ∃ q l, x = ix2 q l := ⟨x 0, x 1, funext fun a => match a with | ⟨0, _⟩ => rfl | ⟨1, _⟩ => rfl⟩
  have h0' : r.val = 0 + 1 * q.val := h0
  have h1' : e.val = n + 1 * l.val := h1
  rw [QP_apply, head_at i x0 x1 x2 x3 x4 x7 b o ho q l r ⟨e.val / 128, by omega⟩ ⟨e.val % 128, by omega⟩ (by omega) (by simp only; omega)]

theorem k_store (b : Fin 8) (o : Fin 4) (ho : S512x512.Slices ![0, 128 * o.val] S512x128) (x : S512x128.Idx) (r : Fin 512) (e : Fin 1024)
    (h0 : r.val = 0 + 1 * (x 0).val) (n : Nat) (h1 : e.val = n + 1 * (x 1).val) (hn : 1024 + n = 512 * b.val + 128 * o.val) :
    KP (ACT (H i x0 x1 x2 x3) x4 x7 b) (128 * o.val) ho x = head (acts i x0 x1 x2 x3 x4 x7 r) ⟨8 + e.val / 128, by omega⟩ ⟨e.val % 128, by omega⟩ := by
  obtain ⟨q, l, rfl⟩ : ∃ q l, x = ix2 q l := ⟨x 0, x 1, funext fun a => match a with | ⟨0, _⟩ => rfl | ⟨1, _⟩ => rfl⟩
  have h0' : r.val = 0 + 1 * q.val := h0
  have h1' : e.val = n + 1 * l.val := h1
  exact head_at i x0 x1 x2 x3 x4 x7 b o ho q l r ⟨8 + e.val / 128, by omega⟩ ⟨e.val % 128, by omega⟩ (by omega) (by simp only; omega)

theorem t_store (b : Fin 8) (o : Fin 4) (ho : S512x512.Slices ![0, 128 * o.val] S512x128) (x : S1x128x512.Idx) (r : Fin 512) (e : Fin 1024)
    (h0 : r.val = 0 + 1 * (x 2).val) (n : Nat) (h1 : e.val = n + 1 * (x 1).val) (hn : 1024 + n = 512 * b.val + 128 * o.val) :
    TP (ACT (H i x0 x1 x2 x3) x4 x7 b) (128 * o.val) ho x = head (acts i x0 x1 x2 x3 x4 x7 r) ⟨8 + e.val / 128, by omega⟩ ⟨e.val % 128, by omega⟩ := by
  obtain ⟨z, l, q, rfl⟩ : ∃ z l q, x = ix3 z l q := ⟨x 0, x 1, x 2, funext fun a => match a with | ⟨0, _⟩ => rfl | ⟨1, _⟩ => rfl | ⟨2, _⟩ => rfl⟩
  have h0' : r.val = 0 + 1 * q.val := h0
  have h1' : e.val = n + 1 * l.val := h1
  rw [TP_apply]
  exact head_at i x0 x1 x2 x3 x4 x7 b o ho q l r ⟨8 + e.val / 128, by omega⟩ ⟨e.val % 128, by omega⟩ (by omega) (by simp only; omega)

theorem v_store (b : Fin 8) (o : Fin 4) (ho : S512x512.Slices ![0, 128 * o.val] S512x128) (x : S512x128.Idx) (r : Fin 512) (e : Fin 2048)
    (h0 : r.val = 0 + 1 * (x 0).val) (n : Nat) (h1 : e.val = n + 1 * (x 1).val) (hn : 2048 + n = 512 * b.val + 128 * o.val) :
    VP (ACT (H i x0 x1 x2 x3) x4 x7 b) (128 * o.val) ho x = acts i x0 x1 x2 x3 x4 x7 r ⟨2048 + e.val, by omega⟩ := by
  obtain ⟨q, l, rfl⟩ : ∃ q l, x = ix2 q l := ⟨x 0, x 1, funext fun a => match a with | ⟨0, _⟩ => rfl | ⟨1, _⟩ => rfl⟩
  have h0' : r.val = 0 + 1 * q.val := h0
  have h1' : e.val = n + 1 * l.val := h1
  obtain rfl : r = q := Fin.ext (by omega)
  rw [VP_apply, ACT_apply]
  exact congrArg (acts i x0 x1 x2 x3 x4 x7 r) (Fin.ext (by show 512 * b.val + (128 * o.val + l.val) = 2048 + e.val; omega))

/-- The tile's queries. -/
theorem out_q (y : S512x1024.Idx) : out0_9 (F := Ideal) i x0 x1 x2 x3 x4 x5 x6 x7 x8 y
    = head (acts i x0 x1 x2 x3 x4 x7 (y 0)) ⟨(y 1).val / 128, by have h : (y 1).val < 1024 := (y 1).isLt; omega⟩ ⟨(y 1).val % 128, by omega⟩ * scale := by
  unfold out0_9
  refine View.canon_apply_of_pieces (Val := Elt Ideal) (e := .bf16)
    (fun y : S512x1024.Idx => head (acts i x0 x1 x2 x3 x4 x7 (y 0)) ⟨(y 1).val / 128, by have h : (y 1).val < 1024 := (y 1).isLt; omega⟩ ⟨(y 1).val % 128, by omega⟩ * scale) _ ?_ y (cover0_9 _ _ _ _ _ _ _ _ y)
  simp only [List.forall_mem_cons]
  have s := q_store i x0 x1 x2 x3 x4 x7
  exact ⟨fun x => s 1 3 (cut 3) x _ _ rfl 896 rfl rfl, fun x => s 1 2 (cut 2) x _ _ rfl 768 rfl rfl, fun x => s 1 1 (cut 1) x _ _ rfl 640 rfl rfl, fun x => s 1 0 (cut 0) x _ _ rfl 512 rfl rfl,
    fun x => s 0 3 (cut 3) x _ _ rfl 384 rfl rfl, fun x => s 0 2 (cut 2) x _ _ rfl 256 rfl rfl, fun x => s 0 1 (cut 1) x _ _ rfl 128 rfl rfl, fun x => s 0 0 (cut 0) x _ _ rfl 0 rfl rfl,
    fun _ h => absurd h List.not_mem_nil⟩

/-- The tile's keys. -/
theorem out_k (y : S512x1024.Idx) : out0_10 (F := Ideal) i x0 x1 x2 x3 x4 x5 x6 x7 x8 y
    = head (acts i x0 x1 x2 x3 x4 x7 (y 0)) ⟨8 + (y 1).val / 128, by have h : (y 1).val < 1024 := (y 1).isLt; omega⟩ ⟨(y 1).val % 128, by omega⟩ := by
  unfold out0_10
  refine View.canon_apply_of_pieces (Val := Elt Ideal) (e := .bf16)
    (fun y : S512x1024.Idx => head (acts i x0 x1 x2 x3 x4 x7 (y 0)) ⟨8 + (y 1).val / 128, by have h : (y 1).val < 1024 := (y 1).isLt; omega⟩ ⟨(y 1).val % 128, by omega⟩) _ ?_ y (cover0_10 _ _ _ _ _ _ _ _ y)
  simp only [List.forall_mem_cons]
  have s := k_store i x0 x1 x2 x3 x4 x7
  exact ⟨fun x => s 3 3 (cut 3) x _ _ rfl 896 rfl rfl, fun x => s 3 2 (cut 2) x _ _ rfl 768 rfl rfl, fun x => s 3 1 (cut 1) x _ _ rfl 640 rfl rfl, fun x => s 3 0 (cut 0) x _ _ rfl 512 rfl rfl,
    fun x => s 2 3 (cut 3) x _ _ rfl 384 rfl rfl, fun x => s 2 2 (cut 2) x _ _ rfl 256 rfl rfl, fun x => s 2 1 (cut 1) x _ _ rfl 128 rfl rfl, fun x => s 2 0 (cut 0) x _ _ rfl 0 rfl rfl,
    fun _ h => absurd h List.not_mem_nil⟩

/-- The tile's turned keys. -/
theorem out_t (y : S1x1024x512.Idx) : out0_11 (F := Ideal) i x0 x1 x2 x3 x4 x5 x6 x7 x8 y
    = head (acts i x0 x1 x2 x3 x4 x7 (y 2)) ⟨8 + (y 1).val / 128, by have h : (y 1).val < 1024 := (y 1).isLt; omega⟩ ⟨(y 1).val % 128, by omega⟩ := by
  unfold out0_11
  refine View.canon_apply_of_pieces (Val := Elt Ideal) (e := .f32)
    (fun y : S1x1024x512.Idx => head (acts i x0 x1 x2 x3 x4 x7 (y 2)) ⟨8 + (y 1).val / 128, by have h : (y 1).val < 1024 := (y 1).isLt; omega⟩ ⟨(y 1).val % 128, by omega⟩) _ ?_ y (cover0_11 _ _ _ _ _ _ _ _ y)
  simp only [List.forall_mem_cons]
  have s := t_store i x0 x1 x2 x3 x4 x7
  exact ⟨fun x => s 3 3 (cut 3) x _ _ rfl 896 rfl rfl, fun x => s 3 2 (cut 2) x _ _ rfl 768 rfl rfl, fun x => s 3 1 (cut 1) x _ _ rfl 640 rfl rfl, fun x => s 3 0 (cut 0) x _ _ rfl 512 rfl rfl,
    fun x => s 2 3 (cut 3) x _ _ rfl 384 rfl rfl, fun x => s 2 2 (cut 2) x _ _ rfl 256 rfl rfl, fun x => s 2 1 (cut 1) x _ _ rfl 128 rfl rfl, fun x => s 2 0 (cut 0) x _ _ rfl 0 rfl rfl,
    fun _ h => absurd h List.not_mem_nil⟩

/-- The tile's values. -/
theorem out_v (y : S512x2048.Idx) : out0_12 (F := Ideal) i x0 x1 x2 x3 x4 x5 x6 x7 x8 y
    = acts i x0 x1 x2 x3 x4 x7 (y 0) ⟨2048 + (y 1).val, by have h : (y 1).val < 2048 := (y 1).isLt; omega⟩ := by
  unfold out0_12
  refine View.canon_apply_of_pieces (Val := Elt Ideal) (e := .bf16)
    (fun y : S512x2048.Idx => acts i x0 x1 x2 x3 x4 x7 (y 0) ⟨2048 + (y 1).val, by have h : (y 1).val < 2048 := (y 1).isLt; omega⟩) _ ?_ y (cover0_12 _ _ _ _ _ _ _ _ _ _ _ _ _ _ _ _ y)
  simp only [List.forall_mem_cons]
  have s := v_store i x0 x1 x2 x3 x4 x7
  exact ⟨fun x => s 7 3 (cut 3) x _ _ rfl 1920 rfl rfl, fun x => s 7 2 (cut 2) x _ _ rfl 1792 rfl rfl, fun x => s 7 1 (cut 1) x _ _ rfl 1664 rfl rfl, fun x => s 7 0 (cut 0) x _ _ rfl 1536 rfl rfl,
    fun x => s 6 3 (cut 3) x _ _ rfl 1408 rfl rfl, fun x => s 6 2 (cut 2) x _ _ rfl 1280 rfl rfl, fun x => s 6 1 (cut 1) x _ _ rfl 1152 rfl rfl, fun x => s 6 0 (cut 0) x _ _ rfl 1024 rfl rfl,
    fun x => s 5 3 (cut 3) x _ _ rfl 896 rfl rfl, fun x => s 5 2 (cut 2) x _ _ rfl 768 rfl rfl, fun x => s 5 1 (cut 1) x _ _ rfl 640 rfl rfl, fun x => s 5 0 (cut 0) x _ _ rfl 512 rfl rfl,
    fun x => s 4 3 (cut 3) x _ _ rfl 384 rfl rfl, fun x => s 4 2 (cut 2) x _ _ rfl 256 rfl rfl, fun x => s 4 1 (cut 1) x _ _ rfl 128 rfl rfl, fun x => s 4 0 (cut 0) x _ _ rfl 0 rfl rfl,
    fun _ h => absurd h List.not_mem_nil⟩

/-- 512 columns of the output gate's weights, from column `512 * b` on. -/
def zcol (b : Fin 4) : FVec Ideal S1024x512 .bf16 :=
  View.ld x5 (Rect.unit (s := S1024x2048) ![0, 512 * b.val] S1024x512.size (by revert b; decide))

theorem zcol_apply (b : Fin 4) (k : Fin 1024) (c : Fin 512) : zcol x5 b (ix2 k c) = x5 (ix2 k ⟨512 * b.val + c.val, by omega⟩) :=
  View.ld_unit_apply_of _ _ _ _ _ _ fun a => match a with | ⟨0, _⟩ => (Nat.zero_add _).symm | ⟨1, _⟩ => rfl

theorem pay76_apply (h : FVec Ideal S544x1024 .bf16) (w : FVec Ideal S1024x512 .bf16) (r : Fin 512) (e : Fin 512) :
    k0_pay76 (F := Ideal) (k0_pay2 h) w (ix2 r e) = silu (∑ k, h (ix2 ⟨16 + r.val, by omega⟩ k) * w (ix2 k e)) := by
  pointwise [k0_pay76, k0_pay2]
  rfl

/-- The store of 512 columns of the activated output gate at its place. -/
theorem z_store (b : Fin 4) (x : S512x512.Idx) (r : Fin 512) (e : Fin 2048) (h0 : r.val = 0 + 1 * (x 0).val) (n : Nat) (h1 : e.val = n + 1 * (x 1).val) (hn : n = 512 * b.val) :
    k0_pay76 (F := Ideal) (k0_pay2 (H i x0 x1 x2 x3)) (zcol x5 b) x
      = silu (proj (tile i x0 x1 x2 ⟨16 + r.val, by omega⟩) (fun k => x3 (ix2 0 k)) (fun k c => x5 (ix2 k c)) e) := by
  obtain ⟨q, l, rfl⟩ : ∃ q l, x = ix2 q l := ⟨x 0, x 1, funext fun a => match a with | ⟨0, _⟩ => rfl | ⟨1, _⟩ => rfl⟩
  have h0' : r.val = 0 + 1 * q.val := h0
  have h1' : e.val = n + 1 * l.val := h1
  obtain rfl : r = q := Fin.ext (by omega)
  refine (pay76_apply _ _ r l).trans ?_
  rw [show e = ⟨512 * b.val + l.val, by omega⟩ from Fin.ext (by simp only; omega)]
  unfold proj
  simp only [H_apply, zcol_apply]

/-- The tile's activated output gate. -/
theorem out_z (y : S512x2048.Idx) : out0_13 (F := Ideal) i x0 x1 x2 x3 x4 x5 x6 x7 x8 y
    = silu (proj (tile i x0 x1 x2 ⟨16 + (y 0).val, by have h : (y 0).val < 512 := (y 0).isLt; omega⟩) (fun k => x3 (ix2 0 k)) (fun k (c : Fin 2048) => x5 (ix2 k c)) (y 1)) := by
  unfold out0_13
  refine View.canon_apply_of_pieces (Val := Elt Ideal) (e := .f32)
    (fun y : S512x2048.Idx => silu (proj (tile i x0 x1 x2 ⟨16 + (y 0).val, by have h : (y 0).val < 512 := (y 0).isLt; omega⟩) (fun k => x3 (ix2 0 k)) (fun k (c : Fin 2048) => x5 (ix2 k c)) (y 1)))
    _ ?_ y (cover0_13 _ _ _ _ y)
  simp only [List.forall_mem_cons]
  have s := z_store i x0 x1 x2 x3 x5
  exact ⟨fun x => s 3 x _ _ rfl 1536 rfl rfl, fun x => s 2 x _ _ rfl 1024 rfl rfl, fun x => s 1 x _ _ rfl 512 rfl rfl, fun x => s 0 x _ _ rfl 0 rfl rfl,
    fun _ h => absurd h List.not_mem_nil⟩

end Stores

end Cert.GdnInIdeal.Val

end
-- ==== Proof.GdnInArray.lean ====
/-
  What the call at the start of a gated layer leaves in its result arrays.
-/
module

public import proofs.«01_k».proof.Proof.GdnInPart

@[expose] public section

set_option maxRecDepth 16384

noncomputable section

namespace Cert.GdnInIdeal.Val

open Cert.GdnInIdeal Cert.GdnInIdeal.Gen Idealize.ShloMosaic Idealize.ShloMosaic.TcCoe Idealize.SL.Sem
open Idealize.ShloMosaic.Pipeline (Dat)
open Cert.Tail Cert.Gdn
open Cert.Turn (proj)

variable (m : (ℓ : Loc nD τ sig) → Buf (Elt Ideal) ℓ)

/-- Which block each window reads or writes at a grid point. -/
theorem idx_in : ∀ t : Fin cfg0.N, win0_0.index t = ![32 * t.val - 1, 0] ∧ win0_1.index t = ![t.val, 0] ∧ win0_2.index t = ![min (32 * t.val + 32) 3071, 0]
    ∧ win0_3.index t = ![0, 0] ∧ win0_4.index t = ![0, 0] ∧ win0_5.index t = ![0, 0] ∧ win0_7.index t = ![0, 0] :=
  (by decide +kernel : ∀ t : Fin grid0.N, _)
theorem idx_out : ∀ t : Fin cfg0.N, win0_9.index t = ![t.val, 0] ∧ win0_10.index t = ![t.val, 0] ∧ win0_11.index t = ![t.val / 32, 0, t.val % 32]
    ∧ win0_12.index t = ![t.val, 0] ∧ win0_13.index t = ![t.val, 0] :=
  (by decide +kernel : ∀ t : Fin grid0.N, _)

theorem coord : ∀ t : Fin cfg0.N, ((grid0.coords t) 0).val = t.val := (by decide +kernel : ∀ t : Fin grid0.N, _)

theorem t_lt (t : Fin cfg0.N) : t.val < 96 := t.isLt

/-- The arguments as arrays of extended reals. -/
def xA (c : Dev nD) : S49152x1024.Idx → EReal := m ((c : Thread nD τ).loc main_arg0)
def gA (c : Dev nD) : S4x1024.Idx → EReal := m ((c : Thread nD τ).loc main_arg1)
def wA (c : Dev nD) : S1024x6208.Idx → EReal := m ((c : Thread nD τ).loc main_arg2)
def cA (c : Dev nD) : S5x4096.Idx → EReal := m ((c : Thread nD τ).loc main_arg3)

/-- The narrowed weights hold the weights' first 4096 columns and the 2048 after them. -/
theorem V_55 (c : Dev nD) (k : Fin 1024) (e : Fin 4096) : (V m c main_v55 : S1024x4096.Idx → EReal) (ix2 k e) = wA m c (ix2 k ⟨e.val, by omega⟩) := by
  have h : (V m c main_v55 : S1024x4096.Idx → EReal) = extractStridedSlice S1024x4096 ![0, 0] (wA m c) slices_S1024x6208_S1024x4096_0_0 := by
    dsimp only [V, hostOps0, List.flatten_cons, List.flatten_nil, List.append_nil, List.cons_append, List.nil_append]
    after_results_simp
    rfl
  rw [h]
  generalize wA m c = w
  pointwise
theorem V_57 (c : Dev nD) (k : Fin 1024) (e : Fin 2048) : (V m c main_v57 : S1024x2048.Idx → EReal) (ix2 k e) = wA m c (ix2 k ⟨4096 + e.val, by omega⟩) := by
  have h : (V m c main_v57 : S1024x2048.Idx → EReal) = extractStridedSlice S1024x2048 ![0, 4096] (wA m c) slices_S1024x6208_S1024x2048_0_4096 := by
    dsimp only [V, hostOps0, List.flatten_cons, List.flatten_nil, List.append_nil, List.cons_append, List.nil_append]
    after_results_simp
    rfl
  rw [h]
  generalize wA m c = w
  pointwise

theorem before_at (c : Dev nD) (t : Fin cfg0.N) (r : Fin 16) (k : Fin 1024) : (iblk m c 0 t : S16x1024.Idx → EReal) (ix2 r k) = xA m c (ix2 ⟨(32 * t.val - 1) * 16 + r.val, by have := t_lt t; omega⟩ k) := by
  obtain ⟨i0, -⟩ := idx_in t
  unfold xA
  rw [← V_main_arg0 m c]
  unfold iblk
  refine congrArg (V m c main_arg0) ?_
  blk_ext [i0]

theorem x_at (c : Dev nD) (t : Fin cfg0.N) (r : Fin 512) (k : Fin 1024) : (iblk m c 1 t : S512x1024.Idx → EReal) (ix2 r k) = xA m c (ix2 ⟨t.val * 512 + r.val, by have := t_lt t; omega⟩ k) := by
  obtain ⟨-, i0, -⟩ := idx_in t
  unfold xA
  rw [← V_main_arg0 m c]
  unfold iblk
  refine congrArg (V m c main_arg0) ?_
  blk_ext [i0]

theorem after_at (c : Dev nD) (t : Fin cfg0.N) (r : Fin 16) (k : Fin 1024) : (iblk m c 2 t : S16x1024.Idx → EReal) (ix2 r k) = xA m c (ix2 ⟨min (32 * t.val + 32) 3071 * 16 + r.val, by omega⟩ k) := by
  obtain ⟨-, -, i0, -⟩ := idx_in t
  unfold xA
  rw [← V_main_arg0 m c]
  unfold iblk
  refine congrArg (V m c main_arg0) ?_
  blk_ext [i0]

theorem g_at (c : Dev nD) (t : Fin cfg0.N) (r : Fin 4) (k : Fin 1024) : (iblk m c 3 t : S4x1024.Idx → EReal) (ix2 r k) = gA m c (ix2 r k) := by
  obtain ⟨-, -, -, i0, -⟩ := idx_in t
  unfold gA
  rw [← V_main_arg1 m c]
  unfold iblk
  refine congrArg (V m c main_arg1) ?_
  blk_ext [i0]

theorem w_at (c : Dev nD) (t : Fin cfg0.N) (k : Fin 1024) (e : Fin 4096) : (iblk m c 4 t : S1024x4096.Idx → EReal) (ix2 k e) = wA m c (ix2 k ⟨e.val, by omega⟩) := by
  obtain ⟨-, -, -, -, i0, -⟩ := idx_in t
  rw [← V_55 m c]
  unfold iblk
  refine congrArg (V m c main_v55) ?_
  blk_ext [i0]

theorem z_at (c : Dev nD) (t : Fin cfg0.N) (k : Fin 1024) (e : Fin 2048) : (iblk m c 5 t : S1024x2048.Idx → EReal) (ix2 k e) = wA m c (ix2 k ⟨4096 + e.val, by omega⟩) := by
  obtain ⟨-, -, -, -, -, i0, -⟩ := idx_in t
  rw [← V_57 m c]
  unfold iblk
  refine congrArg (V m c main_v57) ?_
  blk_ext [i0]

theorem c_at (c : Dev nD) (t : Fin cfg0.N) (j : Fin 5) (e : Fin 4096) : (iblk m c 7 t : S5x4096.Idx → EReal) (ix2 j e) = cA m c (ix2 j e) := by
  obtain ⟨-, -, -, -, -, -, i0⟩ := idx_in t
  unfold cA
  rw [← V_main_arg3 m c]
  unfold iblk
  refine congrArg (V m c main_arg3) ?_
  blk_ext [i0]

/-- The projected row of token `n`. -/
def line (c : Dev nD) (n : Fin 49152) (e : Fin 6208) : EReal :=
  proj (fun j => xA m c (ix2 n j)) (fun j => gA m c (ix2 0 j)) (fun k c' => wA m c (ix2 k c')) e

/-- The projected rows of sequence `s` with two rows of zeros before and after them. -/
def padded (c : Dev nD) (s : Fin 3) (p : Nat) (e : Fin 6208) : EReal :=
  if h : 2 ≤ p ∧ p < 16386 then line m c ⟨s.val * 16384 + (p - 2), by omega⟩ e else 0

/-- The activated convolution of token `n`. -/
def act (c : Dev nD) (n : Fin 49152) (e : Fin 4096) : EReal :=
  silu (taps (fun j => padded m c ⟨n.val / 16384, by omega⟩ (n.val % 16384 + j.val) ⟨e.val, by omega⟩) (fun j => cA m c (ix2 j e)))

/-- The five results. -/
def outQ (c : Dev nD) : S49152x1024.Idx → EReal := fun i =>
  head (act m c (i 0)) ⟨(i 1).val / 128, by have h : (i 1).val < 1024 := (i 1).isLt; omega⟩ ⟨(i 1).val % 128, by omega⟩ * scale
def outK (c : Dev nD) : S49152x1024.Idx → EReal := fun i =>
  head (act m c (i 0)) ⟨8 + (i 1).val / 128, by have h : (i 1).val < 1024 := (i 1).isLt; omega⟩ ⟨(i 1).val % 128, by omega⟩
def outT (c : Dev nD) : S3x1024x16384.Idx → EReal := fun i =>
  head (act m c ⟨(i 0).val * 16384 + (i 2).val, by have h : (i 0).val < 3 := (i 0).isLt; have h2 : (i 2).val < 16384 := (i 2).isLt; omega⟩)
    ⟨8 + (i 1).val / 128, by have h : (i 1).val < 1024 := (i 1).isLt; omega⟩ ⟨(i 1).val % 128, by omega⟩
def outV (c : Dev nD) : S49152x2048.Idx → EReal := fun i =>
  act m c (i 0) ⟨2048 + (i 1).val, by have h : (i 1).val < 2048 := (i 1).isLt; omega⟩
def outZ (c : Dev nD) : S49152x2048.Idx → EReal := fun i =>
  silu (line m c (i 0) ⟨4096 + (i 1).val, by have h : (i 1).val < 2048 := (i 1).isLt; omega⟩)

/-- A row of the tile is a token's, or zero outside the sequence. -/
theorem tile_at (c : Dev nD) (t : Fin cfg0.N) (a : Fin 544) (p : Nat) (hp : p + 14 = t.val % 32 * 512 + a.val) (j : Fin 1024) :
    tile (grid0.coords t) (iblk m c 0 t) (iblk m c 1 t) (iblk m c 2 t) a j
      = if h : 2 ≤ p ∧ p < 16386 then xA m c (ix2 ⟨t.val / 32 * 16384 + (p - 2), by have := t_lt t; omega⟩ j) else 0 := by
  have ht := t_lt t
  have ha := a.isLt
  unfold tile
  rw [coord]
  by_cases h : a.val < 16
  · rw [dif_pos h]
    by_cases h0 : t.val % 32 = 0
    · rw [if_pos h0, dif_neg (by omega)]
    · rw [if_neg h0, dif_pos (by omega), before_at]
      exact congrArg (fun n => xA m c (ix2 n j)) (Fin.ext (by show (32 * t.val - 1) * 16 + a.val = t.val / 32 * 16384 + (p - 2); omega))
  · rw [dif_neg h]
    by_cases h' : a.val - 16 < 512
    · rw [dif_pos h', dif_pos (by omega), x_at]
      exact congrArg (fun n => xA m c (ix2 n j)) (Fin.ext (by show t.val * 512 + (a.val - 16) = t.val / 32 * 16384 + (p - 2); omega))
    · rw [dif_neg h']
      by_cases h0 : t.val % 32 = 31
      · rw [if_pos h0, dif_neg (by omega)]
      · rw [if_neg h0, dif_pos (by omega), after_at]
        exact congrArg (fun n => xA m c (ix2 n j)) (Fin.ext (by show min (32 * t.val + 32) 3071 * 16 + (a.val - 16 - 512) = t.val / 32 * 16384 + (p - 2); omega))

/-- The tile's projected rows are the padded projected rows. -/
theorem proj_at (c : Dev nD) (t : Fin cfg0.N) (a : Fin 544) (p : Nat) (hp : p + 14 = t.val % 32 * 512 + a.val) {N : Nat} (w : Fin 1024 → Fin N → EReal) (e : Fin N) (e' : Fin 6208)
    (hw : ∀ k, w k e = wA m c (ix2 k e')) :
    proj (tile (grid0.coords t) (iblk m c 0 t) (iblk m c 1 t) (iblk m c 2 t) a) (fun k => (iblk m c 3 t : S4x1024.Idx → EReal) (ix2 0 k)) w e
      = padded m c ⟨t.val / 32, by have := t_lt t; omega⟩ p e' := by
  rw [show tile (grid0.coords t) (iblk m c 0 t) (iblk m c 1 t) (iblk m c 2 t) a = _ from funext fun j => tile_at m c t a p hp j,
    show (fun k => (iblk m c 3 t : S4x1024.Idx → EReal) (ix2 0 k)) = fun k => gA m c (ix2 0 k) from funext fun k => g_at m c t 0 k]
  unfold padded
  by_cases h : 2 ≤ p ∧ p < 16386
  · simp only [dif_pos h]
    unfold line proj
    exact Finset.sum_congr rfl fun k _ => congrArg _ (hw k)
  · simp only [dif_neg h]
    exact proj_zero _ _ _

/-- The tile's activated rows are the tokens'. -/
theorem acts_at (c : Dev nD) (t : Fin cfg0.N) (r : Fin 512) (n : Fin 49152) (hn : n.val = t.val * 512 + r.val) (e : Fin 4096) :
    acts (grid0.coords t) (iblk m c 0 t) (iblk m c 1 t) (iblk m c 2 t) (iblk m c 3 t) (iblk m c 4 t) (iblk m c 7 t) r e = act m c n e := by
  unfold acts act
  refine congrArg silu (congr (congrArg taps (funext fun j => ?_)) (funext fun j => c_at m c t j e))
  refine (proj_at m c t _ (n.val % 16384 + j.val) (by show n.val % 16384 + j.val + 14 = t.val % 32 * 512 + (14 + j.val + r.val); omega) _ e ⟨e.val, by omega⟩ fun k => w_at m c t k e).trans ?_
  exact congrArg (fun s => padded m c s _ _) (Fin.ext (by show t.val / 32 = n.val / 16384; omega))

/-- The array place that an element of grid point `t`'s block lands on. -/
theorem emb_q (t : Fin cfg0.N) (y : S512x1024.Idx) : (((cfg0.win 9).blk t).view.emb y 0).val = t.val * 512 + (y 0).val ∧ (((cfg0.win 9).blk t).view.emb y 1).val = (y 1).val := by
  obtain ⟨i0, -⟩ := idx_out t
  constructor <;> blk_simp [i0]
theorem emb_k (t : Fin cfg0.N) (y : S512x1024.Idx) : (((cfg0.win 10).blk t).view.emb y 0).val = t.val * 512 + (y 0).val ∧ (((cfg0.win 10).blk t).view.emb y 1).val = (y 1).val := by
  obtain ⟨-, i0, -⟩ := idx_out t
  constructor <;> blk_simp [i0]
theorem emb_t (t : Fin cfg0.N) (y : S1x1024x512.Idx) : (((cfg0.win 11).blk t).view.emb y 0).val = t.val / 32 ∧ (((cfg0.win 11).blk t).view.emb y 1).val = (y 1).val
    ∧ (((cfg0.win 11).blk t).view.emb y 2).val = t.val % 32 * 512 + (y 2).val := by
  obtain ⟨-, -, i0, -⟩ := idx_out t
  refine ⟨?_, ?_, ?_⟩ <;> blk_simp [i0]
theorem emb_v (t : Fin cfg0.N) (y : S512x2048.Idx) : (((cfg0.win 12).blk t).view.emb y 0).val = t.val * 512 + (y 0).val ∧ (((cfg0.win 12).blk t).view.emb y 1).val = (y 1).val := by
  obtain ⟨-, -, -, i0, -⟩ := idx_out t
  constructor <;> blk_simp [i0]
theorem emb_z (t : Fin cfg0.N) (y : S512x2048.Idx) : (((cfg0.win 13).blk t).view.emb y 0).val = t.val * 512 + (y 0).val ∧ (((cfg0.win 13).blk t).view.emb y 1).val = (y 1).val := by
  obtain ⟨-, -, -, -, i0⟩ := idx_out t
  constructor <;> blk_simp [i0]

/-- One element of a block of grid point `t`, in the results. -/
theorem q_at (c : Dev nD) (t : Fin cfg0.N) (y : S512x1024.Idx) (i : S49152x1024.Idx) (h : (i 0).val = t.val * 512 + (y 0).val ∧ (i 1).val = (y 1).val) :
    out0_9 (F := Ideal) (grid0.coords t) (iblk m c 0 t) (iblk m c 1 t) (iblk m c 2 t) (iblk m c 3 t) (iblk m c 4 t) (iblk m c 5 t) (iblk m c 6 t) (iblk m c 7 t) (iblk m c 8 t) y = outQ m c i := by
  refine (out_q _ _ _ _ _ _ _ _ _ _ y).trans ?_
  unfold outQ
  rw [show acts (grid0.coords t) (iblk m c 0 t) (iblk m c 1 t) (iblk m c 2 t) (iblk m c 3 t) (iblk m c 4 t) (iblk m c 7 t) (y 0) = act m c (i 0) from funext fun e => acts_at m c t (y 0) (i 0) h.1 e]
  simp only [h.2]

theorem k_at (c : Dev nD) (t : Fin cfg0.N) (y : S512x1024.Idx) (i : S49152x1024.Idx) (h : (i 0).val = t.val * 512 + (y 0).val ∧ (i 1).val = (y 1).val) :
    out0_10 (F := Ideal) (grid0.coords t) (iblk m c 0 t) (iblk m c 1 t) (iblk m c 2 t) (iblk m c 3 t) (iblk m c 4 t) (iblk m c 5 t) (iblk m c 6 t) (iblk m c 7 t) (iblk m c 8 t) y = outK m c i := by
  refine (out_k _ _ _ _ _ _ _ _ _ _ y).trans ?_
  unfold outK
  rw [show acts (grid0.coords t) (iblk m c 0 t) (iblk m c 1 t) (iblk m c 2 t) (iblk m c 3 t) (iblk m c 4 t) (iblk m c 7 t) (y 0) = act m c (i 0) from funext fun e => acts_at m c t (y 0) (i 0) h.1 e]
  simp only [h.2]

theorem kt_at (c : Dev nD) (t : Fin cfg0.N) (y : S1x1024x512.Idx) (i : S3x1024x16384.Idx) (h : (i 0).val = t.val / 32 ∧ (i 1).val = (y 1).val ∧ (i 2).val = t.val % 32 * 512 + (y 2).val) :
    out0_11 (F := Ideal) (grid0.coords t) (iblk m c 0 t) (iblk m c 1 t) (iblk m c 2 t) (iblk m c 3 t) (iblk m c 4 t) (iblk m c 5 t) (iblk m c 6 t) (iblk m c 7 t) (iblk m c 8 t) y = outT m c i := by
  refine (out_t _ _ _ _ _ _ _ _ _ _ y).trans ?_
  unfold outT
  rw [show acts (grid0.coords t) (iblk m c 0 t) (iblk m c 1 t) (iblk m c 2 t) (iblk m c 3 t) (iblk m c 4 t) (iblk m c 7 t) (y 2) = act m c ⟨(i 0).val * 16384 + (i 2).val, by have h : (i 0).val < 3 := (i 0).isLt; have h2 : (i 2).val < 16384 := (i 2).isLt; omega⟩ from
    funext fun e => acts_at m c t (y 2) _ (by show (i 0).val * 16384 + (i 2).val = t.val * 512 + (y 2).val; omega) e]
  simp only [h.2.1]

theorem v_at (c : Dev nD) (t : Fin cfg0.N) (y : S512x2048.Idx) (i : S49152x2048.Idx) (h : (i 0).val = t.val * 512 + (y 0).val ∧ (i 1).val = (y 1).val) :
    out0_12 (F := Ideal) (grid0.coords t) (iblk m c 0 t) (iblk m c 1 t) (iblk m c 2 t) (iblk m c 3 t) (iblk m c 4 t) (iblk m c 5 t) (iblk m c 6 t) (iblk m c 7 t) (iblk m c 8 t) y = outV m c i := by
  refine (out_v _ _ _ _ _ _ _ _ _ _ y).trans ?_
  unfold outV
  refine (acts_at m c t (y 0) (i 0) h.1 _).trans ?_
  simp only [h.2]

theorem gz_at (c : Dev nD) (t : Fin cfg0.N) (y : S512x2048.Idx) (i : S49152x2048.Idx) (h : (i 0).val = t.val * 512 + (y 0).val ∧ (i 1).val = (y 1).val) :
    out0_13 (F := Ideal) (grid0.coords t) (iblk m c 0 t) (iblk m c 1 t) (iblk m c 2 t) (iblk m c 3 t) (iblk m c 4 t) (iblk m c 5 t) (iblk m c 6 t) (iblk m c 7 t) (iblk m c 8 t) y = outZ m c i := by
  have hi : (i 1).val < 2048 := (i 1).isLt
  have hr : (y 0).val < 512 := (y 0).isLt
  have ht := t_lt t
  refine (out_z _ _ _ _ _ _ _ _ _ _ y).trans (congrArg silu ?_)
  refine (proj_at m c t _ (t.val % 32 * 512 + (y 0).val + 2) (by show t.val % 32 * 512 + (y 0).val + 2 + 14 = t.val % 32 * 512 + (16 + (y 0).val); omega) _ _ ⟨4096 + (i 1).val, by omega⟩
    fun k => (z_at m c t k (y 1)).trans (by simp only [h.2])).trans ?_
  unfold padded
  rw [dif_pos (by omega)]
  exact congrArg (fun n => line m c n _) (Fin.ext (by show t.val / 32 * 16384 + (t.val % 32 * 512 + (y 0).val + 2 - 2) = (i 0).val; omega))

/-- The kernel's result arrays. -/
theorem q_eq (c : Dev nD) : (dats m 0 c).arrAt 9 cfg0.N = outQ m c := by
  refine Dat.arrAt_eq_of_covers _ 9 _ (by decide +kernel) fun t hf y => ?_
  blk_simp
  rw [after0_9]
  exact q_at m c t y _ (emb_q t y)

theorem k_eq (c : Dev nD) : (dats m 0 c).arrAt 10 cfg0.N = outK m c := by
  refine Dat.arrAt_eq_of_covers _ 10 _ (by decide +kernel) fun t hf y => ?_
  blk_simp
  rw [after0_10]
  exact k_at m c t y _ (emb_k t y)

theorem t_eq (c : Dev nD) : (dats m 0 c).arrAt 11 cfg0.N = outT m c := by
  refine Dat.arrAt_eq_of_covers _ 11 _ (by decide +kernel) fun t hf y => ?_
  blk_simp
  rw [after0_11]
  exact kt_at m c t y _ (emb_t t y)

theorem v_eq (c : Dev nD) : (dats m 0 c).arrAt 12 cfg0.N = outV m c := by
  refine Dat.arrAt_eq_of_covers _ 12 _ (by decide +kernel) fun t hf y => ?_
  blk_simp
  rw [after0_12]
  exact v_at m c t y _ (emb_v t y)

theorem z_eq (c : Dev nD) : (dats m 0 c).arrAt 13 cfg0.N = outZ m c := by
  refine Dat.arrAt_eq_of_covers _ 13 _ (by decide +kernel) fun t hf y => ?_
  blk_simp
  rw [after0_13]
  exact gz_at m c t y _ (emb_z t y)

end Cert.GdnInIdeal.Val

end
-- ==== Proof.GdnInRef.lean ====
/-
  The reference for the start of a gated layer at an index: the padded projected rows, their convolution, its activation
  and the length of its heads.
-/
module

public import Idealize.ShloMosaic.Lib.Pointwise
public import Idealize.ShloMosaic.Lib.KernelVsHost
public import proofs.«01_k».proof.Proof.GdnSpec
public import proofs.«01_k».proof.Proof.Gen.GdnInRefIdeal.Read

@[expose] public section

set_option maxRecDepth 16384

noncomputable section

namespace Cert.GdnInRefIdeal.Val

open Cert.GdnInRefIdeal Cert.GdnInRefIdeal.Gen Idealize.ShloMosaic Idealize.ShloMosaic.TcCoe Idealize.SL.Sem
open Cert.Tail Cert.Gdn
open Cert.Turn (proj)
open Cert.GdnInRefIdeal.Read

/-- An index from its coordinates. -/
theorem ext2 {a b : Nat} {i : (⟨2, ![a, b]⟩ : Shape).Idx} {p : Fin a} {q : Fin b} (h0 : (i 0).val = p.val) (h1 : (i 1).val = q.val) : i = ix2 p q :=
  funext fun k => match k with | ⟨0, _⟩ => Fin.ext h0 | ⟨1, _⟩ => Fin.ext h1
theorem ext3 {a b c : Nat} {i : (⟨3, ![a, b, c]⟩ : Shape).Idx} {p : Fin a} {q : Fin b} {r : Fin c} (h0 : (i 0).val = p.val) (h1 : (i 1).val = q.val)
    (h2 : (i 2).val = r.val) : i = ix3 p q r :=
  funext fun k => match k with | ⟨0, _⟩ => Fin.ext h0 | ⟨1, _⟩ => Fin.ext h1 | ⟨2, _⟩ => Fin.ext h2

/-- The padding value is zero. -/
theorem zero_word : FloatOps.sitofp (F := Ideal) .f32 0#32 = (0 : EReal) := by
  show (((0#32 : BitVec 32).toInt : ℝ) : EReal) = 0
  simp

/-- A number over one plus the exponential of its negative, times the number, as the reference writes its activation. -/
theorem silu_host (x : EReal) : x * Ideal.div (Ideal.ofBits .f32 0x3F800000#32) (Ideal.ofBits .f32 0x3F800000#32 + Ideal.exp (-x)) = silu x := by
  rw [Ideal.ofBits_one_f32]
  rfl

/-- The length of a head, as the reference writes it. -/
theorem unit_host (f g : Fin 128 → EReal) (h : ∀ e, g e = f e) (d : Fin 128) :
    f d * Ideal.rsqrt (Ideal.ofBits .f32 0x00000000#32 + ∑ e, g e * g e + Ideal.ofBits .f32 0x358637BD#32) = unit f d := by
  rw [Ideal.ofBits_zero_f32, zero_add, show g = f from funext h]
  rfl

variable (x0 : FVec Ideal S49152x1024 .f32) (x1 : FVec Ideal S4x1024 .f32) (x2 : FVec Ideal S1024x6208 .f32) (x3 : FVec Ideal S5x4096 .f32)

/-- The norm of every row. -/
theorem v14 (n : Fin 49152) (j : Fin 1024) : val_main_v14 (F := Ideal) x0 x1 (ix2 n j) = rms (fun j => x0 (ix2 n j)) (fun j => x1 (ix2 0 j)) j := by
  unfold val_main_v14 val_main_v13 val_main_v12 val_main_v11 val_main_v10 val_main_v9 val_main_v8 val_main_v6 val_main_v4 val_main_v3 val_main_v2 val_main_v1
  pointwise [val_main_v0, val_main_v5, val_main_v7, val_main_cst, val_main_cst_0, val_main_cst_1]
  rfl

/-- The projected row of token `n`. -/
def line (n : Fin 49152) (e : Fin 6208) : EReal := proj (fun j => x0 (ix2 n j)) (fun j => x1 (ix2 0 j)) (fun k c => x2 (ix2 k c)) e

theorem v15 (n : Fin 49152) (e : Fin 6208) : val_main_v15 (F := Ideal) x0 x1 x2 (ix2 n e) = line x0 x1 x2 n e := by
  have h := v14 x0 x1 n
  unfold val_main_v15 line proj
  generalize val_main_v14 (F := Ideal) x0 x1 = X at h ⊢
  pointwise
  exact Finset.sum_congr rfl fun k _ => congrArg (· * _) (h k)

/-- Row `p` of sequence `s` is a token. -/
theorem v16 (i : S3x16384x6208.Idx) (n : Fin 49152) (e : Fin 6208) (hn : n.val = (i 0).val * 16384 + (i 1).val) (he : e.val = (i 2).val) :
    val_main_v16 (F := Ideal) x0 x1 x2 i = line x0 x1 x2 n e := by
  have h2 : (i 2).val < 6208 := (i 2).isLt
  have hi : idx_main_v16 i = ix2 n e := by
    refine ext2 ?_ ?_
    · show (((i 0).val * 16384 + (i 1).val) * 6208 + (i 2).val) / 6208 = n.val
      omega
    · show (((i 0).val * 16384 + (i 1).val) * 6208 + (i 2).val) % 6208 = e.val
      omega
  rw [val_main_v16_apply, hi]
  exact v15 x0 x1 x2 n e

/-- The projected rows of sequence `s` with two rows of zeros before and after them. -/
def padded (s : Fin 3) (p : Nat) (e : Fin 6208) : EReal :=
  if h : 2 ≤ p ∧ p < 16386 then line x0 x1 x2 ⟨s.val * 16384 + (p - 2), by omega⟩ e else 0

theorem v18 (s : Fin 3) (p : Fin 16388) (e : Fin 4096) : val_main_v18 (F := Ideal) x0 x1 x2 (ix3 s p e) = padded x0 x1 x2 s p.val ⟨e.val, by omega⟩ := by
  unfold val_main_v18 padded
  by_cases h : 2 ≤ p.val ∧ p.val < 16386
  · rw [dif_pos h]
    have hv : val_main_v17 (F := Ideal) x0 x1 x2 (ix3 s (⟨p.val - 2, by omega⟩ : Fin 16384) e) = line x0 x1 x2 ⟨s.val * 16384 + (p.val - 2), by omega⟩ ⟨e.val, by omega⟩ := by
      rw [val_main_v17_apply]
      exact v16 x0 x1 x2 _ _ _ rfl rfl
    generalize val_main_v17 (F := Ideal) x0 x1 x2 = X at hv ⊢
    refine (pad_apply_of_inside _ _ _ X _ _ _ _ (ix3 s (⟨p.val - 2, by omega⟩ : Fin 16384) e) fun a => ?_).trans hv
    match a with
    | ⟨0, _⟩ => show s.val = 0 + s.val * (0 + 1); omega
    | ⟨1, _⟩ => show p.val = 2 + (p.val - 2) * (0 + 1); omega
    | ⟨2, _⟩ => show e.val = 0 + e.val * (0 + 1); omega
  · rw [dif_neg h]
    generalize val_main_v17 (F := Ideal) x0 x1 x2 = X
    refine (pad_apply_of_not_inside _ _ _ X _ _ _ _ 1 ?_).trans ((val_main_call0_v0_apply _).trans zero_word)
    show ¬(2 ≤ p.val ∧ (p.val - 2) % (0 + 1) = 0 ∧ (p.val - 2) / (0 + 1) < 16384)
    omega

/-- One tap. -/
theorem tap (n : Fin 49152) (e : Fin 4096) (j : Fin 5) (i : S3x16388x4096.Idx) (k : S5x4096.Idx) (h0 : (i 0).val = n.val / 16384) (h1 : (i 1).val = n.val % 16384 + j.val)
    (h2 : (i 2).val = e.val) (k0 : (k 0).val = j.val) (k1 : (k 1).val = e.val) :
    val_main_v18 (F := Ideal) x0 x1 x2 i * x3 k = padded x0 x1 x2 ⟨n.val / 16384, by omega⟩ (n.val % 16384 + j.val) ⟨e.val, by omega⟩ * x3 (ix2 j e) := by
  have hv := v18 x0 x1 x2 ⟨n.val / 16384, by omega⟩ ⟨n.val % 16384 + j.val, by omega⟩ e
  exact congr (congrArg HMul.hMul ((congrArg _ (ext3 h0 h1 h2)).trans hv)) (congrArg x3 (ext2 k0 k1))

/-- The convolution of token `n`. -/
theorem v54 (i : S3x16384x4096.Idx) (n : Fin 49152) (e : Fin 4096) (hn : n.val = (i 0).val * 16384 + (i 1).val) (he : e.val = (i 2).val) :
    val_main_v54 (F := Ideal) x0 x1 x2 x3 i
      = taps (fun j => padded x0 x1 x2 ⟨n.val / 16384, by omega⟩ (n.val % 16384 + j.val) ⟨e.val, by omega⟩) (fun j => x3 (ix2 j e)) := by
  have i1 : (i 1).val < 16384 := (i 1).isLt
  have i2 : (i 2).val < 4096 := (i 2).isLt
  have a0 : (i 0).val = n.val / 16384 := by omega
  have a1 (j : Nat) : j + (i 1).val = n.val % 16384 + j := by omega
  have a2 : (i 2).val % 4096 = e.val := by omega
  rw [val_main_v54_apply, val_main_v47_apply, val_main_v40_apply, val_main_v33_apply, val_main_v26_apply, val_main_v25_apply, val_main_cst_2_apply, val_main_v24_apply, val_main_v32_apply, val_main_v39_apply, val_main_v46_apply, val_main_v53_apply, val_main_v19_apply, val_main_v27_apply, val_main_v34_apply, val_main_v41_apply, val_main_v48_apply, val_main_v23_apply, val_main_v22_apply, val_main_v21_apply, val_main_v20_apply, val_main_v31_apply, val_main_v30_apply, val_main_v29_apply, val_main_v28_apply, val_main_v38_apply, val_main_v37_apply, val_main_v36_apply, val_main_v35_apply, val_main_v45_apply, val_main_v44_apply, val_main_v43_apply, val_main_v42_apply, val_main_v52_apply, val_main_v51_apply, val_main_v50_apply, val_main_v49_apply]
  refine (congrArg (· + _ + _ + _ + _) ((congrArg (· + _) Ideal.ofBits_zero_f32).trans (zero_add _))).trans ?_
  exact congr (congrArg HAdd.hAdd (congr (congrArg HAdd.hAdd (congr (congrArg HAdd.hAdd (congr (congrArg HAdd.hAdd
    (tap x0 x1 x2 x3 n e 0 _ _ a0 (by show (i 1).val = n.val % 16384 + 0; omega) he.symm rfl a2))
    (tap x0 x1 x2 x3 n e 1 _ _ a0 (a1 1) he.symm rfl a2)))
    (tap x0 x1 x2 x3 n e 2 _ _ a0 (a1 2) he.symm rfl a2)))
    (tap x0 x1 x2 x3 n e 3 _ _ a0 (a1 3) he.symm rfl a2)))
    (tap x0 x1 x2 x3 n e 4 _ _ a0 (a1 4) he.symm rfl a2)

/-- The activated convolution of token `n`. -/
def act (n : Fin 49152) (e : Fin 4096) : EReal :=
  silu (taps (fun j => padded x0 x1 x2 ⟨n.val / 16384, by omega⟩ (n.val % 16384 + j.val) ⟨e.val, by omega⟩) (fun j => x3 (ix2 j e)))

theorem v55 (i : S3x16384x4096.Idx) (n : Fin 49152) (e : Fin 4096) (hn : n.val = (i 0).val * 16384 + (i 1).val) (he : e.val = (i 2).val) :
    val_main_v55 (F := Ideal) x0 x1 x2 x3 i = act x0 x1 x2 x3 n e := by
  rw [val_main_v55_apply, val_main_call1_v5_apply, val_main_call1_v4_apply, val_main_call1_cst_0_apply, val_main_call1_v3_apply, val_main_call1_v2_apply, val_main_call1_cst_apply,
    val_main_call1_v1_apply, val_main_call1_v0_apply]
  exact (silu_host _).trans (congrArg silu (v54 x0 x1 x2 x3 i n e hn he))

/-- The heads of the queries and of the keys, before their length is taken. -/
theorem v58 (s : Fin 3) (p : Fin 16384) (h : Fin 8) (d : Fin 128) (n : Fin 49152) (hn : n.val = s.val * 16384 + p.val) :
    val_main_v58 (F := Ideal) x0 x1 x2 x3 (ix4 s p h d) = act x0 x1 x2 x3 n ⟨128 * h.val + d.val, by omega⟩ := by
  rw [val_main_v58_apply, val_main_v57_apply]
  refine v55 x0 x1 x2 x3 _ _ _ ?_ ?_
  · rw [hn]
    clear hn
    show s.val * 16384 + p.val = (((s.val * 16384 + p.val) * 8 + h.val) * 128 + d.val) / 16777216 * 16384 + (((s.val * 16384 + p.val) * 8 + h.val) * 128 + d.val) / 1024 % 16384
    omega
  · show 128 * h.val + d.val = (((s.val * 16384 + p.val) * 8 + h.val) * 128 + d.val) % 1024
    omega
theorem v70 (s : Fin 3) (p : Fin 16384) (h : Fin 8) (d : Fin 128) (n : Fin 49152) (hn : n.val = s.val * 16384 + p.val) :
    val_main_v70 (F := Ideal) x0 x1 x2 x3 (ix4 s p h d) = act x0 x1 x2 x3 n ⟨128 * (8 + h.val) + d.val, by omega⟩ := by
  rw [val_main_v70_apply, val_main_v69_apply]
  refine v55 x0 x1 x2 x3 _ _ _ ?_ ?_
  · rw [hn]
    clear hn
    show s.val * 16384 + p.val = (((s.val * 16384 + p.val) * 8 + h.val) * 128 + d.val) / 16777216 * 16384 + (((s.val * 16384 + p.val) * 8 + h.val) * 128 + d.val) / 1024 % 16384
    omega
  · show 128 * (8 + h.val) + d.val = 1024 + (((s.val * 16384 + p.val) * 8 + h.val) * 128 + d.val) % 1024
    omega

theorem ext4 {a b c d : Nat} {i : (⟨4, ![a, b, c, d]⟩ : Shape).Idx} {p : Fin a} {q : Fin b} {r : Fin c} {s : Fin d} (h0 : (i 0).val = p.val) (h1 : (i 1).val = q.val)
    (h2 : (i 2).val = r.val) (h3 : (i 3).val = s.val) : i = ix4 p q r s :=
  funext fun k => match k with | ⟨0, _⟩ => Fin.ext h0 | ⟨1, _⟩ => Fin.ext h1 | ⟨2, _⟩ => Fin.ext h2 | ⟨3, _⟩ => Fin.ext h3

/-- The heads of the queries, scaled, and of the keys. -/
theorem v68 (s : Fin 3) (p : Fin 16384) (h : Fin 8) (d : Fin 128) (n : Fin 49152) (hn : n.val = s.val * 16384 + p.val) :
    val_main_v68 (F := Ideal) x0 x1 x2 x3 (ix4 s p h d) = head (act x0 x1 x2 x3 n) ⟨h.val, by omega⟩ d * scale := by
  have hu := unit_host (fun d => val_main_v58 (F := Ideal) x0 x1 x2 x3 (ix4 s p h d)) _ (fun e => rfl) d
  rw [val_main_v68_apply, val_main_v67_apply, val_main_cst_5_apply, val_main_v66_apply, val_main_v65_apply, val_main_v64_apply, val_main_v63_apply, val_main_v62_apply, val_main_cst_4_apply,
    val_main_v61_apply, val_main_v60_apply, val_main_cst_3_apply]
  refine congrArg (· * scale) ((congrArg _ (congrArg Ideal.rsqrt (congrArg (_ + · + _) (Finset.sum_congr rfl fun k _ => ?_)))).trans (hu.trans ?_))
  · rw [val_main_v59_apply]
    exact congr (congrArg _ (congrArg _ (ext4 rfl rfl rfl rfl))) (congrArg _ (ext4 rfl rfl rfl rfl))
  · unfold head
    exact congrArg (unit · d) (funext fun e => v58 x0 x1 x2 x3 s p h e n hn)
theorem v78 (s : Fin 3) (p : Fin 16384) (h : Fin 8) (d : Fin 128) (n : Fin 49152) (hn : n.val = s.val * 16384 + p.val) :
    val_main_v78 (F := Ideal) x0 x1 x2 x3 (ix4 s p h d) = head (act x0 x1 x2 x3 n) ⟨8 + h.val, by omega⟩ d := by
  have hu := unit_host (fun d => val_main_v70 (F := Ideal) x0 x1 x2 x3 (ix4 s p h d)) _ (fun e => rfl) d
  rw [val_main_v78_apply, val_main_v77_apply, val_main_v76_apply, val_main_v75_apply, val_main_v74_apply, val_main_cst_7_apply,
    val_main_v73_apply, val_main_v72_apply, val_main_cst_6_apply]
  refine (congrArg _ (congrArg Ideal.rsqrt (congrArg (_ + · + _) (Finset.sum_congr rfl fun k _ => ?_)))).trans (hu.trans ?_)
  · rw [val_main_v71_apply]
    exact congr (congrArg _ (congrArg _ (ext4 rfl rfl rfl rfl))) (congrArg _ (ext4 rfl rfl rfl rfl))
  · unfold head
    exact congrArg (unit · d) (funext fun e => v70 x0 x1 x2 x3 s p h e n hn)

/-- Where column `e` of token `n` sits among the heads. -/
theorem place (n : Fin 49152) (e : Fin 1024) : idx_main_v80 (ix2 n e)
    = ix4 (⟨n.val / 16384, by omega⟩ : Fin 3) (⟨n.val % 16384, by omega⟩ : Fin 16384) (⟨e.val / 128, by omega⟩ : Fin 8) (⟨e.val % 128, by omega⟩ : Fin 128) := by
  refine ext4 ?_ ?_ ?_ ?_
  · show (n.val * 1024 + e.val) / 16777216 = n.val / 16384
    omega
  · show (n.val * 1024 + e.val) / 1024 % 16384 = n.val % 16384
    omega
  · show (n.val * 1024 + e.val) / 128 % 8 = e.val / 128
    omega
  · show (n.val * 1024 + e.val) % 128 = e.val % 128
    omega

theorem q_eq (n : Fin 49152) (e : Fin 1024) : val_main_v81 (F := Ideal) x0 x1 x2 x3 (ix2 n e)
    = head (act x0 x1 x2 x3 n) ⟨e.val / 128, by omega⟩ ⟨e.val % 128, by omega⟩ * scale := by
  rw [val_main_v81_apply, val_main_v80_apply, place]
  exact v68 x0 x1 x2 x3 _ _ _ _ n (by show n.val = n.val / 16384 * 16384 + n.val % 16384; omega)

theorem k_eq (n : Fin 49152) (e : Fin 1024) : val_main_v83 (F := Ideal) x0 x1 x2 x3 (ix2 n e)
    = head (act x0 x1 x2 x3 n) ⟨8 + e.val / 128, by omega⟩ ⟨e.val % 128, by omega⟩ := by
  rw [val_main_v83_apply, val_main_v82_apply, show idx_main_v82 (ix2 n e) = idx_main_v80 (ix2 n e) from rfl, place]
  exact v78 x0 x1 x2 x3 _ _ _ _ n (by show n.val = n.val / 16384 * 16384 + n.val % 16384; omega)

theorem t_eq (s : Fin 3) (e : Fin 1024) (p : Fin 16384) : val_main_v85 (F := Ideal) x0 x1 x2 x3 (ix3 s e p)
    = head (act x0 x1 x2 x3 ⟨s.val * 16384 + p.val, by omega⟩) ⟨8 + e.val / 128, by omega⟩ ⟨e.val % 128, by omega⟩ := by
  have hi : idx_main_v84 (idx_main_v85 (ix3 s e p)) = ix4 s p (⟨e.val / 128, by omega⟩ : Fin 8) (⟨e.val % 128, by omega⟩ : Fin 128) := by
    refine ext4 ?_ ?_ ?_ ?_
    · show ((s.val * 16384 + p.val) * 1024 + e.val) / 16777216 = s.val
      omega
    · show ((s.val * 16384 + p.val) * 1024 + e.val) / 1024 % 16384 = p.val
      omega
    · show ((s.val * 16384 + p.val) * 1024 + e.val) / 128 % 8 = e.val / 128
      omega
    · show ((s.val * 16384 + p.val) * 1024 + e.val) % 128 = e.val % 128
      omega
  rw [val_main_v85_apply, val_main_v84_apply, hi]
  exact v78 x0 x1 x2 x3 _ _ _ _ _ rfl

theorem v_eq (n : Fin 49152) (e : Fin 2048) : val_main_v87 (F := Ideal) x0 x1 x2 x3 (ix2 n e) = act x0 x1 x2 x3 n ⟨2048 + e.val, by omega⟩ := by
  rw [val_main_v87_apply, val_main_v86_apply, val_main_v79_apply]
  refine v55 x0 x1 x2 x3 _ _ _ ?_ ?_
  · show n.val = (n.val * 2048 + e.val) / 33554432 * 16384 + (n.val * 2048 + e.val) / 2048 % 16384
    omega
  · show 2048 + e.val = 2048 + (n.val * 2048 + e.val) % 2048
    omega

theorem z_eq (n : Fin 49152) (e : Fin 2048) : val_main_v89 (F := Ideal) x0 x1 x2 (ix2 n e) = silu (line x0 x1 x2 n ⟨4096 + e.val, by omega⟩) := by
  rw [val_main_v89_apply, val_main_v88_apply, val_main_call2_v5_apply, val_main_call2_v4_apply, val_main_call2_cst_0_apply, val_main_call2_v3_apply, val_main_call2_v2_apply,
    val_main_call2_cst_apply, val_main_call2_v1_apply, val_main_call2_v0_apply, val_main_v56_apply]
  refine (silu_host _).trans (congrArg silu (v16 x0 x1 x2 _ _ _ ?_ ?_))
  · show n.val = (n.val * 2048 + e.val) / 33554432 * 16384 + (n.val * 2048 + e.val) / 2048 % 16384
    omega
  · show 4096 + e.val = 4096 + (n.val * 2048 + e.val) % 2048
    omega

end Cert.GdnInRefIdeal.Val

end
-- ==== Proof.Spec.lean ====
/-
  One row of attention with a sink, over the extended reals: the softmax of 384 scores and one more score (the sink),
  and its weighted sum of the values. No program is mentioned here.
-/
module

public import Idealize.ShloMosaic.PureOps.Ideal
public import Idealize.ShloMosaic.Lib.Pointwise

@[expose] public section

noncomputable section

namespace Cert.Attn

open Idealize.ShloMosaic

/-- The softmax of the scores `s` and the sink, times the values `v`. -/
def rowOut (s : Fin 384 → EReal) (sink : EReal) (v : Fin 384 → EReal) : EReal :=
  ∑ c, Ideal.div (Ideal.exp (s c - max (Finset.univ.fold max ⊥ s) sink))
    (∑ c, Ideal.exp (s c - max (Finset.univ.fold max ⊥ s) sink) + Ideal.exp (sink - max (Finset.univ.fold max ⊥ s) sink)) * v c

/-- The 384 keys of a block of 128 queries are the block before, the block and the block after. Key `c` counts for
    query `n` of the array when it is at most 128 away and lies in the query's own sequence of 16384. -/
def Ok (n c : Nat) : Prop :=
  n % 128 ≤ c ∧ c ≤ n % 128 + 256 ∧ 128 ≤ 128 * (n % 16384 / 128) + c ∧ 128 * (n % 16384 / 128) + c < 16512

instance (n c : Nat) : Decidable (Ok n c) := by unfold Ok; infer_instance

theorem exp_nonneg (x : EReal) : 0 ≤ Ideal.exp x := by
  induction x with
  | bot => simp
  | top => simp
  | coe r => rw [Ideal.exp_coe]; exact_mod_cast (Real.exp_pos r).le

theorem exp_pos_of_ne_bot {x : EReal} (h : x ≠ ⊥) : 0 < Ideal.exp x := by
  induction x with
  | bot => exact absurd rfl h
  | top => simp
  | coe r => rw [Ideal.exp_coe]; exact_mod_cast Real.exp_pos r

/-- The largest score is not plus infinity when no score is. -/
theorem fold_max_ne_top (s : Fin 384 → EReal) (hs : ∀ c, s c ≠ ⊤) : Finset.univ.fold max ⊥ s ≠ ⊤ := by
  have : Finset.univ.fold max ⊥ s < ⊤ := by
    rw [Finset.fold_max_lt]
    exact ⟨bot_lt_top, fun c _ => lt_top_iff_ne_top.2 (hs c)⟩
  exact this.ne

/-- A key whose score is minus infinity has weight zero, whatever its value: the row depends only on the values of the
    other keys. The sink is finite, so the denominator is not zero. -/
theorem rowOut_congr (s : Fin 384 → EReal) (sink : EReal) (v w : Fin 384 → EReal) (hs : ∀ c, s c ≠ ⊤) (h0 : sink ≠ ⊥)
    (h1 : sink ≠ ⊤) (hv : ∀ c, s c ≠ ⊥ → v c = w c) : rowOut s sink v = rowOut s sink w := by
  unfold rowOut
  refine Finset.sum_congr rfl fun c _ => ?_
  set m := max (Finset.univ.fold max ⊥ s) sink with hm
  by_cases hc : s c = ⊥
  · have hmt : m ≠ ⊤ := by
      have : m < ⊤ := max_lt (lt_top_iff_ne_top.2 (fold_max_ne_top s hs)) (lt_top_iff_ne_top.2 h1)
      exact this.ne
    have hb : sink - m ≠ ⊥ := by
      intro h
      rw [sub_eq_add_neg, EReal.add_eq_bot_iff] at h
      rcases h with h | h
      · exact h0 h
      · rw [EReal.neg_eq_bot_iff] at h; exact hmt h
    have hden : ∑ c, Ideal.exp (s c - m) + Ideal.exp (sink - m) ≠ 0 := by
      have h2 : 0 < Ideal.exp (sink - m) := exp_pos_of_ne_bot hb
      have h3 : 0 ≤ ∑ c, Ideal.exp (s c - m) := Finset.sum_nonneg fun c _ => exp_nonneg _
      have h4 : Ideal.exp (sink - m) ≤ ∑ c, Ideal.exp (s c - m) + Ideal.exp (sink - m) := le_add_of_nonneg_left h3
      exact (lt_of_lt_of_le h2 h4).ne'
    have hz : Ideal.exp (s c - m) = 0 := by rw [hc, EReal.bot_sub, Ideal.exp_bot]
    rw [hz, Ideal.div, if_neg hden, zero_mul, zero_mul, zero_mul]
  · rw [hv c hc]

/-- The scale of the scores, 128 to the power -1/2 as a number of 32 bits. -/
def scale : EReal := Ideal.ofBits .f32 0x3DB504F3#32

theorem negInf : Ideal.ofBits .f32 0xFF800000#32 = (⊥ : EReal) := by simp [Ideal.ofBits, Ideal.ieee]

/-- Arrays of the call: queries and result, keys and values, sinks. -/
abbrev Qs := (⟨2, ![49152, 1024]⟩ : Shape).Idx → EReal
abbrev Ks := (⟨2, ![49152, 256]⟩ : Shape).Idx → EReal
abbrev Ss := (⟨1, ![8]⟩ : Shape).Idx → EReal

/-- The place in the array of key `c` of query `n`. -/
theorem at_lt (n : Fin 49152) (c : Fin 384) (h : Ok n.val c.val) : n.val - n.val % 128 + c.val - 128 < 49152 := by
  obtain ⟨h1, h2, h3, h4⟩ := h
  omega

/-- The score of query `n` and key `c` in head column `e`, minus infinity where the key does not count. -/
def score (q : Qs) (k : Ks) (n : Fin 49152) (e : Fin 1024) (c : Fin 384) : EReal :=
  if h : Ok n.val c.val then
    (∑ i : Fin 128, q (ix2 n ⟨128 * (e.val / 128) + i.val, by omega⟩) *
      k (ix2 ⟨n.val - n.val % 128 + c.val - 128, at_lt n c h⟩ ⟨128 * (e.val / 512) + i.val, by omega⟩)) * scale
  else ⊥

/-- The value of key `c` in column `e`, zero where the key does not count. -/
def value (v : Ks) (n : Fin 49152) (e : Fin 1024) (c : Fin 384) : EReal :=
  if h : Ok n.val c.val then v (ix2 ⟨n.val - n.val % 128 + c.val - 128, at_lt n c h⟩ ⟨128 * (e.val / 512) + e.val % 128, by omega⟩) else 0

/-- Windowed attention with sinks, at row `n` and column `e`. -/
def attention (q : Qs) (k v : Ks) (s : Ss) (n : Fin 49152) (e : Fin 1024) : EReal :=
  rowOut (score q k n e) (s (ix1 ⟨e.val / 128, by omega⟩)) (value v n e)

theorem sum_real {ι : Type*} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

theorem scale_real : ∃ r : ℝ, scale = r := by
  refine ⟨scale.toReal, (EReal.coe_toReal ?_ ?_).symm⟩ <;> simp [scale, Ideal.ofBits, Ideal.ieee]
  · exact EReal.coe_ne_top ((11863283 : ℝ) * ((2 : ℝ) ^ 27)⁻¹)
  · exact EReal.coe_ne_bot ((11863283 : ℝ) * ((2 : ℝ) ^ 27)⁻¹)

/-- With finite queries and keys no score is plus infinity. -/
theorem score_ne_top (q : Qs) (k : Ks) (hq : ∀ i, q i ≠ ⊥ ∧ q i ≠ ⊤) (hk : ∀ i, k i ≠ ⊥ ∧ k i ≠ ⊤) (n : Fin 49152) (e : Fin 1024)
    (c : Fin 384) : score q k n e c ≠ ⊤ := by
  unfold score
  split_ifs with h
  · have eq : ∀ i, q i = ((q i).toReal : EReal) := fun i => (EReal.coe_toReal (hq i).2 (hq i).1).symm
    have ek : ∀ i, k i = ((k i).toReal : EReal) := fun i => (EReal.coe_toReal (hk i).2 (hk i).1).symm
    obtain ⟨r, hr⟩ := scale_real
    rw [hr]
    rw [Finset.sum_congr rfl fun i _ => by rw [eq, ek, ← EReal.coe_mul], sum_real, ← EReal.coe_mul]
    exact EReal.coe_ne_top _
  · exact bot_ne_top

/-- Any row with the same scores, and the same values at the keys that count, is the attention's row. -/
theorem attention_of (q : Qs) (k v : Ks) (s : Ss) (hq : ∀ i, q i ≠ ⊥ ∧ q i ≠ ⊤) (hk : ∀ i, k i ≠ ⊥ ∧ k i ≠ ⊤)
    (hs : ∀ i, s i ≠ ⊥ ∧ s i ≠ ⊤) (n : Fin 49152) (e : Fin 1024) (sc : Fin 384 → EReal) (w : Fin 384 → EReal)
    (h1 : ∀ c, sc c = score q k n e c) (h2 : ∀ c, Ok n.val c.val → w c = value v n e c) :
    rowOut sc (s (ix1 ⟨e.val / 128, by omega⟩)) w = attention q k v s n e := by
  have e1 : sc = score q k n e := funext h1
  subst e1
  refine rowOut_congr _ _ _ _ (score_ne_top q k hq hk n e) (hs _).1 (hs _).2 fun c hc => h2 c ?_
  by_contra hn
  exact hc (by unfold score; rw [dif_neg hn])

end Cert.Attn

end
-- ==== Proof.Part.lean ====
/-
  One part of the attention body (two key heads of one block of 128 queries) as one term, and that term read at an
  index: scores, mask, softmax with a sink, product with the values.
-/
module

public import proofs.«01_k».proof.Proof.Gen.KernelIdeal.Value
public import Idealize.ShloMosaic.Lib.Pipeline.ValueKit
public import Idealize.ShloMosaic.Lib.Pointwise
public import proofs.«01_k».proof.Proof.Spec

@[expose] public section

set_option maxRecDepth 16384

noncomputable section

namespace Cert.KernelIdeal.Val

open Cert.KernelIdeal Cert.KernelIdeal.Gen Idealize.ShloMosaic Idealize.ShloMosaic.TcCoe Idealize.SL.Sem
open Cert.Attn

/-- The queries of a part: four blocks of query heads below one another, for each of two key heads. -/
def QS (q0 q1 q2 q3 q4 q5 q6 q7 : FVec Ideal S128x128 .bf16) : FVec Ideal S2x512x128 .bf16 :=
  concatenate S2x512x128 0
    [⟨S1x512x128, shapeCast S1x512x128 (concatenate S512x128 0 [⟨S128x128, q0⟩, ⟨S128x128, q1⟩, ⟨S128x128, q2⟩, ⟨S128x128, q3⟩] concatenates_S128x128_S128x128_S128x128_S128x128_S512x128_d0) shapeCasts_S512x128_S1x512x128⟩,
     ⟨S1x512x128, shapeCast S1x512x128 (concatenate S512x128 0 [⟨S128x128, q4⟩, ⟨S128x128, q5⟩, ⟨S128x128, q6⟩, ⟨S128x128, q7⟩] concatenates_S128x128_S128x128_S128x128_S128x128_S512x128_d0) shapeCasts_S512x128_S1x512x128⟩]
    concatenates_S1x512x128_S1x512x128_S2x512x128_d0

/-- The keys (or values) of a part: 384 rows from row `o`, for each of the two key heads. -/
def TWO (o : Nat) (X : FVec Ideal S2304x256 .bf16) (h0 : S2304x256.Slices ![o, 0] S384x128) (h1 : S2304x256.Slices ![o, 128] S384x128) :
    FVec Ideal S2x384x128 .bf16 :=
  concatenate S2x384x128 0
    [⟨S1x384x128, shapeCast S1x384x128 (extractStridedSlice S384x128 ![o, 0] X h0) shapeCasts_S384x128_S1x384x128⟩,
     ⟨S1x384x128, shapeCast S1x384x128 (extractStridedSlice S384x128 ![o, 128] X h1) shapeCasts_S384x128_S1x384x128⟩]
    concatenates_S1x384x128_S1x384x128_S2x384x128_d0

/-- The scaled scores. -/
def SC (Q : FVec Ideal S2x512x128 .bf16) (K : FVec Ideal S2x384x128 .bf16) : FVec Ideal S2x512x384 .f32 :=
  mulf (matmul dot_S2x512x128_S2x384x128_S2x512x384_2_2_1_1_0_0 none Q K (constant S2x512x384 .f32 0x00000000#32))
    (broadcast S2x512x384 (Scalar.ofBits .f32 0x3DB504F3#32))

/-- The scores with minus infinity where the mask is off. -/
def MS (S : FVec Ideal S2x512x384 .f32) (M N : IVec S512x384 1) : FVec Ideal S2x512x384 .f32 :=
  concatenate S2x512x384 0
    [⟨S1x512x384, shapeCast S1x512x384 (select M (shapeCast S512x384 (extractStridedSlice S1x512x384 ![0, 0, 0] S slices_S2x512x384_o0_0_0_S1x512x384) shapeCasts_S1x512x384_S512x384) (broadcast S512x384 (Scalar.ofBits .f32 0xFF800000#32) : FVec Ideal S512x384 .f32)) shapeCasts_S512x384_S1x512x384⟩,
     ⟨S1x512x384, shapeCast S1x512x384 (select N (shapeCast S512x384 (extractStridedSlice S1x512x384 ![1, 0, 0] S slices_S2x512x384_o1_0_0_S1x512x384) shapeCasts_S1x512x384_S512x384) (broadcast S512x384 (Scalar.ofBits .f32 0xFF800000#32) : FVec Ideal S512x384 .f32)) shapeCasts_S512x384_S1x512x384⟩]
    concatenates_S1x512x384_S1x512x384_S2x512x384_d0

/-- The sinks, one per row. -/
def SK (s0 s1 s2 s3 s4 s5 s6 s7 : Elt Ideal .f32) : FVec Ideal S2x512x1 .f32 :=
  concatenate S2x512x1 0
    [⟨S1x512x1, shapeCast S1x512x1 (concatenate S512x1 0 [⟨S128x1, broadcast S128x1 s0⟩, ⟨S128x1, broadcast S128x1 s1⟩, ⟨S128x1, broadcast S128x1 s2⟩, ⟨S128x1, broadcast S128x1 s3⟩] concatenates_S128x1_S128x1_S128x1_S128x1_S512x1_d0) shapeCasts_S512x1_S1x512x1⟩,
     ⟨S1x512x1, shapeCast S1x512x1 (concatenate S512x1 0 [⟨S128x1, broadcast S128x1 s4⟩, ⟨S128x1, broadcast S128x1 s5⟩, ⟨S128x1, broadcast S128x1 s6⟩, ⟨S128x1, broadcast S128x1 s7⟩] concatenates_S128x1_S128x1_S128x1_S128x1_S512x1_d0) shapeCasts_S512x1_S1x512x1⟩]
    concatenates_S1x512x1_S1x512x1_S2x512x1_d0

/-- The largest score of a row, or its sink if that is larger. -/
def MX (S : FVec Ideal S2x512x384 .f32) (K : FVec Ideal S2x512x1 .f32) : FVec Ideal S2x512x1 .f32 :=
  maximumf (shapeCast S2x512x1 (multiReduction .maximumf [2] S2x512 S 0xFF800000#32 reduces_S2x512x384_S2x512 (.inl rfl) rfl) shapeCasts_S2x512_S2x512x1) K

/-- The exponentials of a row. -/
def EX (S : FVec Ideal S2x512x384 .f32) (K : FVec Ideal S2x512x1 .f32) : FVec Ideal S2x512x384 .f32 :=
  exp (subf S (broadcastTo S2x512x384 (MX S K) broadcasts_S2x512x1_S2x512x384))

/-- The weighted sum of the values. -/
def FIN (S : FVec Ideal S2x512x384 .f32) (K : FVec Ideal S2x512x1 .f32) (V : FVec Ideal S2x384x128 .bf16) : FVec Ideal S2x512x128 .f32 :=
  matmul dot_S2x512x384_S2x384x128_S2x512x128_2_1_1_2_0_0 none
    (truncf .bf16 (divf (EX S K) (broadcastTo S2x512x384
      (addf (shapeCast S2x512x1 (multiReduction .add [2] S2x512 (EX S K) 0x00000000#32 reduces_S2x512x384_S2x512 (.inl rfl) rfl) shapeCasts_S2x512_S2x512x1)
        (exp (subf K (MX S K)))) broadcasts_S2x512x1_S2x512x384)) bitsLt_bf16_f32)
    V (constant S2x512x128 .f32 0x00000000#32)

theorem SC_apply (Q : FVec Ideal S2x512x128 .bf16) (K : FVec Ideal S2x384x128 .bf16) (a : Fin 2) (b : Fin 512) (c : Fin 384) :
    SC Q K (ix3 a b c) = (∑ k, Q (ix3 a b k) * K (ix3 a c k)) * scale := by
  pointwise [SC]
  rfl

theorem FIN_apply (S : FVec Ideal S2x512x384 .f32) (K : FVec Ideal S2x512x1 .f32) (V : FVec Ideal S2x384x128 .bf16) (a : Fin 2) (b : Fin 512) (d : Fin 128) :
    FIN S K V (ix3 a b d) = rowOut (fun c => S (ix3 a b c)) (K (ix3 a b 0)) (fun c => V (ix3 a c d)) := by
  pointwise [FIN, EX, MX]
  rw [negInf]
  rfl

theorem MS_apply (S : FVec Ideal S2x512x384 .f32) (M N : IVec S512x384 1) (a : Fin 2) (b : Fin 512) (c : Fin 384) :
    MS S M N (ix3 a b c) = if (if a.val < 1 then M (ix2 b c) else N (ix2 b c)) = 1#1 then S (ix3 a b c) else ⊥ := by
  pointwise [MS]
  rw [negInf]
  fin_cases a
  · rfl
  · rfl

theorem QS_apply (q0 q1 q2 q3 q4 q5 q6 q7 : FVec Ideal S128x128 .bf16) (X : S2048x1024.Idx → EReal) (o : Nat) (ho : o + 128 ≤ 2048)
    (h : ∀ j : Fin 8, ∀ r k : Fin 128, (![q0, q1, q2, q3, q4, q5, q6, q7] j) (ix2 r k) = X (ix2 ⟨o + r.val, by omega⟩ ⟨128 * j.val + k.val, by omega⟩))
    (a : Fin 2) (b : Fin 512) (d : Fin 128) :
    QS q0 q1 q2 q3 q4 q5 q6 q7 (ix3 a b d) = X (ix2 ⟨o + b.val % 128, by omega⟩ ⟨128 * (4 * a.val + b.val / 128) + d.val, by omega⟩) := by
  have e0 := h 0; have e1 := h 1; have e2 := h 2; have e3 := h 3; have e4 := h 4; have e5 := h 5; have e6 := h 6; have e7 := h 7
  simp only [Matrix.cons_val] at e0 e1 e2 e3 e4 e5 e6 e7
  have hb := b.isLt
  pointwise [QS]
  split_ifs <;> simp only [e0, e1, e2, e3, e4, e5, e6, e7] <;> congr 2 <;> (apply Fin.ext; simp; omega)

theorem SK_apply (s0 s1 s2 s3 s4 s5 s6 s7 : Elt Ideal .f32) (X : S8.Idx → EReal)
    (h : ∀ j : Fin 8, (![s0, s1, s2, s3, s4, s5, s6, s7] j) = X (ix1 j))
    (a : Fin 2) (b : Fin 512) :
    SK s0 s1 s2 s3 s4 s5 s6 s7 (ix3 a b 0) = X (ix1 ⟨4 * a.val + b.val / 128, by omega⟩) := by
  have e0 := h 0; have e1 := h 1; have e2 := h 2; have e3 := h 3; have e4 := h 4; have e5 := h 5; have e6 := h 6; have e7 := h 7
  simp only [Matrix.cons_val] at e0 e1 e2 e3 e4 e5 e6 e7
  have hb := b.isLt
  pointwise [SK]
  split_ifs <;> simp only [e0, e1, e2, e3, e4, e5, e6, e7] <;> congr 2 <;> (apply Fin.ext; simp; omega)

theorem TWO_apply (o : Nat) (X : FVec Ideal S2304x256 .bf16) (h0 : S2304x256.Slices ![o, 0] S384x128) (h1 : S2304x256.Slices ![o, 128] S384x128)
    (ho : o + 128 ≤ 2048) (a : Fin 2) (b : Fin 384) (c : Fin 128) :
    TWO o X h0 h1 (ix3 a b c) = X (ix2 ⟨o + b.val, by omega⟩ ⟨128 * a.val + c.val, by omega⟩) := by
  pointwise [TWO]
  fin_cases a
  · simp
  · simp

theorem ix2_congr {n m : Nat} {a a' : Fin n} {b b' : Fin m} (h : a = a') (k : b = b') : ix2 a b = ix2 a' b' := by rw [h, k]

/-- What the body computes for row `y 0` and column `y 1` of its block, from the block's queries, the 2304 keys and
    values around it, the sinks, and the row `p` of the array at which the block begins. -/
def blockOut (p : Nat) (q : S2048x1024.Idx → EReal) (K V : S2304x256.Idx → EReal) (s : S8.Idx → EReal) (y0 : Fin 2048) (y1 : Fin 1024) : EReal :=
  rowOut (fun c => if Ok (p + y0.val) c.val then
        (∑ k : Fin 128, q (ix2 y0 ⟨128 * (y1.val / 128) + k.val, by omega⟩) *
          K (ix2 ⟨128 * (y0.val / 128) + c.val, by omega⟩ ⟨128 * (y1.val / 512) + k.val, by omega⟩)) * scale
      else ⊥)
    (s (ix1 ⟨y1.val / 128, by omega⟩))
    (fun c => V (ix2 ⟨128 * (y0.val / 128) + c.val, by omega⟩ ⟨128 * (y1.val / 512) + y1.val % 128, by omega⟩))

/-- A load of 128 rows and columns of the queries' block, at an index. -/
theorem load_q (v : View sig .tc .vmem S2048x1024 .bf16) (f : v.ty.Contents (Elt Ideal)) (o e : Nat)
    (b : ∀ a, (![o, e] : Fin 2 → Nat) a + S128x128.size a ≤ S2048x1024.size a) (r k : Fin 128) :
    v.readAt (Elt Ideal) (Rect.unit (s := S2048x1024) ![o, e] S128x128.size b).toLoadRect f (ix2 r k)
      = v.read (Elt Ideal) f (ix2 ⟨o + r.val, by have := b 0; simp at this; omega⟩ ⟨e + k.val, by have := b 1; simp at this; omega⟩) := by
  show v.read (Elt Ideal) f _ = _
  refine congrArg (v.read (Elt Ideal) f) (funext fun a => Fin.ext ?_)
  fin_cases a <;> simp [Rect.unit]

/-- A load of one sink. -/
theorem load_s (v : View sig .tc .smem S8 .f32) (f : v.ty.Contents (Elt Ideal)) (e : Nat)
    (b : ∀ a, (![e] : Fin 1 → Nat) a + S1.size a ≤ S8.size a) (hf : 0 < S1.numel) :
    v.readAt (Elt Ideal) (Rect.unit (s := S8) ![e] S1.size b).toLoadRect f (Shape.Idx.first hf)
      = v.read (Elt Ideal) f (ix1 ⟨e, by have := b 0; simp at this; omega⟩) := by
  show v.read (Elt Ideal) f _ = _
  refine congrArg (v.read (Elt Ideal) f) (funext fun a => Fin.ext ?_)
  fin_cases a; simp [Rect.unit]

set_option maxHeartbeats 2000000 in
/-- One stored tile is `blockOut` at the tile's place. -/
theorem piece (v0 : View sig .tc .smem S8 .f32) (f0 : v0.ty.Contents (Elt Ideal)) (v1 : View sig .tc .vmem S2048x1024 .bf16)
    (f1 : v1.ty.Contents (Elt Ideal)) (KF VF : FVec Ideal S2304x256 .bf16) (A B o p : Nat) (M N : IVec S512x384 1)
    (b0 : ∀ a, (![o, 0] : Fin 2 → Nat) a + S128x128.size a ≤ S2048x1024.size a) (b1 : ∀ a, (![o, 128] : Fin 2 → Nat) a + S128x128.size a ≤ S2048x1024.size a)
    (b2 : ∀ a, (![o, 256] : Fin 2 → Nat) a + S128x128.size a ≤ S2048x1024.size a) (b3 : ∀ a, (![o, 384] : Fin 2 → Nat) a + S128x128.size a ≤ S2048x1024.size a)
    (b4 : ∀ a, (![o, 512] : Fin 2 → Nat) a + S128x128.size a ≤ S2048x1024.size a) (b5 : ∀ a, (![o, 640] : Fin 2 → Nat) a + S128x128.size a ≤ S2048x1024.size a)
    (b6 : ∀ a, (![o, 768] : Fin 2 → Nat) a + S128x128.size a ≤ S2048x1024.size a) (b7 : ∀ a, (![o, 896] : Fin 2 → Nat) a + S128x128.size a ≤ S2048x1024.size a)
    (hs : S2x512x128.Slices ![A, B, 0] S1x128x128) (k0 : S2304x256.Slices ![o, 0] S384x128) (k1 : S2304x256.Slices ![o, 128] S384x128)
    (x : S128x128.Idx) (y : S2048x1024.Idx) (h0 : (y 0).val = o + (x 0).val) (h1 : (y 1).val = 512 * A + B + (x 1).val)
    (hf : 0 < S1.numel) (hp : p % 128 = 0) (ho : o % 128 = 0) (hB : B % 128 = 0)
    (hM : ∀ (b : Fin 512) (c : Fin 384), M (ix2 b c) = 1#1 ↔ Ok (p + o + b.val % 128) c.val)
    (hN : ∀ (b : Fin 512) (c : Fin 384), N (ix2 b c) = 1#1 ↔ Ok (p + o + b.val % 128) c.val) :
    truncf .bf16 (shapeCast S128x128 (extractStridedSlice S1x128x128 ![A, B, 0]
      (FIN (MS (SC (QS
          (v1.readAt (Elt Ideal) (Rect.unit (s := S2048x1024) ![o, 0] S128x128.size b0).toLoadRect f1)
          (v1.readAt (Elt Ideal) (Rect.unit (s := S2048x1024) ![o, 128] S128x128.size b1).toLoadRect f1)
          (v1.readAt (Elt Ideal) (Rect.unit (s := S2048x1024) ![o, 256] S128x128.size b2).toLoadRect f1)
          (v1.readAt (Elt Ideal) (Rect.unit (s := S2048x1024) ![o, 384] S128x128.size b3).toLoadRect f1)
          (v1.readAt (Elt Ideal) (Rect.unit (s := S2048x1024) ![o, 512] S128x128.size b4).toLoadRect f1)
          (v1.readAt (Elt Ideal) (Rect.unit (s := S2048x1024) ![o, 640] S128x128.size b5).toLoadRect f1)
          (v1.readAt (Elt Ideal) (Rect.unit (s := S2048x1024) ![o, 768] S128x128.size b6).toLoadRect f1)
          (v1.readAt (Elt Ideal) (Rect.unit (s := S2048x1024) ![o, 896] S128x128.size b7).toLoadRect f1))
          (TWO o KF k0 k1)) M N)
        (SK (v0.readAt (Elt Ideal) (Rect.unit (s := S8) ![0] S1.size inb_S8_S1_0).toLoadRect f0 (Shape.Idx.first hf))
          (v0.readAt (Elt Ideal) (Rect.unit (s := S8) ![1] S1.size inb_S8_S1_1).toLoadRect f0 (Shape.Idx.first hf))
          (v0.readAt (Elt Ideal) (Rect.unit (s := S8) ![2] S1.size inb_S8_S1_2).toLoadRect f0 (Shape.Idx.first hf))
          (v0.readAt (Elt Ideal) (Rect.unit (s := S8) ![3] S1.size inb_S8_S1_3).toLoadRect f0 (Shape.Idx.first hf))
          (v0.readAt (Elt Ideal) (Rect.unit (s := S8) ![4] S1.size inb_S8_S1_4).toLoadRect f0 (Shape.Idx.first hf))
          (v0.readAt (Elt Ideal) (Rect.unit (s := S8) ![5] S1.size inb_S8_S1_5).toLoadRect f0 (Shape.Idx.first hf))
          (v0.readAt (Elt Ideal) (Rect.unit (s := S8) ![6] S1.size inb_S8_S1_6).toLoadRect f0 (Shape.Idx.first hf))
          (v0.readAt (Elt Ideal) (Rect.unit (s := S8) ![7] S1.size inb_S8_S1_7).toLoadRect f0 (Shape.Idx.first hf)))
        (TWO o VF k0 k1)) hs) shapeCasts_S1x128x128_S128x128) bitsLt_bf16_f32 x
      = blockOut p (v1.read (Elt Ideal) f1) KF VF (v0.read (Elt Ideal) f0) (y 0) (y 1) := by
  obtain ⟨r, d, rfl⟩ : ∃ r d, x = ix2 r d := ⟨x 0, x 1, (ix2_eta x).symm⟩
  have hA := hs.2 0
  have hBB := hs.2 1
  have hO := k0.2 0
  simp at hA hBB hO h0 h1
  have hy0 := (y 0).isLt
  pointwise
  rw [FIN_apply]
  have e0 : (y 0).val % 128 = r.val := by omega
  have e1 : 128 * ((y 0).val / 128) = o := by omega
  have e2 : (y 1).val / 512 = A := by omega
  have e3 : (y 1).val % 128 = d.val := by omega
  have e4 : (y 1).val / 128 = 4 * A + B / 128 := by omega
  have e5 : (B + r.val) % 128 = r.val := by omega
  have e6 : (B + r.val) / 128 = B / 128 := by omega
  unfold blockOut
  refine congr (congr (congrArg rowOut (funext fun c => ?_)) ?_) (funext fun c => ?_)
  · have hc := c.isLt
    rw [MS_apply, SC_apply]
    have hm : (if (⟨A, by omega⟩ : Fin 2).val < 1 then M (ix2 ⟨B + r.val, by omega⟩ c) else N (ix2 ⟨B + r.val, by omega⟩ c)) = 1#1 ↔ Ok (p + (y 0).val) c.val := by
      have := hM ⟨B + r.val, by omega⟩ c
      have := hN ⟨B + r.val, by omega⟩ c
      simp only [e5] at *
      rw [h0, ← add_assoc]
      split_ifs <;> assumption
    refine if_congr hm ?_ rfl
    refine congrArg (· * scale) (Finset.sum_congr rfl fun k _ => ?_)
    rw [QS_apply (X := v1.read (Elt Ideal) f1) (o := o) (ho := by omega), TWO_apply _ _ _ _ (by omega)]
    · congr 2
      · apply ix2_congr <;> (apply Fin.ext; simp; omega)
      · apply ix2_congr <;> (apply Fin.ext; simp; omega)
    · intro j r k
      fin_cases j <;> exact load_q v1 f1 o _ _ r k
  · rw [SK_apply (X := v0.read (Elt Ideal) f0)]
    · congr 2
      apply Fin.ext; simp; omega
    · intro j
      fin_cases j <;> exact load_s v0 f0 _ _ hf
  · rw [TWO_apply _ _ _ _ (by omega)]
    congr 1
    apply ix2_congr <;> (apply Fin.ext; simp; omega)

end Cert.KernelIdeal.Val

end
-- ==== Proof.Mask.lean ====
/-
  The mask of the scores: which of the 384 keys around a block of 128 queries count for a query.
-/
module

public import proofs.«01_k».proof.Proof.Part

@[expose] public section

set_option maxRecDepth 16384

noncomputable section

namespace Cert.KernelIdeal.Val

open Cert.KernelIdeal Cert.KernelIdeal.Gen Idealize.ShloMosaic Idealize.ShloMosaic.TcCoe Idealize.SL.Sem
open Cert.Attn

/-- Remainder by 128 of a position, as the body computes it. -/
def modT (I : IVec S512x384 32) : IVec S512x384 32 :=
  select (andi (xori (cmpi .slt (remsi I (broadcast S512x384 128#32)) (broadcast S512x384 0#32))
      (broadcastTo S512x384 (broadcast S512x384 0#1) broadcasts_S512x384_S512x384))
      (cmpi .ne (remsi I (broadcast S512x384 128#32)) (broadcast S512x384 0#32)))
    (addi (remsi I (broadcast S512x384 128#32)) (broadcast S512x384 128#32))
    (remsi I (broadcast S512x384 128#32))

/-- Quotient by 128 of a position. -/
def divT (I : IVec S512x384 32) : IVec S512x384 32 :=
  select (andi (cmpi .ne (subi (extui 32 (cmpi .sgt I (broadcast S512x384 0#32)) natLt_1_32) (extui 32 (cmpi .slt I (broadcast S512x384 0#32)) natLt_1_32))
      (broadcast S512x384 1#32))
      (cmpi .ne (remsi I (broadcast S512x384 128#32)) (broadcast S512x384 0#32)))
    (subi (divsi I (broadcast S512x384 128#32)) (broadcast S512x384 1#32))
    (divsi I (broadcast S512x384 128#32))

/-- The row number and the key number of every score. -/
def rowI : IVec S512x384 32 := iota .tc S512x384 32 [0] iota_S512x384_d0_w32
def keyI : IVec S512x384 32 := iota .tc S512x384 32 [1] iota_S512x384_d1_w32

/-- The band: in the block before the keys from the query's place on, in the block all, after it those up to its place. -/
def BAND : IVec S512x384 1 :=
  ori (ori (andi (cmpi .eq (divT keyI) (broadcast S512x384 0#32)) (cmpi .sge (modT keyI) (modT rowI)))
      (cmpi .eq (divT keyI) (broadcast S512x384 1#32)))
    (andi (cmpi .eq (divT keyI) (broadcast S512x384 2#32)) (cmpi .sle (modT keyI) (modT rowI)))

theorem modT_key (b : Fin 512) (c : Fin 384) : modT keyI (ix2 b c) = BitVec.ofNat 32 (c.val % 128) := by
  pointwise [modT, keyI]
  revert c
  decide +kernel

theorem modT_row (b : Fin 512) (c : Fin 384) : modT rowI (ix2 b c) = BitVec.ofNat 32 (b.val % 128) := by
  pointwise [modT, rowI]
  revert b
  decide +kernel

theorem divT_key (b : Fin 512) (c : Fin 384) : divT keyI (ix2 b c) = BitVec.ofNat 32 (c.val / 128) := by
  pointwise [divT, keyI]
  revert c
  decide +kernel

theorem sge_small : ∀ x y : Fin 128, IntOp.cmpi .sge (BitVec.ofNat 32 x.val) (BitVec.ofNat 32 y.val) = if y.val ≤ x.val then 1#1 else 0#1 := by
  decide +kernel

theorem sle_small : ∀ x y : Fin 128, IntOp.cmpi .sle (BitVec.ofNat 32 x.val) (BitVec.ofNat 32 y.val) = if x.val ≤ y.val then 1#1 else 0#1 := by
  decide +kernel

theorem BAND_apply (b : Fin 512) (c : Fin 384) : BAND (ix2 b c) = 1#1 ↔ b.val % 128 ≤ c.val ∧ c.val ≤ b.val % 128 + 256 := by
  have h1 := sge_small ⟨c.val % 128, by omega⟩ ⟨b.val % 128, by omega⟩
  have h2 := sle_small ⟨c.val % 128, by omega⟩ ⟨b.val % 128, by omega⟩
  have hc := c.isLt
  simp only at h1 h2
  pointwise [BAND]
  rw [modT_key, modT_row, divT_key, h1, h2]
  have : c.val / 128 = 0 ∨ c.val / 128 = 1 ∨ c.val / 128 = 2 := by omega
  rcases this with e | e | e <;> rw [e] <;> split_ifs <;> simp [IntOp.ori, IntOp.andi, IntOp.cmpi] <;> omega

/-- The first block of a part: the keys before the sequence do not count. The bound is `u`. -/
def PREV (u : BitVec 32) : IVec S512x384 1 := andi BAND (cmpi .sge keyI (broadcast S512x384 u))

/-- The last block of a part: the keys after the sequence do not count. -/
def NEXT (u : BitVec 32) : IVec S512x384 1 := andi BAND (cmpi .slt keyI (broadcast S512x384 u))

/-- The place of the grid's row in its sequence. -/
def place (i : BitVec 32) : BitVec 32 :=
  Scalar.select (Scalar.andi (Scalar.xori (Scalar.cmpi .slt (Scalar.remsi (Scalar.muli i 2048#32) 16384#32) 0#32) 0#1)
      (Scalar.cmpi .ne (Scalar.remsi (Scalar.muli i 2048#32) 16384#32) 0#32))
    (Scalar.addi (Scalar.remsi (Scalar.muli i 2048#32) 16384#32) 16384#32)
    (Scalar.remsi (Scalar.muli i 2048#32) 16384#32)

def lower (i : BitVec 32) : BitVec 32 := Scalar.select (Scalar.cmpi .eq (place i) 0#32) 128#32 0#32
def upper (i : BitVec 32) : BitVec 32 := Scalar.select (Scalar.cmpi .eq (Scalar.addi (place i) 2048#32) 16384#32) 256#32 384#32

theorem lower_eq : ∀ t : Fin cfg0.N, lower (BitVec.ofNat 32 (grid0.coords t 0).val) = if t.val % 8 = 0 then 128#32 else 0#32 :=
  (by decide +kernel : ∀ t : Fin grid0.N, lower (BitVec.ofNat 32 (grid0.coords t 0).val) = if t.val % 8 = 0 then 128#32 else 0#32)

theorem upper_eq : ∀ t : Fin cfg0.N, upper (BitVec.ofNat 32 (grid0.coords t 0).val) = if t.val % 8 = 7 then 256#32 else 384#32 :=
  (by decide +kernel : ∀ t : Fin grid0.N, upper (BitVec.ofNat 32 (grid0.coords t 0).val) = if t.val % 8 = 7 then 256#32 else 384#32)

theorem key_ge : ∀ c : Fin 384, (IntOp.cmpi .sge (BitVec.ofNat 32 c.val) 128#32 = 1#1 ↔ 128 ≤ c.val) ∧ IntOp.cmpi .sge (BitVec.ofNat 32 c.val) 0#32 = 1#1 := by
  decide +kernel

theorem key_lt : ∀ c : Fin 384, (IntOp.cmpi .slt (BitVec.ofNat 32 c.val) 256#32 = 1#1 ↔ c.val < 256) ∧ IntOp.cmpi .slt (BitVec.ofNat 32 c.val) 384#32 = 1#1 := by
  decide +kernel

theorem andi_one : ∀ x y : BitVec 1, IntOp.andi x y = 1#1 ↔ x = 1#1 ∧ y = 1#1 := by decide

theorem BAND_ok (t : Fin cfg0.N) (o : Nat) (ho : o % 128 = 0) (h1 : 128 ≤ o) (h2 : o ≤ 1792) (b : Fin 512) (c : Fin 384) :
    BAND (ix2 b c) = 1#1 ↔ Ok (t.val * 2048 + o + b.val % 128) c.val := by
  rw [BAND_apply]
  have := c.isLt
  unfold Ok
  constructor
  · rintro ⟨h3, h4⟩; omega
  · rintro ⟨h3, h4, -⟩; omega

theorem PREV_ok (t : Fin cfg0.N) (b : Fin 512) (c : Fin 384) :
    PREV (lower (BitVec.ofNat 32 (grid0.coords t 0).val)) (ix2 b c) = 1#1 ↔ Ok (t.val * 2048 + 0 + b.val % 128) c.val := by
  have hu := lower_eq t
  generalize lower (BitVec.ofNat 32 (grid0.coords t 0).val) = u at hu ⊢
  subst hu
  pointwise [PREV, keyI]
  rw [andi_one, BAND_apply]
  have h := key_ge c
  have := c.isLt
  unfold Ok
  split_ifs with e
  · rw [h.1]; constructor
    · rintro ⟨⟨h3, h4⟩, h5⟩; omega
    · rintro ⟨h3, h4, h5, h6⟩; omega
  · simp only [h.2]; constructor
    · rintro ⟨⟨h3, h4⟩, h5⟩; omega
    · rintro ⟨h3, h4, h5, h6⟩; exact ⟨by omega, trivial⟩

theorem NEXT_ok (t : Fin cfg0.N) (b : Fin 512) (c : Fin 384) :
    NEXT (upper (BitVec.ofNat 32 (grid0.coords t 0).val)) (ix2 b c) = 1#1 ↔ Ok (t.val * 2048 + 1920 + b.val % 128) c.val := by
  have hu := upper_eq t
  generalize upper (BitVec.ofNat 32 (grid0.coords t 0).val) = u at hu ⊢
  subst hu
  pointwise [NEXT, keyI]
  rw [andi_one, BAND_apply]
  have h := key_lt c
  have := c.isLt
  unfold Ok
  split_ifs with e
  · rw [h.1]; constructor
    · rintro ⟨⟨h3, h4⟩, h5⟩; omega
    · rintro ⟨h3, h4, h5, h6⟩; omega
  · simp only [h.2]; constructor
    · rintro ⟨⟨h3, h4⟩, h5⟩; omega
    · rintro ⟨h3, h4, h5, h6⟩; exact ⟨by omega, trivial⟩

end Cert.KernelIdeal.Val

end
-- ==== Proof.Block.lean ====
/-
  What the body leaves in its output block at one grid point: 16 blocks of 128 rows, 8 heads, every tile the same
  formula.
-/
module

public import proofs.«01_k».proof.Proof.Mask

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Tactic
open Cert.Attn

variable (m : (ℓ : Loc nD τ sig) → Buf (Elt Ideal) ℓ)

/-- 2304 rows: the block of 128 before, the grid point's 2048, the block of 128 after. -/
def three (X : FVec Ideal S128x256 .bf16) (Y : FVec Ideal S2048x256 .bf16) (Z : FVec Ideal S128x256 .bf16) : FVec Ideal S2304x256 .bf16 :=
  concatenate S2304x256 0 [⟨S128x256, X⟩, ⟨S2048x256, Y⟩, ⟨S128x256, Z⟩] concatenates_S128x256_S2048x256_S128x256_S2304x256_d0

/-- The staged blocks as the body reads them are the blocks. -/
theorem reads (c : Dev nD) (t : Fin cfg0.N) (y0 : Fin 2048) (y1 : Fin 1024) :
    blockOut (t.val * 2048) ((ms0_1 t).view.read (Elt Ideal) ((hs0_1 t).unread (iblk m c 1 t)))
      (three (View.ld ((ms0_2 t).view.read (Elt Ideal) ((hs0_2 t).unread (iblk m c 2 t))) (Rect.unit (s := S128x256) ![0, 0] ![128, 256] inb_S128x256_S128x256_0_0))
        (View.ld ((ms0_3 t).view.read (Elt Ideal) ((hs0_3 t).unread (iblk m c 3 t))) (Rect.unit (s := S2048x256) ![0, 0] ![2048, 256] inb_S2048x256_S2048x256_0_0))
        (View.ld ((ms0_4 t).view.read (Elt Ideal) ((hs0_4 t).unread (iblk m c 4 t))) (Rect.unit (s := S128x256) ![0, 0] ![128, 256] inb_S128x256_S128x256_0_0)))
      (three (View.ld ((ms0_5 t).view.read (Elt Ideal) ((hs0_5 t).unread (iblk m c 5 t))) (Rect.unit (s := S128x256) ![0, 0] ![128, 256] inb_S128x256_S128x256_0_0))
        (View.ld ((ms0_6 t).view.read (Elt Ideal) ((hs0_6 t).unread (iblk m c 6 t))) (Rect.unit (s := S2048x256) ![0, 0] ![2048, 256] inb_S2048x256_S2048x256_0_0))
        (View.ld ((ms0_7 t).view.read (Elt Ideal) ((hs0_7 t).unread (iblk m c 7 t))) (Rect.unit (s := S128x256) ![0, 0] ![128, 256] inb_S128x256_S128x256_0_0)))
      ((ms0_0 t).view.read (Elt Ideal) ((hs0_0 t).unread (iblk m c 0 t))) y0 y1
    = blockOut (t.val * 2048) (iblk m c 1 t)
      (three (iblk m c 2 t) (iblk m c 3 t) (iblk m c 4 t)) (three (iblk m c 5 t) (iblk m c 6 t) (iblk m c 7 t))
      (iblk m c 0 t) y0 y1 := by
  rw [(hs0_0 t).read_unread, (hs0_1 t).read_unread, (hs0_2 t).read_unread, (hs0_3 t).read_unread, (hs0_4 t).read_unread,
    (hs0_5 t).read_unread, (hs0_6 t).read_unread, (hs0_7 t).read_unread]
  congr 2 <;> exact View.ld_unit_lit' (Val := Elt Ideal) (e := .bf16) _ _ (by decide)

set_option maxHeartbeats 0 in
/-- The output block of grid point `t`. -/
theorem out_block (c : Dev nD) (t : Fin cfg0.N) (y : S2048x1024.Idx) :
    outsAt0 m c t y = blockOut (t.val * 2048) (iblk m c 1 t)
      (three (iblk m c 2 t) (iblk m c 3 t) (iblk m c 4 t)) (three (iblk m c 5 t) (iblk m c 6 t) (iblk m c 7 t))
      (iblk m c 0 t) (y 0) (y 1) := by
  unfold outsAt0 out0_A_8
  refine (congrFun (View.read_writes_eq_canon VO0_8 _ _ (fun y => cover0_A_8 _ _ _ _ _ _ _ _ _ _ _ _ _ _ _ _ _ _ _ _ _ _ _ _ _ _ _ _ y)) y).trans ?_
  unfold kernelRun0_A
  canon_tiles x h
  all_goals
    sl_unfold_run_names
    open_payloads
    refine (piece (v0 := (ms0_0 t).view) (v1 := (ms0_1 t).view) (f0 := (hs0_0 t).unread (iblk m c 0 t))
      (f1 := (hs0_1 t).unread (iblk m c 1 t)) (p := t.val * 2048) (x := x) (y := y) (h0 := ?_) (h1 := ?_) (hp := by omega)
      (ho := by decide) (hB := by decide) (hf := by decide) (hM := ?_) (hN := ?_) ..).trans ?_
    · omega
    · omega
    case refine_3 | refine_4 =>
      first
      | (have : 1920 ≤ (y 0).val := by omega
         exact NEXT_ok t)
      | (have : (y 0).val < 128 := by omega
         exact PREV_ok t)
      | exact BAND_ok t _ (by decide) (by decide) (by decide)
    exact reads m c t _ _

end Cert.KernelIdeal.Val

end
-- ==== Proof.Array.lean ====
/-
  The kernel's result is the windowed attention: the blocks of the 24 grid points cover the array.
-/
module

public import proofs.«01_k».proof.Proof.Block

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Cert.Attn

variable (m : (ℓ : Loc nD τ sig) → Buf (Elt Ideal) ℓ)

theorem idx : ∀ t : Fin cfg0.N, win0_0.index t = ![0] ∧ win0_1.index t = ![t.val, 0] ∧ win0_2.index t = ![16 * t.val - 1, 0] ∧ win0_3.index t = ![t.val, 0]
    ∧ win0_4.index t = ![min (16 * t.val + 16) 383, 0] ∧ win0_5.index t = ![16 * t.val - 1, 0] ∧ win0_6.index t = ![t.val, 0]
    ∧ win0_7.index t = ![min (16 * t.val + 16) 383, 0] ∧ win0_8.index t = ![t.val, 0] :=
  (by decide +kernel : ∀ t : Fin grid0.N, _)

/-- The arguments as arrays of extended reals. -/
def qA (c : Dev nD) : Qs := m ((c : Thread nD τ).loc main_arg0)
def kA (c : Dev nD) : Ks := m ((c : Thread nD τ).loc main_arg1)
def vA (c : Dev nD) : Ks := m ((c : Thread nD τ).loc main_arg2)
def sA (c : Dev nD) : Ss := m ((c : Thread nD τ).loc main_arg3)

theorem t_lt (t : Fin cfg0.N) : t.val < 24 := t.isLt

theorem q_at (c : Dev nD) (t : Fin cfg0.N) (r : Fin 2048) (e : Fin 1024) :
    (iblk m c 1 t : S2048x1024.Idx → EReal) (ix2 r e) = qA m c (ix2 ⟨t.val * 2048 + r.val, by have := t_lt t; omega⟩ e) := by
  obtain ⟨i0, i1, i2, i3, i4, i5, i6, i7, i8⟩ := idx t
  unfold qA
  blk_simp [iblk, V, i1]
  refine congrArg (m ((c : Thread nD τ).loc main_arg0)) ?_
  blk_ext [i1]

theorem s_at (c : Dev nD) (t : Fin cfg0.N) (r : Fin 8) : (iblk m c 0 t : S8.Idx → EReal) (ix1 r) = sA m c (ix1 r) := by
  obtain ⟨i0, i1, i2, i3, i4, i5, i6, i7, i8⟩ := idx t
  unfold sA
  blk_simp [iblk, V, i0]
  refine congrArg (m ((c : Thread nD τ).loc main_arg3)) ?_
  blk_ext [i0]

theorem three_at (X : FVec Ideal S128x256 .bf16) (Y : FVec Ideal S2048x256 .bf16) (Z : FVec Ideal S128x256 .bf16) (r : Fin 2304) (e : Fin 256) :
    three X Y Z (ix2 r e) = if h : r.val < 128 then X (ix2 ⟨r.val, h⟩ e) else if h' : r.val - 128 < 2048 then Y (ix2 ⟨r.val - 128, h'⟩ e)
      else Z (ix2 ⟨r.val - 128 - 2048, by omega⟩ e) := by
  pointwise [three]

/-- The 2304 keys around a grid point, at a row that lies in the array. -/
theorem k_at (c : Dev nD) (t : Fin cfg0.N) (r : Fin 2304) (e : Fin 256) (h0 : 128 ≤ t.val * 2048 + r.val) (h1 : t.val * 2048 + r.val - 128 < 49152) :
    three (iblk m c 2 t) (iblk m c 3 t) (iblk m c 4 t) (ix2 r e) = kA m c (ix2 ⟨t.val * 2048 + r.val - 128, h1⟩ e) := by
  obtain ⟨i0, i1, i2, i3, i4, i5, i6, i7, i8⟩ := idx t
  have ht := t_lt t
  rw [three_at]
  unfold kA
  split_ifs with h h'
  · blk_simp [iblk, V, i2]
    refine congrArg (m ((c : Thread nD τ).loc main_arg1)) ?_
    blk_ext [i2]
  · blk_simp [iblk, V, i3]
    refine congrArg (m ((c : Thread nD τ).loc main_arg1)) ?_
    blk_ext [i3]
  · blk_simp [iblk, V, i4]
    refine congrArg (m ((c : Thread nD τ).loc main_arg1)) ?_
    blk_ext [i4]

/-- The values likewise. -/
theorem v_at (c : Dev nD) (t : Fin cfg0.N) (r : Fin 2304) (e : Fin 256) (h0 : 128 ≤ t.val * 2048 + r.val) (h1 : t.val * 2048 + r.val - 128 < 49152) :
    three (iblk m c 5 t) (iblk m c 6 t) (iblk m c 7 t) (ix2 r e) = vA m c (ix2 ⟨t.val * 2048 + r.val - 128, h1⟩ e) := by
  obtain ⟨i0, i1, i2, i3, i4, i5, i6, i7, i8⟩ := idx t
  have ht := t_lt t
  rw [three_at]
  unfold vA
  split_ifs with h h'
  · blk_simp [iblk, V, i5]
    refine congrArg (m ((c : Thread nD τ).loc main_arg2)) ?_
    blk_ext [i5]
  · blk_simp [iblk, V, i6]
    refine congrArg (m ((c : Thread nD τ).loc main_arg2)) ?_
    blk_ext [i6]
  · blk_simp [iblk, V, i7]
    refine congrArg (m ((c : Thread nD τ).loc main_arg2)) ?_
    blk_ext [i7]

/-- One element of the block of grid point `t` is the attention at its place in the array. -/
theorem block_eq (c : Dev nD) (hq : ∀ i, qA m c i ≠ ⊥ ∧ qA m c i ≠ ⊤) (hk : ∀ i, kA m c i ≠ ⊥ ∧ kA m c i ≠ ⊤) (hs : ∀ i, sA m c i ≠ ⊥ ∧ sA m c i ≠ ⊤)
    (t : Fin cfg0.N) (r : Fin 2048) (e : Fin 1024) :
    blockOut (t.val * 2048) (iblk m c 1 t) (three (iblk m c 2 t) (iblk m c 3 t) (iblk m c 4 t))
      (three (iblk m c 5 t) (iblk m c 6 t) (iblk m c 7 t)) (iblk m c 0 t) r e
    = attention (qA m c) (kA m c) (vA m c) (sA m c) ⟨t.val * 2048 + r.val, by have := t_lt t; omega⟩ e := by
  have ht := t_lt t
  have hr := r.isLt
  unfold blockOut
  rw [s_at]
  refine attention_of _ _ _ _ hq hk hs _ e _ _ (fun k => ?_) fun k hok => ?_
  · have hkk := k.isLt
    unfold score
    by_cases hok : Ok (t.val * 2048 + r.val) k.val
    · rw [if_pos hok, dif_pos hok]
      refine congrArg (· * scale) (Finset.sum_congr rfl fun i _ => ?_)
      unfold Ok at hok
      rw [q_at, k_at m c t _ _ (by simp only; omega) (by simp only; omega)]
      congr 2
      congr 1
      apply Fin.ext; simp only; omega
    · rw [if_neg hok, dif_neg hok]
  · have hkk := k.isLt
    unfold value
    rw [dif_pos hok]
    unfold Ok at hok
    simp only at hok
    rw [v_at m c t _ _ (by simp only; omega) (by simp only; omega)]
    congr 2
    apply Fin.ext; simp only; omega

/-- The attention as an array. -/
def attn (c : Dev nD) : S49152x1024.Idx → EReal := fun i => attention (qA m c) (kA m c) (vA m c) (sA m c) (i 0) (i 1)

/-- A block of the result, element by element. -/
theorem out_eq (c : Dev nD) (hq : ∀ i, qA m c i ≠ ⊥ ∧ qA m c i ≠ ⊤) (hk : ∀ i, kA m c i ≠ ⊥ ∧ kA m c i ≠ ⊤) (hs : ∀ i, sA m c i ≠ ⊥ ∧ sA m c i ≠ ⊤)
    (t : Fin cfg0.N) (y : S2048x1024.Idx) :
    (outsAt0 m c t : S2048x1024.Idx → EReal) y = attention (qA m c) (kA m c) (vA m c) (sA m c) ⟨t.val * 2048 + (y 0).val, by have := t_lt t; have : (y 0).val < 2048 := (y 0).isLt; omega⟩ (y 1) :=
  (out_block m c t y).trans (block_eq m c hq hk hs t (y 0) (y 1))

/-- The array index that block element `y` of grid point `t` lands on. -/
theorem emb_0 (t : Fin cfg0.N) (y : S2048x1024.Idx) : (((cfg0.win 8).blk t).view.emb y 0).val = t.val * 2048 + (y 0).val := by
  obtain ⟨i0, i1, i2, i3, i4, i5, i6, i7, i8⟩ := idx t
  blk_simp [i8]

theorem emb_1 (t : Fin cfg0.N) (y : S2048x1024.Idx) : (((cfg0.win 8).blk t).view.emb y 1).val = (y 1).val := by
  obtain ⟨i0, i1, i2, i3, i4, i5, i6, i7, i8⟩ := idx t
  blk_simp [i8]

theorem attn_congr (c : Dev nD) (i : S49152x1024.Idx) (n : Fin 49152) (e : Fin 1024) (h0 : (i 0).val = n.val) (h1 : (i 1).val = e.val) :
    attn m c i = attention (qA m c) (kA m c) (vA m c) (sA m c) n e := by
  have e0 : i 0 = n := Fin.ext h0
  have e1 : i 1 = e := Fin.ext h1
  unfold attn
  rw [e0, e1]

theorem attn_emb (c : Dev nD) (t : Fin cfg0.N) (y : S2048x1024.Idx) :
    attn m c (((cfg0.win 8).blk t).view.emb y)
      = attention (qA m c) (kA m c) (vA m c) (sA m c) ⟨t.val * 2048 + (y 0).val, by have := t_lt t; have : (y 0).val < 2048 := (y 0).isLt; omega⟩ (y 1) :=
  attn_congr m c _ _ _ (emb_0 t y) (emb_1 t y)

/-- The kernel's result array. -/
theorem array_eq (c : Dev nD) (hq : ∀ i, qA m c i ≠ ⊥ ∧ qA m c i ≠ ⊤) (hk : ∀ i, kA m c i ≠ ⊥ ∧ kA m c i ≠ ⊤) (hs : ∀ i, sA m c i ≠ ⊥ ∧ sA m c i ≠ ⊤) :
    (dats m 0 c).arrAt 8 cfg0.N = attn m c := by
  refine Dat.arrAt_eq_of_covers _ 8 _ (by decide +kernel) fun t hf y => ?_
  blk_simp
  rw [after0_8]
  have h := out_eq m c hq hk hs t y
  exact h.trans (attn_emb m c t y).symm

end Cert.KernelIdeal.Val

end
-- ==== Proof.Ref.lean ====
/-
  The reference, read at an index: every row and head is one softmax row with a sink.
-/
module

public import proofs.«01_k».proof.Proof.Gen.ReferenceIdeal.Read
public import Idealize.ShloMosaic.Lib.Pointwise
public import proofs.«01_k».proof.Proof.Spec

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Cert.Attn
open Cert.ReferenceIdeal.Read

variable (x0 : FVec Ideal S49152x1024 .bf16) (x1 x2 : FVec Ideal S49152x256 .bf16) (x3 : FVec Ideal S8 .f32)

/-- The scores of one row. -/
theorem fiber (a : Fin 3) (b : Fin 128) (h : Fin 2) (g : Fin 4) (q : Fin 128) (i : S3x128x2x4x128x384.Idx) :
    reducesTo_S3x128x2x4x128x384_S3x128x2x4x128_d5.drop i = ix5 a b h g q ↔ ∃ c : Fin 384, ix6 a b h g q c = i := by
  constructor
  · intro e
    refine ⟨i 5, ?_⟩
    funext r
    apply Fin.ext
    match r with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext r
    apply Fin.ext
    match r with
    | ⟨0, _⟩ => rfl
    | ⟨1, _⟩ => rfl
    | ⟨2, _⟩ => rfl
    | ⟨3, _⟩ => rfl
    | ⟨4, _⟩ => rfl

/-- The largest masked score of a row. -/
theorem v58 (a : Fin 3) (b : Fin 128) (h : Fin 2) (g : Fin 4) (q : Fin 128) : val_main_v58 (F := Ideal) x0 x1 (ix5 a b h g q) =
    Finset.univ.fold max (Ideal.ofBits .f32 0xFF800000#32) (fun c : Fin 384 => val_main_v55 (F := Ideal) x0 x1 (ix6 a b h g q c)) := by
  unfold val_main_v58
  generalize val_main_v55 (F := Ideal) x0 x1 = X
  pointwise [val_main_cst_7]
  exact Finset.fold_filter_eq_fold_of_fiber max (fun i => reducesTo_S3x128x2x4x128x384_S3x128x2x4x128_d5.drop i = ix5 a b h g q)
    (fun c : Fin 384 => ix6 a b h g q c) (fun _ _ e => congrFun e 5) (fiber a b h g q) _ X

/-- The row's sink. -/
theorem v57 (h : Fin 2) (g : Fin 4) : val_main_v57 (F := Ideal) x3 (ix6 0 0 h g 0 0) = x3 (ix1 ⟨h.val * 4 + g.val, by omega⟩) := by
  pointwise [val_main_v57, val_main_v56]

theorem v61 (a : Fin 3) (b : Fin 128) (h : Fin 2) (g : Fin 4) (q : Fin 128) : val_main_v61 (F := Ideal) x0 x1 x3 (ix6 a b h g q 0) =
    max (val_main_v58 (F := Ideal) x0 x1 (ix5 a b h g q)) (val_main_v57 (F := Ideal) x3 (ix6 0 0 h g 0 0)) := by
  rw [val_main_v61_apply, val_main_v60_apply, val_main_v59_apply]
  have e1 : idx_main_v59 (ix6 a b h g q 0) = ix5 a b h g q := funext fun r => Fin.ext (match r with
    | ⟨0, _⟩ => rfl
    | ⟨1, _⟩ => rfl
    | ⟨2, _⟩ => rfl
    | ⟨3, _⟩ => rfl
    | ⟨4, _⟩ => rfl)
  have e2 : idx_main_v60 (ix6 a b h g q 0) = ix6 0 0 h g 0 0 := funext fun r => Fin.ext (match r with
    | ⟨0, _⟩ => rfl
    | ⟨1, _⟩ => rfl
    | ⟨2, _⟩ => rfl
    | ⟨3, _⟩ => rfl
    | ⟨4, _⟩ => rfl
    | ⟨5, _⟩ => rfl)
  rw [e1, e2]
  generalize val_main_v58 (F := Ideal) x0 x1 (ix5 a b h g q) = s
  generalize val_main_v57 (F := Ideal) x3 (ix6 0 0 h g 0 0) = u
  rfl

theorem v64 (a : Fin 3) (b : Fin 128) (h : Fin 2) (g : Fin 4) (q : Fin 128) (c : Fin 384) : val_main_v64 (F := Ideal) x0 x1 x3 (ix6 a b h g q c) =
    Ideal.exp (val_main_v55 (F := Ideal) x0 x1 (ix6 a b h g q c) - val_main_v61 (F := Ideal) x0 x1 x3 (ix6 a b h g q 0)) := by
  unfold val_main_v64 val_main_v63 val_main_v62
  generalize val_main_v55 (F := Ideal) x0 x1 = X0
  generalize val_main_v61 (F := Ideal) x0 x1 x3 = X1
  pointwise

theorem v65 (a : Fin 3) (b : Fin 128) (h : Fin 2) (g : Fin 4) (q : Fin 128) : val_main_v65 (F := Ideal) x0 x1 x3 (ix5 a b h g q) =
    ∑ c : Fin 384, val_main_v64 (F := Ideal) x0 x1 x3 (ix6 a b h g q c) := by
  rw [val_main_v65_apply]
  have e : (val_main_cst_8 (F := Ideal)) (Shape.Idx.first h_S_) = 0 := by pointwise [val_main_cst_8]
  rw [e, zero_add]
  refine Finset.sum_congr rfl fun c _ => congrArg _ (funext fun r => Fin.ext ?_)
  match r with
  | ⟨0, _⟩ => rfl
  | ⟨1, _⟩ => rfl
  | ⟨2, _⟩ => rfl
  | ⟨3, _⟩ => rfl
  | ⟨4, _⟩ => rfl
  | ⟨5, _⟩ => rfl

theorem v72 (a : Fin 3) (b : Fin 128) (h : Fin 2) (g : Fin 4) (q : Fin 128) (c : Fin 384) : val_main_v72 (F := Ideal) x0 x1 x3 (ix6 a b h g q c) =
    Ideal.div (val_main_v64 (F := Ideal) x0 x1 x3 (ix6 a b h g q c)) (val_main_v65 (F := Ideal) x0 x1 x3 (ix5 a b h g q)
      + Ideal.exp (val_main_v57 (F := Ideal) x3 (ix6 0 0 h g 0 0) - val_main_v61 (F := Ideal) x0 x1 x3 (ix6 a b h g q 0))) := by
  unfold val_main_v72 val_main_v71 val_main_v70 val_main_v69 val_main_v68 val_main_v67 val_main_v66
  generalize val_main_v64 (F := Ideal) x0 x1 x3 = X0
  generalize val_main_v65 (F := Ideal) x0 x1 x3 = X1
  generalize val_main_v61 (F := Ideal) x0 x1 x3 = X2
  generalize val_main_v57 (F := Ideal) x3 = X3
  pointwise

theorem v76 (n : Fin 49152) (e : Fin 1024) : val_main_v76 (F := Ideal) x0 x1 x2 x3 (ix2 n e) =
    ∑ c, val_main_v18 (F := Ideal) x2 (ix5 ⟨n.val / 16384, by omega⟩ ⟨n.val / 128 % 128, by omega⟩ c ⟨e.val / 512, by omega⟩ ⟨e.val % 128, by omega⟩) *
      val_main_v72 (F := Ideal) x0 x1 x3 (ix6 ⟨n.val / 16384, by omega⟩ ⟨n.val / 128 % 128, by omega⟩ ⟨e.val / 512, by omega⟩ ⟨e.val / 128 % 4, by omega⟩ ⟨n.val % 128, by omega⟩ c) := by
  unfold val_main_v76 val_main_v75 val_main_v74 val_main_v73
  generalize val_main_v72 (F := Ideal) x0 x1 x3 = X0
  generalize val_main_v18 (F := Ideal) x2 = X1
  pointwise

end Cert.ReferenceIdeal.Val

end
-- ==== Proof.RefScores.lean ====
/-
  The reference's keys, values, scores and mask, read at an index.
-/
module

public import proofs.«01_k».proof.Proof.Gen.ReferenceIdeal.Read
public import Idealize.ShloMosaic.Lib.Pointwise
public import proofs.«01_k».proof.Proof.Spec

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Cert.Attn
open Cert.ReferenceIdeal.Read

variable (x0 : FVec Ideal S49152x1024 .bf16) (x1 x2 : FVec Ideal S49152x256 .bf16) (x3 : FVec Ideal S8 .f32)

theorem zero_word : FloatOps.sitofp (F := Ideal) .f32 0#32 = (0 : EReal) := by
  show (((0#32 : BitVec 32).toInt : ℝ) : EReal) = 0
  simp

/-- One row of the padded keys or values. -/
theorem v9 (a : Fin 3) (b : Fin 16640) (h : Fin 2) (d : Fin 128) : val_main_v9 (F := Ideal) x2 (ix4 a b h d) =
    if h1 : 128 ≤ b.val ∧ b.val - 128 < 16384 then x2 (ix2 ⟨a.val * 16384 + (b.val - 128), by omega⟩ ⟨h.val * 128 + d.val, by omega⟩) else 0 := by
  pointwise [val_main_v9, val_main_v5, val_main_v4, val_main_call1_v0, val_main_c_0]
  rw [zero_word]

theorem v7 (a : Fin 3) (b : Fin 16640) (h : Fin 2) (d : Fin 128) : val_main_v7 (F := Ideal) x1 (ix4 a b h d) =
    if h1 : 128 ≤ b.val ∧ b.val - 128 < 16384 then x1 (ix2 ⟨a.val * 16384 + (b.val - 128), by omega⟩ ⟨h.val * 128 + d.val, by omega⟩) else 0 := by
  pointwise [val_main_v7, val_main_v3, val_main_v2, val_main_call0_v0, val_main_c]
  rw [zero_word]

/-- Row `c` of the 384 values around block `b` of sequence `a`; zero outside the sequence. -/
theorem v18 (a : Fin 3) (b : Fin 128) (c : Fin 384) (h : Fin 2) (d : Fin 128) : val_main_v18 (F := Ideal) x2 (ix5 a b c h d) =
    if h1 : 128 ≤ 128 * b.val + c.val ∧ 128 * b.val + c.val < 16512 then
      x2 (ix2 ⟨a.val * 16384 + (128 * b.val + c.val - 128), by omega⟩ ⟨h.val * 128 + d.val, by omega⟩) else 0 := by
  have key : val_main_v18 (F := Ideal) x2 (ix5 a b c h d) = val_main_v9 (F := Ideal) x2 (ix4 a ⟨128 * b.val + c.val, by omega⟩ h d) := by
    pointwise [val_main_v18, val_main_v17, val_main_v16, val_main_v15, val_main_v10]
    split_ifs <;> exact congrArg (fun r => val_main_v9 (F := Ideal) x2 (ix4 a r h d)) (Fin.ext (by simp; omega))
  rw [key, v9]
  by_cases h1 : 128 ≤ 128 * b.val + c.val ∧ 128 * b.val + c.val < 16512
  · rw [dif_pos h1, dif_pos ⟨h1.1, by simp only; omega⟩]
  · rw [dif_neg h1, dif_neg (by simp only; omega)]

theorem v14 (a : Fin 3) (b : Fin 128) (c : Fin 384) (h : Fin 2) (d : Fin 128) : val_main_v14 (F := Ideal) x1 (ix5 a b c h d) =
    if h1 : 128 ≤ 128 * b.val + c.val ∧ 128 * b.val + c.val < 16512 then
      x1 (ix2 ⟨a.val * 16384 + (128 * b.val + c.val - 128), by omega⟩ ⟨h.val * 128 + d.val, by omega⟩) else 0 := by
  have key : val_main_v14 (F := Ideal) x1 (ix5 a b c h d) = val_main_v7 (F := Ideal) x1 (ix4 a ⟨128 * b.val + c.val, by omega⟩ h d) := by
    pointwise [val_main_v14, val_main_v13, val_main_v12, val_main_v11, val_main_v8]
    split_ifs <;> exact congrArg (fun r => val_main_v7 (F := Ideal) x1 (ix4 a r h d)) (Fin.ext (by simp; omega))
  rw [key, v7]
  by_cases h1 : 128 ≤ 128 * b.val + c.val ∧ 128 * b.val + c.val < 16512
  · rw [dif_pos h1, dif_pos ⟨h1.1, by simp only; omega⟩]
  · rw [dif_neg h1, dif_neg (by simp only; omega)]

theorem v6 (a : Fin 3) (b : Fin 128) (q : Fin 128) (h : Fin 2) (g : Fin 4) (d : Fin 128) : val_main_v6 (F := Ideal) x0 (ix6 a b q h g d) =
    x0 (ix2 ⟨a.val * 16384 + (b.val * 128 + q.val), by omega⟩ ⟨(h.val * 4 + g.val) * 128 + d.val, by omega⟩) := by
  pointwise [val_main_v6, val_main_v1, val_main_v0]

/-- The scores before the mask. -/
theorem v22 (a : Fin 3) (b : Fin 128) (h : Fin 2) (g : Fin 4) (q : Fin 128) (c : Fin 384) : val_main_v22 (F := Ideal) x0 x1 (ix6 a b h g q c) =
    (∑ k, val_main_v14 (F := Ideal) x1 (ix5 a b c h k) * val_main_v6 (F := Ideal) x0 (ix6 a b q h g k)) * Ideal.ofBits .f32 0x3DB504F3#32 := by
  pointwise [val_main_v22, val_main_v20, val_main_v19, val_main_v21, val_main_cst]

/-- The position of key `c` of block `b` in its sequence, as a word. -/
def kpos (b : Fin 128) (c : Fin 384) : BitVec 32 :=
  IntOp.addi (IntOp.muli (IntOp.subi (BitVec.ofNat 32 b.val) 1#32) 128#32) (BitVec.ofNat 32 c.val)

theorem kpos_ge : ∀ (b : Fin 128) (c : Fin 384), IntOp.cmpi .sge (kpos b c) 0#32 = 1#1 ↔ 128 ≤ 128 * b.val + c.val := by
  decide +kernel

theorem kpos_lt : ∀ (b : Fin 128) (c : Fin 384), IntOp.cmpi .slt (kpos b c) 16384#32 = 1#1 ↔ 128 * b.val + c.val < 16512 := by
  decide +kernel

theorem near : ∀ (q : Fin 128) (c : Fin 384), IntOp.cmpi .sle (IntOp.absi (BitVec.ofNat 32 q.val + 128#32 - BitVec.ofNat 32 c.val)) 128#32 = 1#1
    ↔ q.val ≤ c.val ∧ c.val ≤ q.val + 256 := by
  decide +kernel

theorem andi_one : ∀ x y : BitVec 1, IntOp.andi x y = 1#1 ↔ x = 1#1 ∧ y = 1#1 := by decide

theorem diff (b : Fin 128) (q : Fin 128) (c : Fin 384) :
    IntOp.subi (BitVec.ofNat 32 (b.val * 128 + q.val)) (kpos b c) = BitVec.ofNat 32 q.val + 128#32 - BitVec.ofNat 32 c.val := by
  unfold kpos
  simp only [IntOp.subi, IntOp.addi, IntOp.muli, BitVec.ofNat_add, BitVec.ofNat_mul]
  generalize BitVec.ofNat 32 b.val = x
  generalize BitVec.ofNat 32 q.val = y
  generalize BitVec.ofNat 32 c.val = z
  grind

/-- The mask of the scores. -/
theorem v53 (b : Fin 128) (q : Fin 128) (c : Fin 384) : val_main_v53 (F := Ideal) (ix3 b q c) = 1#1 ↔
    (q.val ≤ c.val ∧ c.val ≤ q.val + 256) ∧ 128 ≤ 128 * b.val + c.val ∧ 128 * b.val + c.val < 16512 := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_c_5, val_main_c_4, val_main_c_3, val_main_c_2, val_main_c_1]
  change IntOp.andi (IntOp.andi (IntOp.cmpi .sle (IntOp.absi (IntOp.subi (BitVec.ofNat 32 (b.val * 128 + q.val)) (kpos b c))) 128#32)
    (IntOp.cmpi .sge (kpos b c) 0#32)) (IntOp.cmpi .slt (kpos b c) 16384#32) = 1#1 ↔ _
  rw [andi_one, andi_one, diff, near, kpos_ge, kpos_lt, and_assoc]

/-- The masked scores. -/
theorem v55 (a : Fin 3) (b : Fin 128) (h : Fin 2) (g : Fin 4) (q : Fin 128) (c : Fin 384) : val_main_v55 (F := Ideal) x0 x1 (ix6 a b h g q c) =
    if val_main_v53 (F := Ideal) (ix3 b q c) = 1#1 then val_main_v22 (F := Ideal) x0 x1 (ix6 a b h g q c) else Ideal.ofBits .f32 0xFF800000#32 := by
  pointwise [val_main_v55, val_main_v54, val_main_call2_v0, val_main_call2_v1, val_main_call2_v2, val_main_cst_6]
  rfl

end Cert.ReferenceIdeal.Val

end
-- ==== Proof.RefRow.lean ====
/-
  The reference's result is the windowed attention.
-/
module

public import proofs.«01_k».proof.Proof.Ref
public import proofs.«01_k».proof.Proof.RefScores

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Cert.Attn
open Cert.ReferenceIdeal.Read

variable (x0 : FVec Ideal S49152x1024 .bf16) (x1 x2 : FVec Ideal S49152x256 .bf16) (x3 : FVec Ideal S8 .f32)

/-- A row of the reference, in its own coordinates: sequence, block, row of the block, key head, head of the group. -/
theorem row (a : Fin 3) (b : Fin 128) (h : Fin 2) (g : Fin 4) (q : Fin 128) (d : Fin 128) :
    ∑ c, val_main_v18 (F := Ideal) x2 (ix5 a b c h d) * val_main_v72 (F := Ideal) x0 x1 x3 (ix6 a b h g q c)
    = rowOut (fun c => val_main_v55 (F := Ideal) x0 x1 (ix6 a b h g q c)) (x3 (ix1 ⟨h.val * 4 + g.val, by omega⟩))
        (fun c => val_main_v18 (F := Ideal) x2 (ix5 a b c h d)) := by
  unfold rowOut
  refine Finset.sum_congr rfl fun c _ => ?_
  rw [mul_comm, v72, v65]
  simp only [v64, v61, v58, v57, negInf]

theorem result_eq (hq : ∀ i, x0 i ≠ ⊥ ∧ x0 i ≠ ⊤) (hk : ∀ i, x1 i ≠ ⊥ ∧ x1 i ≠ ⊤) (hs : ∀ i, x3 i ≠ ⊥ ∧ x3 i ≠ ⊤)
    (n : Fin 49152) (e : Fin 1024) : val_main_v76 (F := Ideal) x0 x1 x2 x3 (ix2 n e) = attention x0 x1 x2 x3 n e := by
  rw [v76, row]
  have hn := n.isLt
  have he := e.isLt
  have es : (⟨e.val / 512 * 4 + e.val / 128 % 4, by omega⟩ : Fin 8) = ⟨e.val / 128, by omega⟩ := Fin.ext (by simp only; omega)
  simp only [es]
  refine attention_of x0 x1 x2 x3 hq hk hs n e _ _ (fun c => ?_) fun c hc => ?_
  · have hc := c.isLt
    rw [v55, negInf]
    unfold score
    by_cases hok : Ok n.val c.val
    · have hv : val_main_v53 (F := Ideal) (ix3 ⟨n.val / 128 % 128, by omega⟩ ⟨n.val % 128, by omega⟩ c) = 1#1 := by
        rw [v53]; unfold Ok at hok; simp only; omega
      rw [if_pos hv, dif_pos hok, v22]
      refine congrArg (· * scale) (Finset.sum_congr rfl fun k _ => ?_)
      rw [v14, v6, dif_pos (by unfold Ok at hok; simp only; omega), mul_comm]
      unfold Ok at hok
      congr 1
      · congr 1; congr 1 <;> (apply Fin.ext; simp only; omega)
      · congr 1; congr 1 <;> (apply Fin.ext; simp only; omega)
    · have hv : ¬ val_main_v53 (F := Ideal) (ix3 ⟨n.val / 128 % 128, by omega⟩ ⟨n.val % 128, by omega⟩ c) = 1#1 := by
        rw [v53]; unfold Ok at hok; simp only; omega
      rw [if_neg hv, dif_neg hok]
  · have hcl := c.isLt
    unfold value
    rw [dif_pos hc, v18, dif_pos (by unfold Ok at hc; simp only; omega)]
    unfold Ok at hc
    congr 1; congr 1 <;> (apply Fin.ext; simp only; omega)

end Cert.ReferenceIdeal.Val

end
-- ==== Proof.Finite.lean ====
/- What the precondition says: every query, key and sink is a real number. -/
module

public import proofs.«01_k».proof.Defs

@[expose] public section

set_option maxRecDepth 16384

noncomputable section

namespace Cert.Pre_finite

open Idealize.ShloMosaic

/-- The side conditions the precondition's operations take. -/
theorem facts : Facts := ⟨by decide, by decide, by decide, by decide⟩

/-- An extended real whose absolute value compares below the top is a real number. -/
theorem real_of_lt {x : EReal} (h : Ideal.cmp .olt (max x (-x)) (Ideal.ofBits .f32 0x7F800000#32) = 1#1) : x ≠ ⊥ ∧ x ≠ ⊤ := by
  have htop : Ideal.ofBits .f32 0x7F800000#32 = ⊤ := by simp [Ideal.ofBits, Ideal.ieee]
  rw [htop] at h
  have h' : max x (-x) < ⊤ := by
    by_contra hn
    simp [Ideal.cmp, hn] at h
  constructor
  · rintro rfl; simp at h'
  · rintro rfl; simp at h'

/-- The precondition, read. -/
theorem fn_finite [Facts] (q : FVec Ideal S49152x1024 .bf16) (k v : FVec Ideal S49152x256 .bf16) (s : FVec Ideal S8 .f32)
    (h : (fn (F := Ideal) q k v s).1 = (fun _ => 1#1) ∧ (fn (F := Ideal) q k v s).2.1 = (fun _ => 1#1) ∧ (fn (F := Ideal) q k v s).2.2 = (fun _ => 1#1)) :
    (∀ i, (q i : EReal) ≠ ⊥ ∧ (q i : EReal) ≠ ⊤) ∧ (∀ i, (k i : EReal) ≠ ⊥ ∧ (k i : EReal) ≠ ⊤) ∧ (∀ i, (s i : EReal) ≠ ⊥ ∧ (s i : EReal) ≠ ⊤) := by
  obtain ⟨h0, h1, h2⟩ := h
  refine ⟨fun i => ?_, fun i => ?_, fun i => ?_⟩
  · exact real_of_lt (congrFun h0 i)
  · exact real_of_lt (congrFun h1 i)
  · exact real_of_lt (congrFun h2 i)

end Cert.Pre_finite

end
-- ==== Proof.MlpPart.lean ====
/-
  The pieces of the block of the output projection and MLP, each read at an index: the norm, one group of 512 hidden units,
  and the products.
-/
module

public import proofs.«01_k».proof.Proof.Gen.PromptIdeal.Value
public import Idealize.ShloMosaic.Lib.Pipeline.ValueKit
public import Idealize.ShloMosaic.Lib.Pointwise
public import proofs.«01_k».proof.Proof.TailSpec

@[expose] public section

set_option maxRecDepth 16384

noncomputable section

namespace Cert.PromptIdeal.Val

open Cert.PromptIdeal Cert.PromptIdeal.Gen Idealize.ShloMosaic Idealize.ShloMosaic.TcCoe Idealize.SL.Sem
open Cert.Tail

/-- The norm of a block's rows. -/
def RMS (h : FVec Ideal S512x1024 .f32) (g : FVec Ideal S1x1024 .f32) : FVec Ideal S512x1024 .f32 :=
  mulf (mulf h (broadcastTo S512x1024 (rsqrt (addf (divf (shapeCast S512x1 (multiReduction .add [1] S512 (mulf h h) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 g broadcasts_S1x1024_S512x1024)

/-- A group of hidden units. -/
def UP (h : FVec Ideal S512x1024 .bf16) (w : FVec Ideal S1024x512 .bf16) : FVec Ideal S512x512 .bf16 :=
  truncf .bf16 (mulf (maximumf (matmul dot_S512x1024_S1024x512_S512x512_1_0_0_1_n_n none h (shapeCast S1024x512 w shapeCasts_S1024x512_S1024x512) (constant S512x512 .f32 0x00000000#32)) (broadcast S512x512 (Scalar.ofBits .f32 0x00000000#32)))
    (maximumf (matmul dot_S512x1024_S1024x512_S512x512_1_0_0_1_n_n none h (shapeCast S1024x512 w shapeCasts_S1024x512_S1024x512) (constant S512x512 .f32 0x00000000#32)) (broadcast S512x512 (Scalar.ofBits .f32 0x00000000#32)))) bitsLt_bf16_f32

/-- A group's share of the MLP, added on. -/
def DOWN (acc : FVec Ideal S512x1024 .f32) (h : FVec Ideal S512x1024 .bf16) (wu : FVec Ideal S1024x512 .bf16) (wd : FVec Ideal S512x1024 .bf16) : FVec Ideal S512x1024 .f32 :=
  addf acc (matmul dot_S512x512_S512x1024_S512x1024_1_0_0_1_n_n none (UP h wu) (shapeCast S512x1024 wd shapeCasts_S512x1024_S512x1024) (constant S512x1024 .f32 0x00000000#32))

/-- The output projection. -/
def PROJ (a : FVec Ideal S512x2048 .bf16) (w : FVec Ideal S2048x1024 .bf16) : FVec Ideal S512x1024 .f32 :=
  matmul dot_S512x2048_S2048x1024_S512x1024_1_0_0_1_n_n none a (shapeCast S2048x1024 w shapeCasts_S2048x1024_S2048x1024) (constant S512x1024 .f32 0x00000000#32)

/-- The residual after the mixer. -/
def MID (p x : FVec Ideal S512x1024 .f32) (g : FVec Ideal S1x1024 .f32) : FVec Ideal S512x1024 .f32 := addf x (RMS p g)

theorem zero_bits : (FloatOps.ofBits .f32 0x00000000#32 : Ideal .f32) = (0 : EReal) := by
  show Ideal.ofBits .f32 0x00000000#32 = 0
  simp [Ideal.ofBits, Ideal.ieee]

theorem RMS_apply (h : FVec Ideal S512x1024 .f32) (g : FVec Ideal S1x1024 .f32) (r : Fin 512) (e : Fin 1024) :
    RMS h g (ix2 r e) = rms (fun j => h (ix2 r j)) (fun j => g (ix2 0 j)) e := by
  pointwise [RMS]
  rfl

theorem UP_apply (h : FVec Ideal S512x1024 .bf16) (w : FVec Ideal S1024x512 .bf16) (r : Fin 512) (c : Fin 512) :
    UP h w (ix2 r c) = hidden (fun k => h (ix2 r k)) (fun k => w (ix2 k c)) := by
  pointwise [UP]
  rfl

theorem DOWN_apply (acc : FVec Ideal S512x1024 .f32) (h : FVec Ideal S512x1024 .bf16) (wu : FVec Ideal S1024x512 .bf16) (wd : FVec Ideal S512x1024 .bf16) (r : Fin 512) (e : Fin 1024) :
    DOWN acc h wu wd (ix2 r e) = (acc (ix2 r e) : EReal) + ∑ c : Fin 512, hidden (fun k => h (ix2 r k)) (fun k => wu (ix2 k c)) * wd (ix2 c e) := by
  have hU := UP_apply h wu r
  unfold DOWN
  generalize UP h wu = U at *
  pointwise
  exact congrArg (_ + ·) (Finset.sum_congr rfl fun c _ => congrArg (· * _) (hU c))

theorem PROJ_apply (a : FVec Ideal S512x2048 .bf16) (w : FVec Ideal S2048x1024 .bf16) (r : Fin 512) (e : Fin 1024) :
    PROJ a w (ix2 r e) = ∑ k : Fin 2048, (a (ix2 r k) : EReal) * w (ix2 k e) := by
  pointwise [PROJ]

theorem MID_apply (p x : FVec Ideal S512x1024 .f32) (g : FVec Ideal S1x1024 .f32) (r : Fin 512) (e : Fin 1024) :
    MID p x g (ix2 r e) = (x (ix2 r e) : EReal) + rms (fun j => p (ix2 r j)) (fun j => g (ix2 0 j)) e := by
  rw [← RMS_apply]
  rfl

/-- A load of 512 columns of the first weights. -/
theorem ld_up (X : Vec Ideal S1024x4096 .bf16) (o : Nat) (b : ∀ a, (![0, o] : Fin 2 → Nat) a + S1024x512.size a ≤ S1024x4096.size a) (ho : o + 512 ≤ 4096) (k : Fin 1024) (c : Fin 512) :
    View.ld X (Rect.unit (s := S1024x4096) ![0, o] S1024x512.size b) (ix2 k c) = X (ix2 k ⟨o + c.val, by omega⟩) :=
  View.ld_unit_apply_of _ _ _ _ _ _ fun a => match a with
    | ⟨0, _⟩ => (Nat.zero_add _).symm
    | ⟨1, _⟩ => rfl

/-- A load of 512 rows of the second weights. -/
theorem ld_down (X : Vec Ideal S4096x1024 .bf16) (o : Nat) (b : ∀ a, (![o, 0] : Fin 2 → Nat) a + S512x1024.size a ≤ S4096x1024.size a) (ho : o + 512 ≤ 4096) (c : Fin 512) (e : Fin 1024) :
    View.ld X (Rect.unit (s := S4096x1024) ![o, 0] S512x1024.size b) (ix2 c e) = X (ix2 ⟨o + c.val, by omega⟩ e) :=
  View.ld_unit_apply_of _ _ _ _ _ _ fun a => match a with
    | ⟨0, _⟩ => rfl
    | ⟨1, _⟩ => (Nat.zero_add _).symm

/-- A load of one row of gains. -/
theorem ld_gain (X : Vec Ideal S4x1024 .f32) (o : Nat) (b : ∀ a, (![o, 0] : Fin 2 → Nat) a + S1x1024.size a ≤ S4x1024.size a) (ho : o < 4) (e : Fin 1024) :
    View.ld X (Rect.unit (s := S4x1024) ![o, 0] S1x1024.size b) (ix2 0 e) = X (ix2 ⟨o, ho⟩ e) :=
  View.ld_unit_apply_of _ _ _ _ _ _ fun a => match a with
    | ⟨0, _⟩ => rfl
    | ⟨1, _⟩ => (Nat.zero_add _).symm

/-- The block after the projection `P`: residual `X`, gains, and the two weights of the MLP in eight groups. -/
def OUT (P : FVec Ideal S512x1024 .f32) (X : Vec Ideal S512x1024 .f32) (g : Vec Ideal S4x1024 .f32) (wu : Vec Ideal S1024x4096 .bf16) (wd : Vec Ideal S4096x1024 .bf16) : FVec Ideal S512x1024 .f32 :=
  let M := MID P X (View.ld g r0_3)
  let H : FVec Ideal S512x1024 .bf16 := truncf .bf16 (RMS M (View.ld g r0_4)) bitsLt_bf16_f32
  let a0 := DOWN (broadcast S512x1024 (Scalar.ofBits .f32 0x00000000#32)) H (View.ld wu r0_5) (View.ld wd r0_6)
  let a1 := DOWN a0 H (View.ld wu r0_7) (View.ld wd r0_8)
  let a2 := DOWN a1 H (View.ld wu r0_9) (View.ld wd r0_10)
  let a3 := DOWN a2 H (View.ld wu r0_11) (View.ld wd r0_12)
  let a4 := DOWN a3 H (View.ld wu r0_13) (View.ld wd r0_14)
  let a5 := DOWN a4 H (View.ld wu r0_15) (View.ld wd r0_16)
  let a6 := DOWN a5 H (View.ld wu r0_17) (View.ld wd r0_18)
  let a7 := DOWN a6 H (View.ld wu r0_19) (View.ld wd r0_20)
  addf M (RMS a7 (View.ld g r0_21))

/-- One group of the MLP with its weights loaded. -/
theorem group (acc : FVec Ideal S512x1024 .f32) (H : FVec Ideal S512x1024 .bf16) (wu : Vec Ideal S1024x4096 .bf16) (wd : Vec Ideal S4096x1024 .bf16) (o : Nat)
    (b : ∀ a, (![0, o] : Fin 2 → Nat) a + S1024x512.size a ≤ S1024x4096.size a) (b' : ∀ a, (![o, 0] : Fin 2 → Nat) a + S512x1024.size a ≤ S4096x1024.size a)
    (ho : o + 512 ≤ 4096) (r : Fin 512) (e : Fin 1024) (s : EReal) (hacc : acc (ix2 r e) = s) :
    DOWN acc H (View.ld wu (Rect.unit (s := S1024x4096) ![0, o] S1024x512.size b))
      (View.ld wd (Rect.unit (s := S4096x1024) ![o, 0] S512x1024.size b')) (ix2 r e)
    = s + ∑ c : Fin 512, hidden (fun k => H (ix2 r k)) (fun k => wu (ix2 k ⟨o + c.val, by omega⟩)) * wd (ix2 ⟨o + c.val, by omega⟩ e) := by
  rw [DOWN_apply, hacc]
  refine congrArg (_ + ·) (Finset.sum_congr rfl fun c _ => ?_)
  rw [ld_down _ _ _ ho]
  refine congrArg (hidden _ · * _) (funext fun k => ld_up _ _ _ ho _ _)

theorem zero_apply (i : S512x1024.Idx) : (broadcast S512x1024 (Scalar.ofBits .f32 0x00000000#32) : FVec Ideal S512x1024 .f32) i = (0 : EReal) := zero_bits

/-- The block at an index is the layer's row. -/
theorem OUT_apply {K : Nat} (P : FVec Ideal S512x1024 .f32) (X : Vec Ideal S512x1024 .f32) (g : Vec Ideal S4x1024 .f32) (wu : Vec Ideal S1024x4096 .bf16) (wd : Vec Ideal S4096x1024 .bf16)
    (r : Fin 512) (e : Fin 1024) (m : Fin K → EReal) (wo : Fin K → Fin 1024 → EReal) (hP : ∀ j, P (ix2 r j) = ∑ k, m k * wo k j) :
    OUT P X g wu wd (ix2 r e) = row m (fun j => X (ix2 r j)) wo (fun i j => g (ix2 i j)) (fun k c => wu (ix2 k c)) (fun c j => wd (ix2 c j)) e := by
  have hM : ∀ j, MID P X (View.ld g r0_3) (ix2 r j) = mid m (fun j => X (ix2 r j)) wo (fun i j => g (ix2 i j)) j := by
    intro j
    rw [MID_apply]
    unfold mid
    congr 2
    · exact funext hP
    · exact funext fun j => ld_gain g 1 _ (by decide) j
  unfold OUT
  generalize MID P X (View.ld g r0_3) = M at *
  have hH : ∀ j, RMS M (View.ld g r0_4) (ix2 r j) = rms (mid m (fun j => X (ix2 r j)) wo (fun i j => g (ix2 i j))) (fun j => g (ix2 2 j)) j := by
    intro j
    rw [RMS_apply]
    congr 1
    · exact funext hM
    · exact funext fun j => ld_gain g 2 _ (by decide) j
  replace hH : ∀ j, (truncf .bf16 (RMS M (View.ld g r0_4)) bitsLt_bf16_f32 : FVec Ideal S512x1024 .bf16) (ix2 r j) = rms (mid m (fun j => X (ix2 r j)) wo (fun i j => g (ix2 i j))) (fun j => g (ix2 2 j)) j := hH
  generalize (truncf .bf16 (RMS M (View.ld g r0_4)) bitsLt_bf16_f32 : FVec Ideal S512x1024 .bf16) = H at *
  refine (congrArg₂ (· + ·) (hM e) (RMS_apply _ _ r e)).trans ?_
  unfold row
  congr 2
  · funext j
    unfold mlp
    rw [chunks]
    have h0 := group _ H wu wd 0 inb_S1024x4096_S1024x512_0_0 inb_S4096x1024_S512x1024_0_0 (by decide) r j _ (zero_apply (ix2 r j))
    have h1 := group _ H wu wd 512 inb_S1024x4096_S1024x512_0_512 inb_S4096x1024_S512x1024_512_0 (by decide) r j _ h0
    have h2 := group _ H wu wd 1024 inb_S1024x4096_S1024x512_0_1024 inb_S4096x1024_S512x1024_1024_0 (by decide) r j _ h1
    have h3 := group _ H wu wd 1536 inb_S1024x4096_S1024x512_0_1536 inb_S4096x1024_S512x1024_1536_0 (by decide) r j _ h2
    have h4 := group _ H wu wd 2048 inb_S1024x4096_S1024x512_0_2048 inb_S4096x1024_S512x1024_2048_0 (by decide) r j _ h3
    have h5 := group _ H wu wd 2560 inb_S1024x4096_S1024x512_0_2560 inb_S4096x1024_S512x1024_2560_0 (by decide) r j _ h4
    have h6 := group _ H wu wd 3072 inb_S1024x4096_S1024x512_0_3072 inb_S4096x1024_S512x1024_3072_0 (by decide) r j _ h5
    have h7 := group _ H wu wd 3584 inb_S1024x4096_S1024x512_0_3584 inb_S4096x1024_S512x1024_3584_0 (by decide) r j _ h6
    rw [show (fun k => H (ix2 r k)) = _ from funext hH] at h7
    exact h7
  · exact funext fun j => ld_gain g 3 _ (by decide) j

/-- The block the body stores. -/
theorem out_eq (x0 : Vec Ideal S512x2048 .bf16) (x1 : Vec Ideal S512x1024 .f32) (x2 : Vec Ideal S2048x1024 .bf16) (x3 : Vec Ideal S4x1024 .f32)
    (x4 : Vec Ideal S1024x4096 .bf16) (x5 : Vec Ideal S4096x1024 .bf16) :
    out0_6 (F := Ideal) x0 x1 x2 x3 x4 x5 = OUT (PROJ x0 x2) x1 x3 x4 x5 := by
  unfold out0_6 k0_pay9
  rw [View.canon_unit_zero (by decide), View.ld_unit_zero (by decide), View.ld_unit_zero (by decide), View.ld_unit_zero (by decide)]
  rfl

/-- The block at an index. -/
theorem out_apply (x0 : Vec Ideal S512x2048 .bf16) (x1 : Vec Ideal S512x1024 .f32) (x2 : Vec Ideal S2048x1024 .bf16) (x3 : Vec Ideal S4x1024 .f32)
    (x4 : Vec Ideal S1024x4096 .bf16) (x5 : Vec Ideal S4096x1024 .bf16) (r : Fin 512) (e : Fin 1024) :
    out0_6 (F := Ideal) x0 x1 x2 x3 x4 x5 (ix2 r e)
      = row (fun k : Fin 2048 => x0 (ix2 r k)) (fun j => x1 (ix2 r j)) (fun k j => x2 (ix2 k j)) (fun i j => x3 (ix2 i j)) (fun k c => x4 (ix2 k c)) (fun c j => x5 (ix2 c j)) e :=
  (congrFun (out_eq x0 x1 x2 x3 x4 x5) _).trans (OUT_apply _ _ _ _ _ r e _ _ fun j => PROJ_apply x0 x2 r j)

end Cert.PromptIdeal.Val

end
-- ==== Proof.PromptArray.lean ====
/-
  What the call that writes `y_prompt` leaves in its result array: the end of the last layer for the first sequence.
-/
module

public import proofs.«01_k».proof.Proof.MlpPart
public import proofs.«01_k».proof.Proof.Gen.PromptIdeal.Value

@[expose] public section

set_option maxRecDepth 16384

noncomputable section

namespace Cert.PromptIdeal.Val

open Cert.PromptIdeal Cert.PromptIdeal.Gen Idealize.ShloMosaic Idealize.ShloMosaic.TcCoe Idealize.SL.Sem
open Idealize.ShloMosaic.Pipeline (Dat)
open Cert.Tail

variable (m : (ℓ : Loc nD τ sig) → Buf (Elt Ideal) ℓ)

/-- Which block each window reads or writes at a grid point. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![t.val, 0] :=
  (by decide +kernel : ∀ t : Fin grid0.N, _)

theorem t_lt (t : Fin cfg0.N) : t.val < 32 := t.isLt

/-- The arguments as arrays of extended reals. -/
def mA (c : Dev nD) : S49152x2048.Idx → EReal := m ((c : Thread nD τ).loc main_arg0)
def xA (c : Dev nD) : S49152x1024.Idx → EReal := m ((c : Thread nD τ).loc main_arg1)
def oA (c : Dev nD) : S2048x1024.Idx → EReal := m ((c : Thread nD τ).loc main_arg2)
def gA (c : Dev nD) : S4x1024.Idx → EReal := m ((c : Thread nD τ).loc main_arg3)
def uA (c : Dev nD) : S1024x4096.Idx → EReal := m ((c : Thread nD τ).loc main_arg4)
def dA (c : Dev nD) : S4096x1024.Idx → EReal := m ((c : Thread nD τ).loc main_arg5)

/-- The narrowed weights hold the weights. -/
theorem V_0 (c : Dev nD) : (V m c main_v0 : S2048x1024.Idx → EReal) = oA m c := by
  dsimp only [V, hostOps0, List.flatten_cons, List.flatten_nil, List.append_nil, List.cons_append, List.nil_append]
  after_results_simp
  rfl
theorem V_1 (c : Dev nD) : (V m c main_v1 : S1024x4096.Idx → EReal) = uA m c := by
  dsimp only [V, hostOps0, List.flatten_cons, List.flatten_nil, List.append_nil, List.cons_append, List.nil_append]
  after_results_simp
  rfl
theorem V_2 (c : Dev nD) : (V m c main_v2 : S4096x1024.Idx → EReal) = dA m c := by
  dsimp only [V, hostOps0, List.flatten_cons, List.flatten_nil, List.append_nil, List.cons_append, List.nil_append]
  after_results_simp
  rfl

theorem m_at (c : Dev nD) (t : Fin cfg0.N) (r : Fin 512) (k : Fin 2048) :
    (iblk m c 0 t : S512x2048.Idx → EReal) (ix2 r k) = mA m c (ix2 ⟨t.val * 512 + r.val, by have := t_lt t; omega⟩ k) := by
  obtain ⟨i0, i1, i2, i3, i4, i5, i6⟩ := idx t
  unfold mA
  rw [← V_main_arg0 m c]
  unfold iblk
  refine congrArg (V m c main_arg0) ?_
  blk_ext [i0]

theorem x_at (c : Dev nD) (t : Fin cfg0.N) (r : Fin 512) (k : Fin 1024) :
    (iblk m c 1 t : S512x1024.Idx → EReal) (ix2 r k) = xA m c (ix2 ⟨t.val * 512 + r.val, by have := t_lt t; omega⟩ k) := by
  obtain ⟨i0, i1, i2, i3, i4, i5, i6⟩ := idx t
  unfold xA
  rw [← V_main_arg1 m c]
  unfold iblk
  refine congrArg (V m c main_arg1) ?_
  blk_ext [i1]

theorem o_at (c : Dev nD) (t : Fin cfg0.N) (r : Fin 2048) (k : Fin 1024) : (iblk m c 2 t : S2048x1024.Idx → EReal) (ix2 r k) = oA m c (ix2 r k) := by
  obtain ⟨i0, i1, i2, i3, i4, i5, i6⟩ := idx t
  rw [← V_0 m c]
  unfold iblk
  refine congrArg (V m c main_v0) ?_
  blk_ext [i2]

theorem g_at (c : Dev nD) (t : Fin cfg0.N) (r : Fin 4) (k : Fin 1024) : (iblk m c 3 t : S4x1024.Idx → EReal) (ix2 r k) = gA m c (ix2 r k) := by
  obtain ⟨i0, i1, i2, i3, i4, i5, i6⟩ := idx t
  unfold gA
  rw [← V_main_arg3 m c]
  unfold iblk
  refine congrArg (V m c main_arg3) ?_
  blk_ext [i3]

theorem u_at (c : Dev nD) (t : Fin cfg0.N) (r : Fin 1024) (k : Fin 4096) : (iblk m c 4 t : S1024x4096.Idx → EReal) (ix2 r k) = uA m c (ix2 r k) := by
  obtain ⟨i0, i1, i2, i3, i4, i5, i6⟩ := idx t
  rw [← V_1 m c]
  unfold iblk
  refine congrArg (V m c main_v1) ?_
  blk_ext [i4]

theorem d_at (c : Dev nD) (t : Fin cfg0.N) (r : Fin 4096) (k : Fin 1024) : (iblk m c 5 t : S4096x1024.Idx → EReal) (ix2 r k) = dA m c (ix2 r k) := by
  obtain ⟨i0, i1, i2, i3, i4, i5, i6⟩ := idx t
  rw [← V_2 m c]
  unfold iblk
  refine congrArg (V m c main_v2) ?_
  blk_ext [i5]

/-- The layer's row for result row `n`. -/
def layer (c : Dev nD) (n : Fin 16384) (e : Fin 1024) : EReal :=
  row (fun k : Fin 2048 => mA m c (ix2 ⟨n.val, by omega⟩ k)) (fun j => xA m c (ix2 ⟨n.val, by omega⟩ j)) (fun k j => oA m c (ix2 k j))
    (fun i j => gA m c (ix2 i j)) (fun k h => uA m c (ix2 k h)) (fun h j => dA m c (ix2 h j)) e

/-- The layer's output as an array. -/
def out (c : Dev nD) : S16384x1024.Idx → EReal := fun i => layer m c (i 0) (i 1)

theorem out_congr (c : Dev nD) (i : S16384x1024.Idx) (n : Fin 16384) (e : Fin 1024) (h0 : (i 0).val = n.val) (h1 : (i 1).val = e.val) :
    out m c i = layer m c n e := by
  have e0 : i 0 = n := Fin.ext h0
  have e1 : i 1 = e := Fin.ext h1
  unfold out
  rw [e0, e1]

/-- The array index that block element `y` of grid point `t` lands on. -/
theorem emb_0 (t : Fin cfg0.N) (y : S512x1024.Idx) : (((cfg0.win 6).blk t).view.emb y 0).val = t.val * 512 + (y 0).val := by
  obtain ⟨i0, i1, i2, i3, i4, i5, i6⟩ := idx t
  blk_simp [i6]

theorem emb_1 (t : Fin cfg0.N) (y : S512x1024.Idx) : (((cfg0.win 6).blk t).view.emb y 1).val = (y 1).val := by
  obtain ⟨i0, i1, i2, i3, i4, i5, i6⟩ := idx t
  blk_simp [i6]

/-- One element of the block of grid point `t`. -/
theorem block_eq (c : Dev nD) (t : Fin cfg0.N) (r : Fin 512) (e : Fin 1024) :
    out0_6 (F := Ideal) (iblk m c 0 t) (iblk m c 1 t) (iblk m c 2 t) (iblk m c 3 t) (iblk m c 4 t) (iblk m c 5 t) (ix2 r e)
      = layer m c ⟨t.val * 512 + r.val, by have := t_lt t; omega⟩ e := by
  refine (out_apply _ _ _ _ _ _ r e).trans ?_
  unfold layer
  congr 1
  · exact funext fun k => m_at m c t r k
  · exact funext fun k => x_at m c t r k
  · exact funext fun k => funext fun j => o_at m c t k j
  · exact funext fun k => funext fun j => g_at m c t k j
  · exact funext fun k => funext fun j => u_at m c t k j
  · exact funext fun k => funext fun j => d_at m c t k j

theorem block_at (c : Dev nD) (t : Fin cfg0.N) (y : S512x1024.Idx) :
    out0_6 (F := Ideal) (iblk m c 0 t) (iblk m c 1 t) (iblk m c 2 t) (iblk m c 3 t) (iblk m c 4 t) (iblk m c 5 t) y
      = out m c (((cfg0.win 6).blk t).view.emb y) := by
  obtain ⟨r, e, rfl⟩ : ∃ r e, y = ix2 r e := ⟨y 0, y 1, funext fun a => match a with | ⟨0, _⟩ => rfl | ⟨1, _⟩ => rfl⟩
  exact (block_eq m c t r e).trans (out_congr m c _ ⟨t.val * 512 + r.val, by have := t_lt t; omega⟩ e (emb_0 t (ix2 r e)) (emb_1 t (ix2 r e))).symm

/-- The kernel's result array. -/
theorem array_eq (c : Dev nD) : (dats m 0 c).arrAt 6 cfg0.N = out m c := by
  refine Dat.arrAt_eq_of_covers _ 6 _ (by decide +kernel) fun t hf y => ?_
  blk_simp
  rw [after0_6]
  exact block_at m c t y

end Cert.PromptIdeal.Val

end
-- ==== Proof.PromptRef.lean ====
/-
  The reference for `y_prompt` at an index is the end of the layer for that token.
-/
module

public import Idealize.ShloMosaic.Lib.Pointwise
public import proofs.«01_k».proof.Proof.TailSpec
public import proofs.«01_k».proof.Proof.Gen.PromptRefIdeal.Read

@[expose] public section

set_option maxRecDepth 16384

noncomputable section

namespace Cert.PromptRefIdeal.Val

open Cert.PromptRefIdeal Cert.PromptRefIdeal.Gen Idealize.ShloMosaic Idealize.ShloMosaic.TcCoe Idealize.SL.Sem
open Cert.Tail
open Cert.PromptRefIdeal.Read

variable (x0 : FVec Ideal S49152x2048 .bf16) (x1 : FVec Ideal S49152x1024 .f32) (x2 : FVec Ideal S2048x1024 .f32) (x3 : FVec Ideal S4x1024 .f32)
  (x4 : FVec Ideal S1024x4096 .f32) (x5 : FVec Ideal S4096x1024 .f32)

/-- The norm of every row, as the reference writes it. -/
def NORM (P : FVec Ideal S16384x1024 .f32) (w : FVec Ideal S1x1024 .f32) : FVec Ideal S16384x1024 .f32 :=
  mulf (mulf P (broadcastInDim S16384x1024 ![0, 1] bcast_S16384x1_S16384x1024_0_1 (Host.rsqrt (addf (Host.divf
    (broadcastInDim S16384x1 ![0] bcast_S16384_S16384x1_0 (Host.reduceAdd (mulf P P) (val_main_cst (F := Ideal)) reducesTo_S16384x1024_S16384_d1 h_S_))
    (val_main_v9 (F := Ideal))) (val_main_v11 (F := Ideal))))))
    (broadcastInDim S16384x1024 ![0, 1] bcast_S1x1024_S16384x1024_0_1 (broadcastInDim S1x1024 ![1] bcast_S1024_S1x1024_1 (shapeCast _ w shapeCasts_S1x1024_S1024)))

theorem NORM_apply (P : FVec Ideal S16384x1024 .f32) (w : FVec Ideal S1x1024 .f32) (n : Fin 16384) (e : Fin 1024) :
    NORM P w (ix2 n e) = rms (fun j => P (ix2 n j)) (fun j => w (ix2 0 j)) e := by
  pointwise [NORM, val_main_v9, val_main_v11, val_main_cst, val_main_cst_0, val_main_cst_1]
  rfl

theorem v3 (n : Fin 16384) (j : Fin 1024) : val_main_v3 (F := Ideal) x0 x2 (ix2 n j) = ∑ k : Fin 2048, (x0 (ix2 ⟨n.val, by omega⟩ k) : EReal) * x2 (ix2 k j) := by
  unfold val_main_v3 val_main_v2 val_main_v0
  pointwise

theorem gain1 (j : Fin 1024) : val_main_v4 (F := Ideal) x3 (ix2 0 j) = x3 (ix2 1 j) := by pointwise [val_main_v4]
theorem gain2 (j : Fin 1024) : val_main_v20 (F := Ideal) x3 (ix2 0 j) = x3 (ix2 2 j) := by pointwise [val_main_v20]
theorem gain3 (j : Fin 1024) : val_main_v39 (F := Ideal) x3 (ix2 0 j) = x3 (ix2 3 j) := by pointwise [val_main_v39]

theorem v18 : val_main_v18 (F := Ideal) x0 x2 x3 = NORM (val_main_v3 (F := Ideal) x0 x2) (val_main_v4 (F := Ideal) x3) := rfl
theorem v34 : val_main_v34 (F := Ideal) x0 x1 x2 x3 = NORM (val_main_v19 (F := Ideal) x0 x1 x2 x3) (val_main_v20 (F := Ideal) x3) := rfl
theorem v53 : val_main_v53 (F := Ideal) x0 x1 x2 x3 x4 x5 = NORM (val_main_v38 (F := Ideal) x0 x1 x2 x3 x4 x5) (val_main_v39 (F := Ideal) x3) := rfl

theorem v1 (n : Fin 16384) (j : Fin 1024) : val_main_v1 (F := Ideal) x1 (ix2 n j) = x1 (ix2 ⟨n.val, by omega⟩ j) := by
  pointwise [val_main_v1]

theorem v37 (n : Fin 16384) (c : Fin 4096) : val_main_v37 (F := Ideal) x0 x1 x2 x3 x4 (ix2 n c)
    = hidden (fun k => val_main_v34 (F := Ideal) x0 x1 x2 x3 (ix2 n k)) (fun k => x4 (ix2 k c)) := by
  unfold val_main_v37 val_main_v36 val_main_v35
  generalize val_main_v34 (F := Ideal) x0 x1 x2 x3 = H
  pointwise [val_main_call0_v0, val_main_call0_cst]
  rfl

theorem v38 (n : Fin 16384) (j : Fin 1024) : val_main_v38 (F := Ideal) x0 x1 x2 x3 x4 x5 (ix2 n j)
    = mlp (fun k => val_main_v34 (F := Ideal) x0 x1 x2 x3 (ix2 n k)) (fun k c => x4 (ix2 k c)) (fun c j => x5 (ix2 c j)) j := by
  have h := v37 x0 x1 x2 x3 x4 n
  unfold val_main_v38
  generalize val_main_v37 (F := Ideal) x0 x1 x2 x3 x4 = U at *
  pointwise
  exact Finset.sum_congr rfl fun c _ => congrArg (· * _) (h c)

theorem result_eq (n : Fin 16384) (e : Fin 1024) : val_main_v54 (F := Ideal) x0 x1 x2 x3 x4 x5 (ix2 n e)
    = row (fun k : Fin 2048 => x0 (ix2 ⟨n.val, by omega⟩ k)) (fun j => x1 (ix2 ⟨n.val, by omega⟩ j)) (fun k j => x2 (ix2 k j))
        (fun i j => x3 (ix2 i j)) (fun k h => x4 (ix2 k h)) (fun h j => x5 (ix2 h j)) e := by
  have hm (j : Fin 1024) : val_main_v19 (F := Ideal) x0 x1 x2 x3 (ix2 n j)
      = x1 (ix2 ⟨n.val, by omega⟩ j) + rms (fun j => val_main_v3 (F := Ideal) x0 x2 (ix2 n j)) (fun j => x3 (ix2 1 j)) j := by
    rw [val_main_v19_apply, v18, NORM_apply, v1, funext (gain1 x3)]
    rfl
  have hh (j : Fin 1024) : val_main_v34 (F := Ideal) x0 x1 x2 x3 (ix2 n j)
      = rms (fun j => val_main_v19 (F := Ideal) x0 x1 x2 x3 (ix2 n j)) (fun j => x3 (ix2 2 j)) j := by
    rw [v34, NORM_apply, funext (gain2 x3)]
  rw [val_main_v54_apply, v53, NORM_apply, funext (gain3 x3)]
  exact row_of _ _ _ (fun i j => x3 (ix2 i j)) _ _ _ (fun j => val_main_v19 (F := Ideal) x0 x1 x2 x3 (ix2 n j)) _ _
    (v3 x0 x2 n) hm hh (v38 x0 x1 x2 x3 x4 x5 n) e

end Cert.PromptRefIdeal.Val

end
-- ==== Proof.SamplePart.lean ====
/-
  One tile of the call that writes `y_sample`. Its code is the code of the call that writes `y_prompt`, so a tile
  holds the same function of its inputs.
-/
module

public import proofs.«01_k».proof.Proof.MlpPart
public import proofs.«01_k».proof.Proof.Gen.SampleIdeal.Value

@[expose] public section

set_option maxRecDepth 16384

noncomputable section

namespace Cert.SampleIdeal.Val

open Idealize.ShloMosaic Idealize.ShloMosaic.TcCoe Idealize.SL.Sem
open Cert.Tail

/-- The two calls write the same tile. -/
theorem tile_eq : @Cert.SampleIdeal.Gen.out0_6 Ideal _ = @Cert.PromptIdeal.Gen.out0_6 Ideal _ := rfl

theorem sample_apply (x0 : Vec Ideal Cert.SampleIdeal.S512x2048 .bf16) (x1 : Vec Ideal Cert.SampleIdeal.S512x1024 .f32)
    (x2 : Vec Ideal Cert.SampleIdeal.S2048x1024 .bf16) (x3 : Vec Ideal Cert.SampleIdeal.S4x1024 .f32)
    (x4 : Vec Ideal Cert.SampleIdeal.S1024x4096 .bf16) (x5 : Vec Ideal Cert.SampleIdeal.S4096x1024 .bf16) (r : Fin 512) (e : Fin 1024) :
    Cert.SampleIdeal.Gen.out0_6 (F := Ideal) x0 x1 x2 x3 x4 x5 (ix2 r e)
      = row (fun k : Fin 2048 => x0 (ix2 r k)) (fun j => x1 (ix2 r j)) (fun k j => x2 (ix2 k j)) (fun i j => x3 (ix2 i j))
          (fun k c => x4 (ix2 k c)) (fun c j => x5 (ix2 c j)) e :=
  (congrFun (congrFun (congrFun (congrFun (congrFun (congrFun (congrFun tile_eq x0) x1) x2) x3) x4) x5) (ix2 r e)).trans
    (Cert.PromptIdeal.Val.out_apply x0 x1 x2 x3 x4 x5 r e)

end Cert.SampleIdeal.Val

end
-- ==== Proof.SampleArray.lean ====
/-
  What the call that writes `y_sample` leaves in its result array: the end of the last layer for the rows after the
  first sequence.
-/
module

public import proofs.«01_k».proof.Proof.SamplePart
public import proofs.«01_k».proof.Proof.Gen.SampleIdeal.Value

@[expose] public section

set_option maxRecDepth 16384

noncomputable section

namespace Cert.SampleIdeal.Val

open Cert.SampleIdeal Cert.SampleIdeal.Gen Idealize.ShloMosaic Idealize.ShloMosaic.TcCoe Idealize.SL.Sem
open Idealize.ShloMosaic.Pipeline (Dat)
open Cert.Tail

variable (m : (ℓ : Loc nD τ sig) → Buf (Elt Ideal) ℓ)

/-- Which block each window reads or writes at a grid point. -/
theorem idx : ∀ t : Fin cfg0.N, win0_0.index t = ![t.val + 32, 0] ∧ win0_1.index t = ![t.val + 32, 0] ∧ win0_2.index t = ![0, 0] ∧ win0_3.index t = ![0, 0]
    ∧ win0_4.index t = ![0, 0] ∧ win0_5.index t = ![0, 0] ∧ win0_6.index t = ![t.val, 0] :=
  (by decide +kernel : ∀ t : Fin grid0.N, _)

theorem t_lt (t : Fin cfg0.N) : t.val < 64 := t.isLt

/-- The arguments as arrays of extended reals. -/
def mA (c : Dev nD) : S49152x2048.Idx → EReal := m ((c : Thread nD τ).loc main_arg0)
def xA (c : Dev nD) : S49152x1024.Idx → EReal := m ((c : Thread nD τ).loc main_arg1)
def oA (c : Dev nD) : S2048x1024.Idx → EReal := m ((c : Thread nD τ).loc main_arg2)
def gA (c : Dev nD) : S4x1024.Idx → EReal := m ((c : Thread nD τ).loc main_arg3)
def uA (c : Dev nD) : S1024x4096.Idx → EReal := m ((c : Thread nD τ).loc main_arg4)
def dA (c : Dev nD) : S4096x1024.Idx → EReal := m ((c : Thread nD τ).loc main_arg5)

/-- The narrowed weights hold the weights. -/
theorem V_0 (c : Dev nD) : (V m c main_v0 : S2048x1024.Idx → EReal) = oA m c := by
  dsimp only [V, hostOps0, List.flatten_cons, List.flatten_nil, List.append_nil, List.cons_append, List.nil_append]
  after_results_simp
  rfl
theorem V_1 (c : Dev nD) : (V m c main_v1 : S1024x4096.Idx → EReal) = uA m c := by
  dsimp only [V, hostOps0, List.flatten_cons, List.flatten_nil, List.append_nil, List.cons_append, List.nil_append]
  after_results_simp
  rfl
theorem V_2 (c : Dev nD) : (V m c main_v2 : S4096x1024.Idx → EReal) = dA m c := by
  dsimp only [V, hostOps0, List.flatten_cons, List.flatten_nil, List.append_nil, List.cons_append, List.nil_append]
  after_results_simp
  rfl

theorem m_at (c : Dev nD) (t : Fin cfg0.N) (r : Fin 512) (k : Fin 2048) :
    (iblk m c 0 t : S512x2048.Idx → EReal) (ix2 r k) = mA m c (ix2 ⟨16384 + (t.val * 512 + r.val), by have := t_lt t; omega⟩ k) := by
  obtain ⟨i0, i1, i2, i3, i4, i5, i6⟩ := idx t
  unfold mA
  rw [← V_main_arg0 m c]
  unfold iblk
  refine congrArg (V m c main_arg0) ?_
  blk_ext [i0]

theorem x_at (c : Dev nD) (t : Fin cfg0.N) (r : Fin 512) (k : Fin 1024) :
    (iblk m c 1 t : S512x1024.Idx → EReal) (ix2 r k) = xA m c (ix2 ⟨16384 + (t.val * 512 + r.val), by have := t_lt t; omega⟩ k) := by
  obtain ⟨i0, i1, i2, i3, i4, i5, i6⟩ := idx t
  unfold xA
  rw [← V_main_arg1 m c]
  unfold iblk
  refine congrArg (V m c main_arg1) ?_
  blk_ext [i1]

theorem o_at (c : Dev nD) (t : Fin cfg0.N) (r : Fin 2048) (k : Fin 1024) : (iblk m c 2 t : S2048x1024.Idx → EReal) (ix2 r k) = oA m c (ix2 r k) := by
  obtain ⟨i0, i1, i2, i3, i4, i5, i6⟩ := idx t
  rw [← V_0 m c]
  unfold iblk
  refine congrArg (V m c main_v0) ?_
  blk_ext [i2]

theorem g_at (c : Dev nD) (t : Fin cfg0.N) (r : Fin 4) (k : Fin 1024) : (iblk m c 3 t : S4x1024.Idx → EReal) (ix2 r k) = gA m c (ix2 r k) := by
  obtain ⟨i0, i1, i2, i3, i4, i5, i6⟩ := idx t
  unfold gA
  rw [← V_main_arg3 m c]
  unfold iblk
  refine congrArg (V m c main_arg3) ?_
  blk_ext [i3]

theorem u_at (c : Dev nD) (t : Fin cfg0.N) (r : Fin 1024) (k : Fin 4096) : (iblk m c 4 t : S1024x4096.Idx → EReal) (ix2 r k) = uA m c (ix2 r k) := by
  obtain ⟨i0, i1, i2, i3, i4, i5, i6⟩ := idx t
  rw [← V_1 m c]
  unfold iblk
  refine congrArg (V m c main_v1) ?_
  blk_ext [i4]

theorem d_at (c : Dev nD) (t : Fin cfg0.N) (r : Fin 4096) (k : Fin 1024) : (iblk m c 5 t : S4096x1024.Idx → EReal) (ix2 r k) = dA m c (ix2 r k) := by
  obtain ⟨i0, i1, i2, i3, i4, i5, i6⟩ := idx t
  rw [← V_2 m c]
  unfold iblk
  refine congrArg (V m c main_v2) ?_
  blk_ext [i5]

/-- The layer's row for result row `n`. -/
def layer (c : Dev nD) (n : Fin 32768) (e : Fin 1024) : EReal :=
  row (fun k : Fin 2048 => mA m c (ix2 ⟨16384 + n.val, by omega⟩ k)) (fun j => xA m c (ix2 ⟨16384 + n.val, by omega⟩ j)) (fun k j => oA m c (ix2 k j))
    (fun i j => gA m c (ix2 i j)) (fun k h => uA m c (ix2 k h)) (fun h j => dA m c (ix2 h j)) e

/-- The layer's output as an array. -/
def out (c : Dev nD) : S32768x1024.Idx → EReal := fun i => layer m c (i 0) (i 1)

theorem out_congr (c : Dev nD) (i : S32768x1024.Idx) (n : Fin 32768) (e : Fin 1024) (h0 : (i 0).val = n.val) (h1 : (i 1).val = e.val) :
    out m c i = layer m c n e := by
  have e0 : i 0 = n := Fin.ext h0
  have e1 : i 1 = e := Fin.ext h1
  unfold out
  rw [e0, e1]

/-- The array index that block element `y` of grid point `t` lands on. -/
theorem emb_0 (t : Fin cfg0.N) (y : S512x1024.Idx) : (((cfg0.win 6).blk t).view.emb y 0).val = t.val * 512 + (y 0).val := by
  obtain ⟨i0, i1, i2, i3, i4, i5, i6⟩ := idx t
  blk_simp [i6]

theorem emb_1 (t : Fin cfg0.N) (y : S512x1024.Idx) : (((cfg0.win 6).blk t).view.emb y 1).val = (y 1).val := by
  obtain ⟨i0, i1, i2, i3, i4, i5, i6⟩ := idx t
  blk_simp [i6]

/-- One element of the block of grid point `t`. -/
theorem block_eq (c : Dev nD) (t : Fin cfg0.N) (r : Fin 512) (e : Fin 1024) :
    out0_6 (F := Ideal) (iblk m c 0 t) (iblk m c 1 t) (iblk m c 2 t) (iblk m c 3 t) (iblk m c 4 t) (iblk m c 5 t) (ix2 r e)
      = layer m c ⟨t.val * 512 + r.val, by have := t_lt t; omega⟩ e := by
  refine (sample_apply _ _ _ _ _ _ r e).trans ?_
  unfold layer
  congr 1
  · exact funext fun k => m_at m c t r k
  · exact funext fun k => x_at m c t r k
  · exact funext fun k => funext fun j => o_at m c t k j
  · exact funext fun k => funext fun j => g_at m c t k j
  · exact funext fun k => funext fun j => u_at m c t k j
  · exact funext fun k => funext fun j => d_at m c t k j

theorem block_at (c : Dev nD) (t : Fin cfg0.N) (y : S512x1024.Idx) :
    out0_6 (F := Ideal) (iblk m c 0 t) (iblk m c 1 t) (iblk m c 2 t) (iblk m c 3 t) (iblk m c 4 t) (iblk m c 5 t) y
      = out m c (((cfg0.win 6).blk t).view.emb y) := by
  obtain ⟨r, e, rfl⟩ : ∃ r e, y = ix2 r e := ⟨y 0, y 1, funext fun a => match a with | ⟨0, _⟩ => rfl | ⟨1, _⟩ => rfl⟩
  exact (block_eq m c t r e).trans (out_congr m c _ ⟨t.val * 512 + r.val, by have := t_lt t; omega⟩ e (emb_0 t (ix2 r e)) (emb_1 t (ix2 r e))).symm

/-- The kernel's result array. -/
theorem array_eq (c : Dev nD) : (dats m 0 c).arrAt 6 cfg0.N = out m c := by
  refine Dat.arrAt_eq_of_covers _ 6 _ (by decide +kernel) fun t hf y => ?_
  blk_simp
  rw [after0_6]
  exact block_at m c t y

end Cert.SampleIdeal.Val

end
-- ==== Proof.SampleRef.lean ====
/-
  The reference for `y_sample` at an index is the end of the layer for that token.
-/
module

public import Idealize.ShloMosaic.Lib.Pointwise
public import proofs.«01_k».proof.Proof.TailSpec
public import proofs.«01_k».proof.Proof.Gen.SampleRefIdeal.Read

@[expose] public section

set_option maxRecDepth 32768

noncomputable section

namespace Cert.SampleRefIdeal.Val

open Cert.SampleRefIdeal Cert.SampleRefIdeal.Gen Idealize.ShloMosaic Idealize.ShloMosaic.TcCoe Idealize.SL.Sem
open Cert.Tail
open Cert.SampleRefIdeal.Read

variable (x0 : FVec Ideal S49152x2048 .bf16) (x1 : FVec Ideal S49152x1024 .f32) (x2 : FVec Ideal S2048x1024 .f32) (x3 : FVec Ideal S4x1024 .f32)
  (x4 : FVec Ideal S1024x4096 .f32) (x5 : FVec Ideal S4096x1024 .f32)

/-- The norm of every row, as the reference writes it. -/
def NORM (P : FVec Ideal S32768x1024 .f32) (w : FVec Ideal S1x1024 .f32) : FVec Ideal S32768x1024 .f32 :=
  mulf (mulf P (broadcastInDim S32768x1024 ![0, 1] bcast_S32768x1_S32768x1024_0_1 (Host.rsqrt (addf (Host.divf
    (broadcastInDim S32768x1 ![0] bcast_S32768_S32768x1_0 (Host.reduceAdd (mulf P P) (val_main_cst (F := Ideal)) reducesTo_S32768x1024_S32768_d1 h_S_))
    (val_main_v9 (F := Ideal))) (val_main_v11 (F := Ideal))))))
    (broadcastInDim S32768x1024 ![0, 1] bcast_S1x1024_S32768x1024_0_1 (broadcastInDim S1x1024 ![1] bcast_S1024_S1x1024_1 (shapeCast _ w shapeCasts_S1x1024_S1024)))

theorem NORM_apply (P : FVec Ideal S32768x1024 .f32) (w : FVec Ideal S1x1024 .f32) (n : Fin 32768) (e : Fin 1024) :
    NORM P w (ix2 n e) = rms (fun j => P (ix2 n j)) (fun j => w (ix2 0 j)) e := by
  pointwise [NORM, val_main_v9, val_main_v11, val_main_cst, val_main_cst_0, val_main_cst_1]
  rfl

theorem v3 (n : Fin 32768) (j : Fin 1024) : val_main_v3 (F := Ideal) x0 x2 (ix2 n j) = ∑ k : Fin 2048, (x0 (ix2 ⟨16384 + n.val, by omega⟩ k) : EReal) * x2 (ix2 k j) := by
  unfold val_main_v3 val_main_v2 val_main_v0
  pointwise

theorem gain1 (j : Fin 1024) : val_main_v4 (F := Ideal) x3 (ix2 0 j) = x3 (ix2 1 j) := by pointwise [val_main_v4]
theorem gain2 (j : Fin 1024) : val_main_v20 (F := Ideal) x3 (ix2 0 j) = x3 (ix2 2 j) := by pointwise [val_main_v20]
theorem gain3 (j : Fin 1024) : val_main_v39 (F := Ideal) x3 (ix2 0 j) = x3 (ix2 3 j) := by pointwise [val_main_v39]

theorem v18 : val_main_v18 (F := Ideal) x0 x2 x3 = NORM (val_main_v3 (F := Ideal) x0 x2) (val_main_v4 (F := Ideal) x3) := rfl
theorem v34 : val_main_v34 (F := Ideal) x0 x1 x2 x3 = NORM (val_main_v19 (F := Ideal) x0 x1 x2 x3) (val_main_v20 (F := Ideal) x3) := rfl
theorem v53 : val_main_v53 (F := Ideal) x0 x1 x2 x3 x4 x5 = NORM (val_main_v38 (F := Ideal) x0 x1 x2 x3 x4 x5) (val_main_v39 (F := Ideal) x3) := rfl

theorem v1 (n : Fin 32768) (j : Fin 1024) : val_main_v1 (F := Ideal) x1 (ix2 n j) = x1 (ix2 ⟨16384 + n.val, by omega⟩ j) := by
  pointwise [val_main_v1]

theorem v37 (n : Fin 32768) (c : Fin 4096) : val_main_v37 (F := Ideal) x0 x1 x2 x3 x4 (ix2 n c)
    = hidden (fun k => val_main_v34 (F := Ideal) x0 x1 x2 x3 (ix2 n k)) (fun k => x4 (ix2 k c)) := by
  unfold val_main_v37 val_main_v36 val_main_v35
  generalize val_main_v34 (F := Ideal) x0 x1 x2 x3 = H
  pointwise [val_main_call0_v0, val_main_call0_cst]
  rfl

theorem v38 (n : Fin 32768) (j : Fin 1024) : val_main_v38 (F := Ideal) x0 x1 x2 x3 x4 x5 (ix2 n j)
    = mlp (fun k => val_main_v34 (F := Ideal) x0 x1 x2 x3 (ix2 n k)) (fun k c => x4 (ix2 k c)) (fun c j => x5 (ix2 c j)) j := by
  have h := v37 x0 x1 x2 x3 x4 n
  unfold val_main_v38
  generalize val_main_v37 (F := Ideal) x0 x1 x2 x3 x4 = U at *
  pointwise
  exact Finset.sum_congr rfl fun c _ => congrArg (· * _) (h c)

theorem result_eq (n : Fin 32768) (e : Fin 1024) : val_main_v54 (F := Ideal) x0 x1 x2 x3 x4 x5 (ix2 n e)
    = row (fun k : Fin 2048 => x0 (ix2 ⟨16384 + n.val, by omega⟩ k)) (fun j => x1 (ix2 ⟨16384 + n.val, by omega⟩ j)) (fun k j => x2 (ix2 k j))
        (fun i j => x3 (ix2 i j)) (fun k h => x4 (ix2 k h)) (fun h j => x5 (ix2 h j)) e := by
  have hm (j : Fin 1024) : val_main_v19 (F := Ideal) x0 x1 x2 x3 (ix2 n j)
      = x1 (ix2 ⟨16384 + n.val, by omega⟩ j) + rms (fun j => val_main_v3 (F := Ideal) x0 x2 (ix2 n j)) (fun j => x3 (ix2 1 j)) j := by
    rw [val_main_v19_apply, v18, NORM_apply, v1, funext (gain1 x3)]
    rfl
  have hh (j : Fin 1024) : val_main_v34 (F := Ideal) x0 x1 x2 x3 (ix2 n j)
      = rms (fun j => val_main_v19 (F := Ideal) x0 x1 x2 x3 (ix2 n j)) (fun j => x3 (ix2 2 j)) j := by
    rw [v34, NORM_apply, funext (gain2 x3)]
  rw [val_main_v54_apply, v53, NORM_apply, funext (gain3 x3)]
  exact row_of _ _ _ (fun i j => x3 (ix2 i j)) _ _ _ (fun j => val_main_v19 (F := Ideal) x0 x1 x2 x3 (ix2 n j)) _ _
    (v3 x0 x2 n) hm hh (v38 x0 x1 x2 x3 x4 x5 n) e

end Cert.SampleRefIdeal.Val

end
-- ==== Proof.AttnOutPart.lean ====
/-
  One tile of the end of an attention layer. After the projection, which sums over half as many columns, its code is that
  of the last layer; the residual's tile comes from the first sequence up to grid point 31 and from the others after it.
-/
module

public import proofs.«01_k».proof.Proof.MlpPart
public import proofs.«01_k».proof.Proof.Gen.AttnOutIdeal.Value

@[expose] public section

set_option maxRecDepth 16384

noncomputable section

namespace Cert.AttnOutIdeal.Val

open Cert.AttnOutIdeal Cert.AttnOutIdeal.Gen Idealize.ShloMosaic Idealize.ShloMosaic.TcCoe Idealize.SL.Sem
open Cert.Tail

/-- The projection of a tile. -/
def PROJ (a : FVec Ideal S512x1024 .bf16) (w : FVec Ideal S1024x1024 .bf16) : FVec Ideal S512x1024 .f32 :=
  matmul dot_S512x1024_S1024x1024_S512x1024_1_0_0_1_n_n none a (shapeCast S1024x1024 w shapeCasts_S1024x1024_S1024x1024) (constant S512x1024 .f32 0x00000000#32)

theorem PROJ_apply (a : FVec Ideal S512x1024 .bf16) (w : FVec Ideal S1024x1024 .bf16) (r : Fin 512) (e : Fin 1024) :
    PROJ a w (ix2 r e) = ∑ k : Fin 1024, (a (ix2 r k) : EReal) * w (ix2 k e) := by
  pointwise [PROJ]

/-- The residual's tile at grid point `i`: `x1` of the first sequence, `x2` of the others. -/
def RES (i : grid0.Coords) (x1 x2 : Vec Ideal S512x1024 .f32) : Vec Ideal S512x1024 .f32 :=
  Scalar.select (Scalar.cmpi .sge (BitVec.ofNat 32 (i 0).val) 32#32) x2 x1

theorem RES_of (i : grid0.Coords) (x1 x2 : Vec Ideal S512x1024 .f32) : RES i x1 x2 = if (i 0).val < 32 then x1 else x2 := by
  have h : ∀ n : Fin 96, Scalar.cmpi .sge (BitVec.ofNat 32 n.val) 32#32 = if n.val < 32 then 0#1 else 1#1 := by decide +kernel
  unfold RES
  rw [h (i 0)]
  split <;> rfl

/-- The block the body stores. -/
theorem out_eq (i : grid0.Coords) (x0 : Vec Ideal S512x1024 .bf16) (x1 x2 : Vec Ideal S512x1024 .f32) (x3 : Vec Ideal S1024x1024 .bf16) (x4 : Vec Ideal S4x1024 .f32)
    (x5 : Vec Ideal S1024x4096 .bf16) (x6 : Vec Ideal S4096x1024 .bf16) :
    out0_7 (F := Ideal) i x0 x1 x2 x3 x4 x5 x6 = Cert.PromptIdeal.Val.OUT (PROJ x0 x3) (RES i x1 x2) x4 x5 x6 := by
  unfold out0_7 k0_pay9
  rw [View.canon_unit_zero (by decide), View.ld_unit_zero (by decide), View.ld_unit_zero (by decide), View.ld_unit_zero (by decide), View.ld_unit_zero (by decide)]
  rfl

/-- The block at an index. -/
theorem out_apply (i : grid0.Coords) (x0 : Vec Ideal S512x1024 .bf16) (x1 x2 : Vec Ideal S512x1024 .f32) (x3 : Vec Ideal S1024x1024 .bf16) (x4 : Vec Ideal S4x1024 .f32)
    (x5 : Vec Ideal S1024x4096 .bf16) (x6 : Vec Ideal S4096x1024 .bf16) (r : Fin 512) (e : Fin 1024) :
    out0_7 (F := Ideal) i x0 x1 x2 x3 x4 x5 x6 (ix2 r e)
      = row (fun k : Fin 1024 => x0 (ix2 r k)) (fun j => if (i 0).val < 32 then x1 (ix2 r j) else x2 (ix2 r j)) (fun k j => x3 (ix2 k j)) (fun i j => x4 (ix2 i j))
          (fun k c => x5 (ix2 k c)) (fun c j => x6 (ix2 c j)) e := by
  refine ((congrFun (out_eq i x0 x1 x2 x3 x4 x5 x6) _).trans (Cert.PromptIdeal.Val.OUT_apply _ _ _ _ _ r e _ _ fun j => PROJ_apply x0 x3 r j)).trans ?_
  rw [RES_of]
  split <;> rfl

end Cert.AttnOutIdeal.Val

end
-- ==== Proof.AttnOutArray.lean ====
/-
  What the call at the end of an attention layer leaves in its result array. The residual stream is still held in two
  arrays there, the first sequence and the others.
-/
module

public import proofs.«01_k».proof.Proof.AttnOutPart

@[expose] public section

set_option maxRecDepth 16384

noncomputable section

namespace Cert.AttnOutIdeal.Val

open Cert.AttnOutIdeal Cert.AttnOutIdeal.Gen Idealize.ShloMosaic Idealize.ShloMosaic.TcCoe Idealize.SL.Sem
open Idealize.ShloMosaic.Pipeline (Dat)
open Cert.Tail

variable (m : (ℓ : Loc nD τ sig) → Buf (Elt Ideal) ℓ)

/-- Which block each window reads or writes at a grid point. -/
theorem idx : ∀ t : Fin cfg0.N, win0_0.index t = ![t.val, 0] ∧ win0_1.index t = ![min t.val 31, 0] ∧ win0_2.index t = ![t.val - 32, 0]
    ∧ win0_3.index t = ![0, 0] ∧ win0_4.index t = ![0, 0] ∧ win0_5.index t = ![0, 0] ∧ win0_6.index t = ![0, 0] ∧ win0_7.index t = ![t.val, 0] :=
  (by decide +kernel : ∀ t : Fin grid0.N, _)

theorem coord : ∀ t : Fin cfg0.N, ((grid0.coords t) 0).val = t.val := (by decide +kernel : ∀ t : Fin grid0.N, _)

theorem t_lt (t : Fin cfg0.N) : t.val < 96 := t.isLt

/-- The arguments as arrays of extended reals. -/
def mA (c : Dev nD) : S49152x1024.Idx → EReal := m ((c : Thread nD τ).loc main_arg0)
def pA (c : Dev nD) : S16384x1024.Idx → EReal := m ((c : Thread nD τ).loc main_arg1)
def sA (c : Dev nD) : S32768x1024.Idx → EReal := m ((c : Thread nD τ).loc main_arg2)
def oA (c : Dev nD) : S1024x1024.Idx → EReal := m ((c : Thread nD τ).loc main_arg3)
def gA (c : Dev nD) : S4x1024.Idx → EReal := m ((c : Thread nD τ).loc main_arg4)
def uA (c : Dev nD) : S1024x4096.Idx → EReal := m ((c : Thread nD τ).loc main_arg5)
def dA (c : Dev nD) : S4096x1024.Idx → EReal := m ((c : Thread nD τ).loc main_arg6)

/-- The residual's row `n`. -/
def res (c : Dev nD) (n : Fin 49152) (j : Fin 1024) : EReal :=
  if h : n.val < 16384 then pA m c (ix2 ⟨n.val, h⟩ j) else sA m c (ix2 ⟨n.val - 16384, by omega⟩ j)

/-- The narrowed weights hold the weights. -/
theorem V_0 (c : Dev nD) : (V m c main_v0 : S1024x1024.Idx → EReal) = oA m c := by
  dsimp only [V, hostOps0, List.flatten_cons, List.flatten_nil, List.append_nil, List.cons_append, List.nil_append]
  after_results_simp
  rfl
theorem V_1 (c : Dev nD) : (V m c main_v1 : S1024x4096.Idx → EReal) = uA m c := by
  dsimp only [V, hostOps0, List.flatten_cons, List.flatten_nil, List.append_nil, List.cons_append, List.nil_append]
  after_results_simp
  rfl
theorem V_2 (c : Dev nD) : (V m c main_v2 : S4096x1024.Idx → EReal) = dA m c := by
  dsimp only [V, hostOps0, List.flatten_cons, List.flatten_nil, List.append_nil, List.cons_append, List.nil_append]
  after_results_simp
  rfl

theorem m_at (c : Dev nD) (t : Fin cfg0.N) (r : Fin 512) (k : Fin 1024) :
    (iblk m c 0 t : S512x1024.Idx → EReal) (ix2 r k) = mA m c (ix2 ⟨t.val * 512 + r.val, by have := t_lt t; omega⟩ k) := by
  obtain ⟨i0, -⟩ := idx t
  unfold mA
  rw [← V_main_arg0 m c]
  unfold iblk
  refine congrArg (V m c main_arg0) ?_
  blk_ext [i0]

theorem p_at (c : Dev nD) (t : Fin cfg0.N) (r : Fin 512) (k : Fin 1024) :
    (iblk m c 1 t : S512x1024.Idx → EReal) (ix2 r k) = pA m c (ix2 ⟨min t.val 31 * 512 + r.val, by omega⟩ k) := by
  obtain ⟨-, i1, -⟩ := idx t
  unfold pA
  rw [← V_main_arg1 m c]
  unfold iblk
  refine congrArg (V m c main_arg1) ?_
  blk_ext [i1]

theorem s_at (c : Dev nD) (t : Fin cfg0.N) (r : Fin 512) (k : Fin 1024) :
    (iblk m c 2 t : S512x1024.Idx → EReal) (ix2 r k) = sA m c (ix2 ⟨(t.val - 32) * 512 + r.val, by have := t_lt t; omega⟩ k) := by
  obtain ⟨-, -, i2, -⟩ := idx t
  unfold sA
  rw [← V_main_arg2 m c]
  unfold iblk
  refine congrArg (V m c main_arg2) ?_
  blk_ext [i2]

theorem x_at (c : Dev nD) (t : Fin cfg0.N) (r : Fin 512) (j : Fin 1024) :
    (if t.val < 32 then (iblk m c 1 t : S512x1024.Idx → EReal) (ix2 r j) else (iblk m c 2 t : S512x1024.Idx → EReal) (ix2 r j))
      = res m c ⟨t.val * 512 + r.val, by have := t_lt t; omega⟩ j := by
  have := r.isLt
  unfold res
  by_cases h : t.val < 32
  · rw [if_pos h, dif_pos (by simp only; omega), p_at]
    exact congrArg (fun n => pA m c (ix2 n j)) (Fin.ext (by show min t.val 31 * 512 + r.val = t.val * 512 + r.val; omega))
  · rw [if_neg h, dif_neg (by simp only; omega), s_at]
    exact congrArg (fun n => sA m c (ix2 n j)) (Fin.ext (by show (t.val - 32) * 512 + r.val = t.val * 512 + r.val - 16384; omega))

theorem o_at (c : Dev nD) (t : Fin cfg0.N) (r : Fin 1024) (k : Fin 1024) : (iblk m c 3 t : S1024x1024.Idx → EReal) (ix2 r k) = oA m c (ix2 r k) := by
  obtain ⟨-, -, -, i3, -⟩ := idx t
  rw [← V_0 m c]
  unfold iblk
  refine congrArg (V m c main_v0) ?_
  blk_ext [i3]

theorem g_at (c : Dev nD) (t : Fin cfg0.N) (r : Fin 4) (k : Fin 1024) : (iblk m c 4 t : S4x1024.Idx → EReal) (ix2 r k) = gA m c (ix2 r k) := by
  obtain ⟨-, -, -, -, i4, -⟩ := idx t
  unfold gA
  rw [← V_main_arg4 m c]
  unfold iblk
  refine congrArg (V m c main_arg4) ?_
  blk_ext [i4]

theorem u_at (c : Dev nD) (t : Fin cfg0.N) (r : Fin 1024) (k : Fin 4096) : (iblk m c 5 t : S1024x4096.Idx → EReal) (ix2 r k) = uA m c (ix2 r k) := by
  obtain ⟨-, -, -, -, -, i5, -⟩ := idx t
  rw [← V_1 m c]
  unfold iblk
  refine congrArg (V m c main_v1) ?_
  blk_ext [i5]

theorem d_at (c : Dev nD) (t : Fin cfg0.N) (r : Fin 4096) (k : Fin 1024) : (iblk m c 6 t : S4096x1024.Idx → EReal) (ix2 r k) = dA m c (ix2 r k) := by
  obtain ⟨-, -, -, -, -, -, i6, -⟩ := idx t
  rw [← V_2 m c]
  unfold iblk
  refine congrArg (V m c main_v2) ?_
  blk_ext [i6]

/-- The layer's row for token `n`. -/
def layer (c : Dev nD) (n : Fin 49152) (e : Fin 1024) : EReal :=
  row (fun k : Fin 1024 => mA m c (ix2 n k)) (res m c n) (fun k j => oA m c (ix2 k j))
    (fun i j => gA m c (ix2 i j)) (fun k h => uA m c (ix2 k h)) (fun h j => dA m c (ix2 h j)) e

/-- The layer's output as an array. -/
def out (c : Dev nD) : S49152x1024.Idx → EReal := fun i => layer m c (i 0) (i 1)

theorem out_congr (c : Dev nD) (i : S49152x1024.Idx) (n : Fin 49152) (e : Fin 1024) (h0 : (i 0).val = n.val) (h1 : (i 1).val = e.val) :
    out m c i = layer m c n e := by
  have e0 : i 0 = n := Fin.ext h0
  have e1 : i 1 = e := Fin.ext h1
  unfold out
  rw [e0, e1]

/-- The array index that block element `y` of grid point `t` lands on. -/
theorem emb_0 (t : Fin cfg0.N) (y : S512x1024.Idx) : (((cfg0.win 7).blk t).view.emb y 0).val = t.val * 512 + (y 0).val := by
  obtain ⟨-, -, -, -, -, -, -, i7⟩ := idx t
  blk_simp [i7]

theorem emb_1 (t : Fin cfg0.N) (y : S512x1024.Idx) : (((cfg0.win 7).blk t).view.emb y 1).val = (y 1).val := by
  obtain ⟨-, -, -, -, -, -, -, i7⟩ := idx t
  blk_simp [i7]

/-- One element of the block of grid point `t`. -/
theorem block_eq (c : Dev nD) (t : Fin cfg0.N) (r : Fin 512) (e : Fin 1024) :
    out0_7 (F := Ideal) (grid0.coords t) (iblk m c 0 t) (iblk m c 1 t) (iblk m c 2 t) (iblk m c 3 t) (iblk m c 4 t) (iblk m c 5 t) (iblk m c 6 t) (ix2 r e)
      = layer m c ⟨t.val * 512 + r.val, by have := t_lt t; omega⟩ e := by
  refine (out_apply _ _ _ _ _ _ _ _ r e).trans ?_
  unfold layer
  rw [coord]
  congr 1
  · exact funext fun k => m_at m c t r k
  · exact funext fun k => x_at m c t r k
  · exact funext fun k => funext fun j => o_at m c t k j
  · exact funext fun k => funext fun j => g_at m c t k j
  · exact funext fun k => funext fun j => u_at m c t k j
  · exact funext fun k => funext fun j => d_at m c t k j

theorem block_at (c : Dev nD) (t : Fin cfg0.N) (y : S512x1024.Idx) :
    out0_7 (F := Ideal) (grid0.coords t) (iblk m c 0 t) (iblk m c 1 t) (iblk m c 2 t) (iblk m c 3 t) (iblk m c 4 t) (iblk m c 5 t) (iblk m c 6 t) y
      = out m c (((cfg0.win 7).blk t).view.emb y) := by
  obtain ⟨r, e, rfl⟩ : ∃ r e, y = ix2 r e := ⟨y 0, y 1, funext fun a => match a with | ⟨0, _⟩ => rfl | ⟨1, _⟩ => rfl⟩
  exact (block_eq m c t r e).trans (out_congr m c _ ⟨t.val * 512 + r.val, by have := t_lt t; omega⟩ e (emb_0 t (ix2 r e)) (emb_1 t (ix2 r e))).symm

/-- The kernel's result array. -/
theorem array_eq (c : Dev nD) : (dats m 0 c).arrAt 7 cfg0.N = out m c := by
  refine Dat.arrAt_eq_of_covers _ 7 _ (by decide +kernel) fun t hf y => ?_
  blk_simp
  rw [after0_7]
  exact block_at m c t y

end Cert.AttnOutIdeal.Val

end
-- ==== Proof.AttnOutRef.lean ====
/-
  The reference for the end of an attention layer at an index is the end of the layer for that token.
-/
module

public import Idealize.ShloMosaic.Lib.Pointwise
public import proofs.«01_k».proof.Proof.TailSpec
public import proofs.«01_k».proof.Proof.Gen.AttnOutRefIdeal.Read

@[expose] public section

set_option maxRecDepth 16384

noncomputable section

namespace Cert.AttnOutRefIdeal.Val

open Cert.AttnOutRefIdeal Cert.AttnOutRefIdeal.Gen Idealize.ShloMosaic Idealize.ShloMosaic.TcCoe Idealize.SL.Sem
open Cert.Tail
open Cert.AttnOutRefIdeal.Read

variable (x0 : FVec Ideal S49152x1024 .bf16) (x1 : FVec Ideal S16384x1024 .f32) (x2 : FVec Ideal S32768x1024 .f32) (x3 : FVec Ideal S1024x1024 .f32)
  (x4 : FVec Ideal S4x1024 .f32) (x5 : FVec Ideal S1024x4096 .f32) (x6 : FVec Ideal S4096x1024 .f32)

/-- The residual's row `n`. -/
def res (n : Fin 49152) (j : Fin 1024) : EReal :=
  if h : n.val < 16384 then x1 (ix2 ⟨n.val, h⟩ j) else x2 (ix2 ⟨n.val - 16384, by omega⟩ j)

/-- The norm of every row, as the reference writes it. -/
def NORM (P : FVec Ideal S49152x1024 .f32) (w : FVec Ideal S1x1024 .f32) : FVec Ideal S49152x1024 .f32 :=
  mulf (mulf P (broadcastInDim S49152x1024 ![0, 1] bcast_S49152x1_S49152x1024_0_1 (Host.rsqrt (addf (Host.divf
    (broadcastInDim S49152x1 ![0] bcast_S49152_S49152x1_0 (Host.reduceAdd (mulf P P) (val_main_cst (F := Ideal)) reducesTo_S49152x1024_S49152_d1 h_S_))
    (val_main_v8 (F := Ideal))) (val_main_v10 (F := Ideal))))))
    (broadcastInDim S49152x1024 ![0, 1] bcast_S1x1024_S49152x1024_0_1 (broadcastInDim S1x1024 ![1] bcast_S1024_S1x1024_1 (shapeCast _ w shapeCasts_S1x1024_S1024)))

theorem NORM_apply (P : FVec Ideal S49152x1024 .f32) (w : FVec Ideal S1x1024 .f32) (n : Fin 49152) (e : Fin 1024) :
    NORM P w (ix2 n e) = rms (fun j => P (ix2 n j)) (fun j => w (ix2 0 j)) e := by
  pointwise [NORM, val_main_v8, val_main_v10, val_main_cst, val_main_cst_0, val_main_cst_1]
  rfl

theorem v0 (n : Fin 49152) (j : Fin 1024) : val_main_v0 (F := Ideal) x1 x2 (ix2 n j) = res x1 x2 n j := by
  pointwise [val_main_v0]
  rfl

theorem v2 (n : Fin 49152) (j : Fin 1024) : val_main_v2 (F := Ideal) x0 x3 (ix2 n j) = ∑ k : Fin 1024, (x0 (ix2 n k) : EReal) * x3 (ix2 k j) := by
  unfold val_main_v2 val_main_v1
  pointwise

theorem gain1 (j : Fin 1024) : val_main_v3 (F := Ideal) x4 (ix2 0 j) = x4 (ix2 1 j) := by pointwise [val_main_v3]
theorem gain2 (j : Fin 1024) : val_main_v19 (F := Ideal) x4 (ix2 0 j) = x4 (ix2 2 j) := by pointwise [val_main_v19]
theorem gain3 (j : Fin 1024) : val_main_v38 (F := Ideal) x4 (ix2 0 j) = x4 (ix2 3 j) := by pointwise [val_main_v38]

theorem v17 : val_main_v17 (F := Ideal) x0 x3 x4 = NORM (val_main_v2 (F := Ideal) x0 x3) (val_main_v3 (F := Ideal) x4) := rfl
theorem v33 : val_main_v33 (F := Ideal) x0 x1 x2 x3 x4 = NORM (val_main_v18 (F := Ideal) x0 x1 x2 x3 x4) (val_main_v19 (F := Ideal) x4) := rfl
theorem v52 : val_main_v52 (F := Ideal) x0 x1 x2 x3 x4 x5 x6 = NORM (val_main_v37 (F := Ideal) x0 x1 x2 x3 x4 x5 x6) (val_main_v38 (F := Ideal) x4) := rfl

theorem v36 (n : Fin 49152) (c : Fin 4096) : val_main_v36 (F := Ideal) x0 x1 x2 x3 x4 x5 (ix2 n c)
    = hidden (fun k => val_main_v33 (F := Ideal) x0 x1 x2 x3 x4 (ix2 n k)) (fun k => x5 (ix2 k c)) := by
  unfold val_main_v36 val_main_v35 val_main_v34
  generalize val_main_v33 (F := Ideal) x0 x1 x2 x3 x4 = H
  pointwise [val_main_call0_v0, val_main_call0_cst]
  rfl

theorem v37 (n : Fin 49152) (j : Fin 1024) : val_main_v37 (F := Ideal) x0 x1 x2 x3 x4 x5 x6 (ix2 n j)
    = mlp (fun k => val_main_v33 (F := Ideal) x0 x1 x2 x3 x4 (ix2 n k)) (fun k c => x5 (ix2 k c)) (fun c j => x6 (ix2 c j)) j := by
  have h := v36 x0 x1 x2 x3 x4 x5 n
  unfold val_main_v37
  generalize val_main_v36 (F := Ideal) x0 x1 x2 x3 x4 x5 = U at *
  pointwise
  exact Finset.sum_congr rfl fun c _ => congrArg (· * _) (h c)

theorem result_eq (n : Fin 49152) (e : Fin 1024) : val_main_v53 (F := Ideal) x0 x1 x2 x3 x4 x5 x6 (ix2 n e)
    = row (fun k : Fin 1024 => x0 (ix2 n k)) (res x1 x2 n) (fun k j => x3 (ix2 k j))
        (fun i j => x4 (ix2 i j)) (fun k h => x5 (ix2 k h)) (fun h j => x6 (ix2 h j)) e := by
  have hm (j : Fin 1024) : val_main_v18 (F := Ideal) x0 x1 x2 x3 x4 (ix2 n j)
      = res x1 x2 n j + rms (fun j => val_main_v2 (F := Ideal) x0 x3 (ix2 n j)) (fun j => x4 (ix2 1 j)) j := by
    rw [val_main_v18_apply, v17, NORM_apply, v0, funext (gain1 x4)]
    rfl
  have hh (j : Fin 1024) : val_main_v33 (F := Ideal) x0 x1 x2 x3 x4 (ix2 n j)
      = rms (fun j => val_main_v18 (F := Ideal) x0 x1 x2 x3 x4 (ix2 n j)) (fun j => x4 (ix2 2 j)) j := by
    rw [v33, NORM_apply, funext (gain2 x4)]
  rw [val_main_v53_apply, v52, NORM_apply, funext (gain3 x4)]
  exact row_of _ _ _ (fun i j => x4 (ix2 i j)) _ _ _ (fun j => val_main_v18 (F := Ideal) x0 x1 x2 x3 x4 (ix2 n j)) _ _
    (v2 x0 x3 n) hm hh (v37 x0 x1 x2 x3 x4 x5 x6 n) e

end Cert.AttnOutRefIdeal.Val

end
-- ==== Proof.lean ====
/- The certificate: the programs' side conditions, their frames, and the equation between the windowed attention of the
   kernel and of the reference, assembled from the modules under Proof/. -/
module

public import proofs.«01_k».proof.Proof.Gen.KernelIdeal.Value
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.PromptIdeal.Value
public import proofs.«01_k».proof.Proof.Gen.PromptRefIdeal
public import proofs.«01_k».proof.Proof.Gen.PromptRefIdeal.Read
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleIdeal.Value
public import proofs.«01_k».proof.Proof.Gen.SampleRefIdeal
public import proofs.«01_k».proof.Proof.Gen.SampleRefIdeal.Read
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutIdeal.Value
public import proofs.«01_k».proof.Proof.Gen.AttnOutRefIdeal
public import proofs.«01_k».proof.Proof.Gen.AttnOutRefIdeal.Read
public import proofs.«01_k».proof.Proof.Gen.AttnIn
public import proofs.«01_k».proof.Proof.Gen.AttnIn.Skeleton
public import proofs.«01_k».proof.Proof.Gen.AttnIn.Launch
public import proofs.«01_k».proof.Proof.Gen.AttnIn.Points
public import proofs.«01_k».proof.Proof.Gen.AttnIn.Frame
public import proofs.«01_k».proof.Proof.Gen.AttnInIdeal
public import proofs.«01_k».proof.Proof.Gen.AttnInIdeal.Skeleton
public import proofs.«01_k».proof.Proof.Gen.AttnInIdeal.Launch
public import proofs.«01_k».proof.Proof.Gen.AttnInIdeal.Points
public import proofs.«01_k».proof.Proof.Gen.AttnInIdeal.Frame
public import proofs.«01_k».proof.Proof.Gen.AttnInIdeal.Value
public import proofs.«01_k».proof.Proof.Gen.AttnInRefIdeal
public import proofs.«01_k».proof.Proof.Gen.AttnInRefIdeal.Read
public import proofs.«01_k».proof.Proof.Gen.GdnIn
public import proofs.«01_k».proof.Proof.Gen.GdnIn.Skeleton
public import proofs.«01_k».proof.Proof.Gen.GdnIn.Launch
public import proofs.«01_k».proof.Proof.Gen.GdnIn.Points
public import proofs.«01_k».proof.Proof.Gen.GdnIn.Frame
public import proofs.«01_k».proof.Proof.Gen.GdnInIdeal
public import proofs.«01_k».proof.Proof.Gen.GdnInIdeal.Skeleton
public import proofs.«01_k».proof.Proof.Gen.GdnInIdeal.Launch
public import proofs.«01_k».proof.Proof.Gen.GdnInIdeal.Points
public import proofs.«01_k».proof.Proof.Gen.GdnInIdeal.Frame
public import proofs.«01_k».proof.Proof.Gen.GdnInIdeal.Value
public import proofs.«01_k».proof.Proof.Gen.GdnInRefIdeal
public import proofs.«01_k».proof.Proof.Gen.GdnInRefIdeal.Read
public import proofs.«01_k».proof.Proof.AttnInArray
public import proofs.«01_k».proof.Proof.AttnInRef
public import proofs.«01_k».proof.Proof.GdnInArray
public import proofs.«01_k».proof.Proof.GdnInRef
public import proofs.«01_k».proof.Proof.Array
public import proofs.«01_k».proof.Proof.RefRow
public import proofs.«01_k».proof.Proof.Finite
public import proofs.«01_k».proof.Proof.PromptArray
public import proofs.«01_k».proof.Proof.PromptRef
public import proofs.«01_k».proof.Proof.SampleArray
public import proofs.«01_k».proof.Proof.SampleRef
public import proofs.«01_k».proof.Proof.AttnOutArray
public import proofs.«01_k».proof.Proof.AttnOutRef
public import Idealize.ShloMosaic.Adequacy
public import Idealize.ShloMosaic.Init

@[expose] public section

noncomputable section

namespace Cert.Proof

open Idealize.ShloMosaic Idealize.SL.Sem

instance : Cert.Pre_finite.Facts := Cert.Pre_finite.facts

/-- The reference is one list of host operations: its run ends with the arguments as they were, and it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The windowed attention of the kernel is the reference's, element by element. -/
theorem attention_claim : Cert.algebraic_KernelIdeal_ReferenceIdeal_pre_finite := by
  intro m g m' g' hpre hagree
  have hf := fun c => Cert.Pre_finite.fn_finite _ _ _ _ (hpre c)
  refine ⟨fun c => Cert.KernelIdeal.Val.attn m c, ?_, ?_⟩
  · exact (θ_run _ _ _).mono (fun r h c => ⟨(h c).1.trans (Cert.KernelIdeal.Val.array_eq m c (hf c).1 (hf c).2.1 (hf c).2.2), (h c).2⟩)
      (Cert.KernelIdeal.Value.run_blocks (F := Ideal) m g)
  · refine (θ_run _ _ _).mono (fun r h c => ⟨(h c).1.trans ?_, (h c).2⟩) (Cert.ReferenceIdeal.Value.run (F := Ideal) m' g')
    rw [Cert.ReferenceIdeal.Read.val_main_v76_eq, (hagree c).1, (hagree c).2.1, (hagree c).2.2.1, (hagree c).2.2.2]
    funext i
    obtain ⟨n, e, rfl⟩ : ∃ n e, i = ix2 n e := ⟨i 0, i 1, funext fun a => match a with | ⟨0, _⟩ => rfl | ⟨1, _⟩ => rfl⟩
    exact Cert.ReferenceIdeal.Val.result_eq _ _ _ _ (hf c).1 (hf c).2.1 (hf c).2.2 n e

/-- A reference with no call has no semaphore, so a run that leaves the arguments alone is a quiescent one. -/
theorem frame_prompt_reference : Cert.quiescent_PromptRefIdeal := fun m g _ =>
  (θ_run Cert.PromptRefIdeal.defs _ _).mono (fun r h => ⟨fun c => (h c).2, sem_eq_zero_of_no_sems (by decide) r.2⟩)
    (Cert.PromptRefIdeal.Value.run (F := Ideal) m g)

theorem frame_sample_reference : Cert.quiescent_SampleRefIdeal := fun m g _ =>
  (θ_run Cert.SampleRefIdeal.defs _ _).mono (fun r h => ⟨fun c => (h c).2, sem_eq_zero_of_no_sems (by decide) r.2⟩)
    (Cert.SampleRefIdeal.Value.run (F := Ideal) m g)

theorem frame_attention_out_reference : Cert.quiescent_AttnOutRefIdeal := fun m g _ =>
  (θ_run Cert.AttnOutRefIdeal.defs _ _).mono (fun r h => ⟨fun c => (h c).2, sem_eq_zero_of_no_sems (by decide) r.2⟩)
    (Cert.AttnOutRefIdeal.Value.run (F := Ideal) m g)

theorem frame_attention_in_reference : Cert.quiescent_AttnInRefIdeal := fun m g _ =>
  (θ_run Cert.AttnInRefIdeal.defs _ _).mono (fun r h => ⟨fun c => (h c).2.2.2, sem_eq_zero_of_no_sems (by decide) r.2⟩)
    (Cert.AttnInRefIdeal.Value.run (F := Ideal) m g)

theorem frame_gated_in_reference : Cert.quiescent_GdnInRefIdeal := fun m g _ =>
  (θ_run Cert.GdnInRefIdeal.defs _ _).mono (fun r h => ⟨fun c => (h c).2.2.2.2.2, sem_eq_zero_of_no_sems (by decide) r.2⟩)
    (Cert.GdnInRefIdeal.Value.run (F := Ideal) m g)

/-- Two arrays with the same entries are the same. -/
theorem ext2 {n w : Nat} {α : Type} {f g : (⟨2, ![n, w]⟩ : Shape).Idx → α} (h : ∀ r e, f (ix2 r e) = g (ix2 r e)) : f = g := by
  funext i
  obtain ⟨r, e, rfl⟩ : ∃ r e, i = ix2 r e := ⟨i 0, i 1, funext fun a => match a with | ⟨0, _⟩ => rfl | ⟨1, _⟩ => rfl⟩
  exact h r e

theorem ext3 {n k w : Nat} {α : Type} {f g : (⟨3, ![n, k, w]⟩ : Shape).Idx → α} (h : ∀ s r e, f (ix3 s r e) = g (ix3 s r e)) : f = g := by
  funext i
  obtain ⟨s, r, e, rfl⟩ : ∃ s r e, i = ix3 s r e := ⟨i 0, i 1, i 2, funext fun a => match a with | ⟨0, _⟩ => rfl | ⟨1, _⟩ => rfl | ⟨2, _⟩ => rfl⟩
  exact h s r e

/-- The end of the last layer on the first sequence: `y_prompt`. -/
theorem prompt_claim : Cert.algebraic_PromptIdeal_PromptRefIdeal := by
  intro m g m' g' _ hagree
  refine ⟨fun c => Cert.PromptIdeal.Val.out m c, ?_, ?_⟩
  · exact (θ_run _ _ _).mono (fun r h c => ⟨(h c).1.trans (Cert.PromptIdeal.Val.array_eq m c), (h c).2⟩)
      (Cert.PromptIdeal.Value.run_blocks (F := Ideal) m g)
  · refine (θ_run _ _ _).mono (fun r h c => ⟨(h c).1.trans ?_, (h c).2⟩) (Cert.PromptRefIdeal.Value.run (F := Ideal) m' g')
    obtain ⟨h0, h1, h2, h3, h4, h5⟩ := hagree c
    rw [Cert.PromptRefIdeal.Read.val_main_v54_eq, h0, h1, h2, h3, h4, h5]
    exact ext2 (Cert.PromptRefIdeal.Val.result_eq _ _ _ _ _ _)

/-- The end of the last layer on the other sequences: `y_sample`. -/
theorem sample_claim : Cert.algebraic_SampleIdeal_SampleRefIdeal := by
  intro m g m' g' _ hagree
  refine ⟨fun c => Cert.SampleIdeal.Val.out m c, ?_, ?_⟩
  · exact (θ_run _ _ _).mono (fun r h c => ⟨(h c).1.trans (Cert.SampleIdeal.Val.array_eq m c), (h c).2⟩)
      (Cert.SampleIdeal.Value.run_blocks (F := Ideal) m g)
  · refine (θ_run _ _ _).mono (fun r h c => ⟨(h c).1.trans ?_, (h c).2⟩) (Cert.SampleRefIdeal.Value.run (F := Ideal) m' g')
    obtain ⟨h0, h1, h2, h3, h4, h5⟩ := hagree c
    rw [Cert.SampleRefIdeal.Read.val_main_v54_eq, h0, h1, h2, h3, h4, h5]
    exact ext2 (Cert.SampleRefIdeal.Val.result_eq _ _ _ _ _ _)

/-- The end of an attention layer on all sequences. -/
theorem attention_out_claim : Cert.algebraic_AttnOutIdeal_AttnOutRefIdeal := by
  intro m g m' g' _ hagree
  refine ⟨fun c => Cert.AttnOutIdeal.Val.out m c, ?_, ?_⟩
  · exact (θ_run _ _ _).mono (fun r h c => ⟨(h c).1.trans (Cert.AttnOutIdeal.Val.array_eq m c), (h c).2⟩)
      (Cert.AttnOutIdeal.Value.run_blocks (F := Ideal) m g)
  · refine (θ_run _ _ _).mono (fun r h c => ⟨(h c).1.trans ?_, (h c).2⟩) (Cert.AttnOutRefIdeal.Value.run (F := Ideal) m' g')
    obtain ⟨h0, h1, h2, h3, h4, h5, h6⟩ := hagree c
    rw [Cert.AttnOutRefIdeal.Read.val_main_v53_eq, h0, h1, h2, h3, h4, h5, h6]
    exact ext2 (Cert.AttnOutRefIdeal.Val.result_eq _ _ _ _ _ _ _)

/-- The start of an attention layer on all sequences: the queries, the keys and the values. -/
theorem attention_in_claim : Cert.algebraic_AttnInIdeal_AttnInRefIdeal := by
  intro m g m' g' _ hagree
  refine ⟨fun c => Cert.AttnInIdeal.Val.outQ m c, fun c => Cert.AttnInIdeal.Val.outK m c, fun c => Cert.AttnInIdeal.Val.outV m c, ?_, ?_⟩
  · exact (θ_run _ _ _).mono (fun r h c => ⟨(h c).1.trans (Cert.AttnInIdeal.Val.q_eq m c), (h c).2.1.trans (Cert.AttnInIdeal.Val.k_eq m c),
      (h c).2.2.1.trans (Cert.AttnInIdeal.Val.v_eq m c), (h c).2.2.2⟩) (Cert.AttnInIdeal.Value.run_blocks (F := Ideal) m g)
  · refine (θ_run _ _ _).mono (fun r h c => ⟨(h c).1.trans ?_, (h c).2.1.trans ?_, (h c).2.2.1.trans ?_, (h c).2.2.2⟩) (Cert.AttnInRefIdeal.Value.run (F := Ideal) m' g')
    all_goals obtain ⟨h0, h1, h2, h3⟩ := hagree c
    · rw [Cert.AttnInRefIdeal.Read.val_main_v91_eq, h0, h1, h2, h3]
      exact ext2 (Cert.AttnInRefIdeal.Val.q_eq _ _ _ _)
    · rw [Cert.AttnInRefIdeal.Read.val_main_v93_eq, h0, h1, h2, h3]
      exact ext2 (Cert.AttnInRefIdeal.Val.k_eq _ _ _ _)
    · rw [Cert.AttnInRefIdeal.Read.val_main_v95_eq, h0, h1, h2, h3]
      exact ext2 (Cert.AttnInRefIdeal.Val.v_eq _ _ _ _)

/-- The start of a gated layer on all sequences: the queries, the keys twice, the values and the output gate. -/
theorem gated_in_claim : Cert.algebraic_GdnInIdeal_GdnInRefIdeal := by
  intro m g m' g' _ hagree
  refine ⟨fun c => Cert.GdnInIdeal.Val.outQ m c, fun c => Cert.GdnInIdeal.Val.outK m c, fun c => Cert.GdnInIdeal.Val.outT m c, fun c => Cert.GdnInIdeal.Val.outV m c,
    fun c => Cert.GdnInIdeal.Val.outZ m c, ?_, ?_⟩
  · exact (θ_run _ _ _).mono (fun r h c => ⟨(h c).1.trans (Cert.GdnInIdeal.Val.q_eq m c), (h c).2.1.trans (Cert.GdnInIdeal.Val.k_eq m c),
      (h c).2.2.1.trans (Cert.GdnInIdeal.Val.t_eq m c), (h c).2.2.2.1.trans (Cert.GdnInIdeal.Val.v_eq m c), (h c).2.2.2.2.1.trans (Cert.GdnInIdeal.Val.z_eq m c),
      (h c).2.2.2.2.2.2.2⟩) (Cert.GdnInIdeal.Value.run_blocks (F := Ideal) m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2⟩)
      (Cert.GdnInRefIdeal.Value.run (F := Ideal) m' g')
    all_goals obtain ⟨h0, h1, h2, h3, -⟩ := hagree c
    · rw [Cert.GdnInRefIdeal.Read.val_main_v81_eq, h0, h1, h2, h3]
      exact ext2 (Cert.GdnInRefIdeal.Val.q_eq _ _ _ _)
    · rw [Cert.GdnInRefIdeal.Read.val_main_v83_eq, h0, h1, h2, h3]
      exact ext2 (Cert.GdnInRefIdeal.Val.k_eq _ _ _ _)
    · rw [Cert.GdnInRefIdeal.Read.val_main_v85_eq, h0, h1, h2, h3]
      exact ext3 (Cert.GdnInRefIdeal.Val.t_eq _ _ _ _)
    · rw [Cert.GdnInRefIdeal.Read.val_main_v87_eq, h0, h1, h2, h3]
      exact ext2 (Cert.GdnInRefIdeal.Val.v_eq _ _ _ _)
    · refine (Cert.GdnInRefIdeal.Read.val_main_v89_eq _ _ _).trans ?_
      rw [h0, h1, h2]
      exact ext2 (Cert.GdnInRefIdeal.Val.z_eq _ _ _)

theorem claim : Cert.Claim :=
  ⟨Cert.Kernel.Gen.facts, Cert.KernelIdeal.Gen.facts, Cert.ReferenceIdeal.Gen.facts,
    Cert.Prompt.Gen.facts, Cert.PromptIdeal.Gen.facts, Cert.PromptRefIdeal.Gen.facts,
    Cert.Sample.Gen.facts, Cert.SampleIdeal.Gen.facts, Cert.SampleRefIdeal.Gen.facts,
    Cert.AttnOut.Gen.facts, Cert.AttnOutIdeal.Gen.facts, Cert.AttnOutRefIdeal.Gen.facts,
    Cert.AttnIn.Gen.facts, Cert.AttnInIdeal.Gen.facts, Cert.AttnInRefIdeal.Gen.facts,
    Cert.GdnIn.Gen.facts, Cert.GdnInIdeal.Gen.facts, Cert.GdnInRefIdeal.Gen.facts, Cert.Pre_finite.facts,
    fun m g _ => Cert.Kernel.Gen.frame m g, fun m g _ => Cert.KernelIdeal.Gen.frame m g, fun m g _ => Cert.KernelIdeal.Gen.frame m g,
    fun m g _ => frame_reference m g, fun m g _ => frame_reference m g,
    fun m g _ => Cert.Prompt.Gen.frame m g, fun m g _ => Cert.PromptIdeal.Gen.frame m g, frame_prompt_reference,
    fun m g _ => Cert.Sample.Gen.frame m g, fun m g _ => Cert.SampleIdeal.Gen.frame m g, frame_sample_reference,
    fun m g _ => Cert.AttnOut.Gen.frame m g, fun m g _ => Cert.AttnOutIdeal.Gen.frame m g, frame_attention_out_reference,
    fun m g _ => Cert.AttnIn.Gen.frame m g, fun m g _ => Cert.AttnInIdeal.Gen.frame m g, frame_attention_in_reference,
    fun m g _ => Cert.GdnIn.Gen.frame m g, fun m g _ => Cert.GdnInIdeal.Gen.frame m g, frame_gated_in_reference,
    trivial, attention_claim, trivial, prompt_claim, trivial, sample_claim, trivial, attention_out_claim, trivial, attention_in_claim, trivial, gated_in_claim⟩

end Cert.Proof

end
